-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v33_1)) (v1 : (c : Dev Cert.Kernel5Ideal.nD) → Buf (Elt Ideal) ((c.tc : Thread Cert.Kernel5Ideal.nD Cert.Kernel5Ideal.τ).loc Cert.Kernel5Ideal.main_v33_5)) (v2 : (c : Dev Cert.Kernel5Ideal.nD) → Buf (Elt Ideal) ((c.tc : Thread Cert.Kernel5Ideal.nD Cert.Kernel5Ideal.τ).loc Cert.Kernel5Ideal.main_v33_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_1) = v0 c
          ∧ r.2.mem ((c.tc : Thread Cert.Kernel5Ideal.nD Cert.Kernel5Ideal.τ).loc Cert.Kernel5Ideal.main_v33_5) = v1 c
          ∧ r.2.mem ((c.tc : Thread Cert.Kernel5Ideal.nD Cert.Kernel5Ideal.τ).loc Cert.Kernel5Ideal.main_v33_6) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_v33) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x4096x1792 : Shape := ⟨3, ![8, 4096, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩

class Facts : Prop where
  bcast_S_S8x4096x1792 : S_.BroadcastsInDim S8x4096x1792 (![] : Fin 0 → Fin S8x4096x1792.rank)
  bcast_S_S1792 : S_.BroadcastsInDim S1792 (![] : Fin 0 → Fin S1792.rank)
  bcast_S_S512 : S_.BroadcastsInDim S512 (![] : Fin 0 → Fin S512.rank)
  bcast_S_S64x512 : S_.BroadcastsInDim S64x512 (![] : Fin 0 → Fin S64x512.rank)
  bcast_S_S128x512 : S_.BroadcastsInDim S128x512 (![] : Fin 0 → Fin S128x512.rank)
  bcast_S_S8x64 : S_.BroadcastsInDim S8x64 (![] : Fin 0 → Fin S8x64.rank)

variable [Facts]

def fn_part1 {F : FTy → Type} [FloatOps F] (main_arg6 : FVec F S128x512 .f32) (main_arg7 : FVec F S512 .f32) (main_arg8 : FVec F S512 .f32) (main_arg9 : FVec F S8x64 .f32) (main_arg10 : FVec F S512 .f32) (main_arg11 : FVec F S512 .f32) (main_v2 : IVec S8x4096x1792 1) (main_v5 : IVec S1792 1) (main_v8 : IVec S512 1) (main_v11 : IVec S64x512 1) (main_v14 : IVec S512 1) (main_v17 : IVec S64x512 1) : IVec S8x4096x1792 1 × IVec S1792 1 × IVec S512 1 × IVec S64x512 1 × IVec S512 1 × IVec S64x512 1 × IVec S128x512 1 × IVec S512 1 × IVec S512 1 × IVec S8x64 1 × IVec S512 1 × IVec S512 1 :=
  let main_v18 : FVec F S128x512 .f32 := Host.absf main_arg6
  let main_cst_5 : FVec F S_ .f32 := constant S_ .f32 0x7F800000#32
  let main_v19 : FVec F S128x512 .f32 := broadcastInDim S128x512 ![] bcast_S_S128x512 main_cst_5
  let main_v20 : IVec S128x512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S512 .f32 := Host.absf main_arg8
  let main_cst_7 : FVec F S_ .f32 := constant S_ .f32 0x7F800000#32
  let main_v25 : FVec F S512 .f32 := broadcastInDim S512 ![] bcast_S_S512 main_cst_7
  let main_v26 : IVec S512 1 := cmpf .olt main_v24 main_v25
  let main_v27 : FVec F S8x64 .f32 := Host.absf main_arg9
  let main_cst_8 : FVec F S_ .f32 := constant S_ .f32 0x7F800000#32
  let main_v28 : FVec F S8x64 .f32 := broadcastInDim S8x64 ![] bcast_S_S8x64 main_cst_8
  let main_v29 : IVec S8x64 1 := cmpf .olt main_v27 main_v28
  let main_v30 : FVec F S512 .f32 := Host.absf main_arg10
  let main_cst_9 : FVec F S_ .f32 := constant S_ .f32 0x7F800000#32
  let main_v31 : FVec F S512 .f32 := broadcastInDim S512 ![] bcast_S_S512 main_cst_9
  let main_v32 : IVec S512 1 := cmpf .olt main_v30 main_v31
  let main_v33 : FVec F S512 .f32 := Host.absf main_arg11
  let main_cst_10 : FVec F S_ .f32 := constant S_ .f32 0x7F800000#32
  let main_v34 : FVec F S512 .f32 := broadcastInDim S512 ![] bcast_S_S512 main_cst_10
  let main_v35 : IVec S512 1 := cmpf .olt main_v33 main_v34
  (main_v2, main_v5, main_v8, main_v11, main_v14, main_v17, main_v20, main_v23, main_v26, main_v29, main_v32, main_v35)

def fn {F : FTy → Type} [FloatOps F] (main_arg0 : FVec F S8x4096x1792 .f32) (main_arg1 : FVec F S1792 .f32) (main_arg2 : FVec F S512 .f32) (main_arg3 : FVec F S64x512 .f32) (main_arg4 : FVec F S512 .f32) (main_arg5 : FVec F S64x512 .f32) (main_arg6 : FVec F S128x512 .f32) (main_arg7 : FVec F S512 .f32) (main_arg8 : FVec F S512 .f32) (main_arg9 : FVec F S8x64 .f32) (main_arg10 : FVec F S512 .f32) (main_arg11 : FVec F S512 .f32) : IVec S8x4096x1792 1 × IVec S1792 1 × IVec S512 1 × IVec S64x512 1 × IVec S512 1 × IVec S64x512 1 × IVec S128x512 1 × IVec S512 1 × IVec S512 1 × IVec S8x64 1 × IVec S512 1 × IVec S512 1 :=
  let main_v0 : FVec F S8x4096x1792 .f32 := Host.absf main_arg0
  let main_cst : FVec F S_ .f32 := constant S_ .f32 0x7F800000#32
  let main_v1 : FVec F S8x4096x1792 .f32 := broadcastInDim S8x4096x1792 ![] bcast_S_S8x4096x1792 main_cst
  let main_v2 : IVec S8x4096x1792 1 := cmpf .olt main_v0 main_v1
  let main_v3 : FVec F S1792 .f32 := Host.absf main_arg1
  let main_cst_0 : FVec F S_ .f32 := constant S_ .f32 0x7F800000#32
  let main_v4 : FVec F S1792 .f32 := broadcastInDim S1792 ![] bcast_S_S1792 main_cst_0
  let main_v5 : IVec S1792 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S64x512 .f32 := Host.absf main_arg3
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S64x512 .f32 := Host.absf main_arg5
  let main_cst_4 : FVec F S_ .f32 := constant S_ .f32 0x7F800000#32
  let main_v16 : FVec F S64x512 .f32 := broadcastInDim S64x512 ![] bcast_S_S64x512 main_cst_4
  let main_v17 : IVec S64x512 1 := cmpf .olt main_v15 main_v16
  fn_part1 (F := F) main_arg6 main_arg7 main_arg8 main_arg9 main_arg10 main_arg11 main_v2 main_v5 main_v8 main_v11 main_v14 main_v17
-- ==== Kernel.lean ====
abbrev S8x4096x1792 : Shape := ⟨3, ![8, 4096, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S1 : Shape := ⟨1, ![1]⟩
abbrev S1x1792 : Shape := ⟨2, ![1, 1792]⟩
abbrev S1x512 : Shape := ⟨2, ![1, 512]⟩
abbrev S512x1 : Shape := ⟨2, ![512, 1]⟩
abbrev S512x512 : Shape := ⟨2, ![512, 512]⟩
abbrev S8x4096x512 : Shape := ⟨3, ![8, 4096, 512]⟩
abbrev S1x256x1792 : Shape := ⟨3, ![1, 256, 1792]⟩
abbrev S1x256x512 : Shape := ⟨3, ![1, 256, 512]⟩
abbrev S2x256x256 : Shape := ⟨3, ![2, 256, 256]⟩
abbrev S8x1792 : Shape := ⟨2, ![8, 1792]⟩
abbrev S256x1792 : Shape := ⟨2, ![256, 1792]⟩
abbrev S256x1 : Shape := ⟨2, ![256, 1]⟩
abbrev S256x512 : Shape := ⟨2, ![256, 512]⟩
abbrev S256x128 : Shape := ⟨2, ![256, 128]⟩
abbrev S256x256 : Shape := ⟨2, ![256, 256]⟩
abbrev S64x256 : Shape := ⟨2, ![64, 256]⟩
abbrev S128x256 : Shape := ⟨2, ![128, 256]⟩
abbrev S512x256 : Shape := ⟨2, ![512, 256]⟩
abbrev S1x256 : Shape := ⟨2, ![1, 256]⟩
abbrev S1x256x256 : Shape := ⟨3, ![1, 256, 256]⟩

abbrev nBuf : Space → Nat
  | .hbm => 60
  | .vmem => 20
  | .smem => 0
  | _ => 0

abbrev bufTy : (tb : Table) → Fin (tcTables nBuf tb) → BufTy
  | .hbm, ⟨0, _⟩ => ⟨S8x4096x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S8x64, .f32⟩
  | .hbm, ⟨10, _⟩ => ⟨S512, .f32⟩
  | .hbm, ⟨11, _⟩ => ⟨S512, .f32⟩
  | .hbm, ⟨12, _⟩ => ⟨S_, .f32⟩
  | .hbm, ⟨13, _⟩ => ⟨S128x512, .f32⟩
  | .hbm, ⟨14, _⟩ => ⟨S_, .i32⟩
  | .hbm, ⟨15, _⟩ => ⟨S1, .i32⟩
  | .hbm, ⟨16, _⟩ => ⟨S128x512, .f32⟩
  | .hbm, ⟨17, _⟩ => ⟨S128x512, .bf16⟩
  | .hbm, ⟨18, _⟩ => ⟨S_, .f32⟩
  | .hbm, ⟨19, _⟩ => ⟨S128x512, .f32⟩
  | .hbm, ⟨20, _⟩ => ⟨S_, .i32⟩
  | .hbm, ⟨21, _⟩ => ⟨S1, .i32⟩
  | .hbm, ⟨22, _⟩ => ⟨S128x512, .f32⟩
  | .hbm, ⟨23, _⟩ => ⟨S128x512, .bf16⟩
  | .hbm, ⟨24, _⟩ => ⟨S1x1792, .f32⟩
  | .hbm, ⟨25, _⟩ => ⟨S1x512, .f32⟩
  | .hbm, ⟨26, _⟩ => ⟨S1x512, .f32⟩
  | .hbm, ⟨27, _⟩ => ⟨S128x512, .bf16⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S512, .i32⟩
  | .hbm, ⟨34, _⟩ => ⟨S_, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i32⟩
  | .hbm, ⟨43, _⟩ => ⟨S512, .i32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S1x512, .i32⟩
  | .hbm, ⟨54, _⟩ => ⟨S512x512, .i32⟩
  | .hbm, ⟨55, _⟩ => ⟨S512x512, .i32⟩
  | .hbm, ⟨56, _⟩ => ⟨S512x512, .i1⟩
  | .hbm, ⟨57, _⟩ => ⟨S512x512, .bf16⟩
  | .hbm, ⟨58, _⟩ => ⟨S8x4096x512, .bf16⟩
  | .hbm, ⟨59, _⟩ => ⟨S8x4096x512, .f32⟩
  | .local _ .vmem, ⟨0, _⟩ => ⟨S1x256x1792, .f32⟩
  | .local _ .vmem, ⟨1, _⟩ => ⟨S1x256x1792, .f32⟩
  | .local _ .vmem, ⟨2, _⟩ => ⟨S1x1792, .f32⟩
  | .local _ .vmem, ⟨3, _⟩ => ⟨S1x512, .f32⟩
  | .local _ .vmem, ⟨4, _⟩ => ⟨S128x512, .bf16⟩
  | .local _ .vmem, ⟨5, _⟩ => ⟨S1x512, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .f32⟩
  | .local _ .vmem, ⟨17, _⟩ => ⟨S1x256x512, .f32⟩
  | .local _ .vmem, ⟨18, _⟩ => ⟨S2x256x256, .f32⟩
  | .local _ .vmem, ⟨19, _⟩ => ⟨S8x1792, .f32⟩
  | _, _ => ⟨S8x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25_0 : Ref sig .tc := ⟨.hbm, 58, rfl⟩
abbrev main_v25_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8x4096x1792 : Shape := ⟨3, ![8, 4096, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S8x4097x1792 : Shape := ⟨3, ![8, 4097, 1792]⟩
abbrev S1x1x1792 : Shape := ⟨3, ![1, 1, 1792]⟩
abbrev S8x4096x512 : Shape := ⟨3, ![8, 4096, 512]⟩
abbrev S8x4096x64 : Shape := ⟨3, ![8, 4096, 64]⟩
abbrev S8x4096x128 : Shape := ⟨3, ![8, 4096, 128]⟩
abbrev S1x1x512 : Shape := ⟨3, ![1, 1, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S4096x8x8x64 : Shape := ⟨4, ![4096, 8, 8, 64]⟩
abbrev S8x8x64x64 : Shape := ⟨4, ![8, 8, 64, 64]⟩
abbrev S1x8x8x64 : Shape := ⟨4, ![1, 8, 8, 64]⟩
abbrev S8x8x64 : Shape := ⟨3, ![8, 8, 64]⟩
abbrev S8x8x1x64 : Shape := ⟨4, ![8, 8, 1, 64]⟩
abbrev S8x8x64x1 : Shape := ⟨4, ![8, 8, 64, 1]⟩
abbrev S1x1x8x64 : Shape := ⟨4, ![1, 1, 8, 64]⟩

abbrev nBuf : Space → Nat
  | .hbm => 226
  | .vmem => 0
  | .smem => 0
  | _ => 0

abbrev hbmTy0_0 (i : Nat) : BufTy := match i % 128 with
  | 0 => ⟨S8x4096x1792, .f32⟩
  | 1 => ⟨S1792, .f32⟩
  | 2 => ⟨S512, .f32⟩
  | 3 => ⟨S64x512, .f32⟩
  | 4 => ⟨S512, .f32⟩
  | 5 => ⟨S64x512, .f32⟩
  | 6 => ⟨S128x512, .f32⟩
  | 7 => ⟨S512, .f32⟩
  | 8 => ⟨S512, .f32⟩
  | 9 => ⟨S8x64, .f32⟩
  | 10 => ⟨S512, .f32⟩
  | 11 => ⟨S512, .f32⟩
  | 12 => ⟨S_, .i32⟩
  | 13 => ⟨S_, .f32⟩
  | 14 => ⟨S8x4097x1792, .f32⟩
  | 15 => ⟨S8x4096x1792, .f32⟩
  | 16 => ⟨S8x4096x1792, .f32⟩
  | 17 => ⟨S1x1x1792, .f32⟩
  | 18 => ⟨S8x4096x1792, .f32⟩
  | 19 => ⟨S8x4096x1792, .f32⟩
  | 20 => ⟨S8x4096x1792, .f32⟩
  | 21 => ⟨S8x4096x512, .f32⟩
  | 22 => ⟨S8x4096x512, .f32⟩
  | 23 => ⟨S8x4096x512, .f32⟩
  | 24 => ⟨S8x4096x64, .f32⟩
  | 25 => ⟨S8x4096x64, .f32⟩
  | 26 => ⟨S8x4096x128, .f32⟩
  | 27 => ⟨S8x4096x64, .f32⟩
  | 28 => ⟨S8x4096x512, .f32⟩
  | 29 => ⟨S1x1x512, .f32⟩
  | 30 => ⟨S8x4096x512, .f32⟩
  | 31 => ⟨S8x4096x512, .f32⟩
  | 32 => ⟨S8x4096x512, .f32⟩
  | 33 => ⟨S_, .f32⟩
  | 34 => ⟨S8x4096x512, .f32⟩
  | 35 => ⟨S8x4096x512, .f32⟩
  | 36 => ⟨S8x4096x512, .f32⟩
  | 37 => ⟨S8x4096x512, .f32⟩
  | 38 => ⟨S8x4096x512, .i1⟩
  | 39 => ⟨S8x4096x512, .f32⟩
  | 40 => ⟨S8x4096x512, .f32⟩
  | 41 => ⟨S8x4096x512, .f32⟩
  | 42 => ⟨S8x4096x512, .f32⟩
  | 43 => ⟨S8x4096x512, .f32⟩
  | 44 => ⟨S8x4096x512, .f32⟩
  | 45 => ⟨S8x4096x512, .f32⟩
  | 46 => ⟨S8x4096x512, .f32⟩
  | 47 => ⟨S8x4096x512, .f32⟩
  | 48 => ⟨S_, .f32⟩
  | 49 => ⟨S8x4096x512, .f32⟩
  | 50 => ⟨S8x4096x512, .f32⟩
  | 51 => ⟨S8x4096x512, .f32⟩
  | 52 => ⟨S1x1x512, .f32⟩
  | 53 => ⟨S8x4096x512, .f32⟩
  | 54 => ⟨S8x4096x512, .f32⟩
  | 55 => ⟨S8x4096x512, .f32⟩
  | 56 => ⟨S8x4096x512, .f32⟩
  | 57 => ⟨S_, .f32⟩
  | 58 => ⟨S8x4096x512, .f32⟩
  | 59 => ⟨S8x4096x512, .f32⟩
  | 60 => ⟨S_, .f32⟩
  | 61 => ⟨S8x4096x512, .f32⟩
  | 62 => ⟨S8x4096x512, .f32⟩
  | 63 => ⟨S8x4096x128, .f32⟩
  | 64 => ⟨S8x4096x128, .f32⟩
  | 65 => ⟨S_, .f32⟩
  | 66 => ⟨S8x4096x128, .f32⟩
  | 67 => ⟨S8x4096x128, .f32⟩
  | 68 => ⟨S_, .f32⟩
  | 69 => ⟨S8x4096x128, .f32⟩
  | 70 => ⟨S8x4096x128, .f32⟩
  | 71 => ⟨S8x4096x512, .f32⟩
  | 72 => ⟨S1x1x512, .f32⟩
  | 73 => ⟨S8x4096x512, .f32⟩
  | 74 => ⟨S8x4096x512, .f32⟩
  | 75 => ⟨S8x4096x8x64, .f32⟩
  | 76 => ⟨S8x4096x8x64, .f32⟩
  | 77 => ⟨S_, .f32⟩
  | 78 => ⟨S8x4096x8, .f32⟩
  | 79 => ⟨S8x4096x8x1, .f32⟩
  | 80 => ⟨S8x4096x8x1, .f32⟩
  | 81 => ⟨S_, .f32⟩
  | 82 => ⟨S8x4096x8x1, .f32⟩
  | 83 => ⟨S8x4096x8x1, .f32⟩
  | 84 => ⟨S8x4096x8x64, .f32⟩
  | 85 => ⟨S8x4096x8x64, .f32⟩
  | 86 => ⟨S_, .f32⟩
  | 87 => ⟨S8x4096x512, .f32⟩
  | 88 => ⟨S8x4096x512, .f32⟩
  | 89 => ⟨S1x1x512, .f32⟩
  | 90 => ⟨S8x4096x512, .f32⟩
  | 91 => ⟨S8x4096x512, .f32⟩
  | 92 => ⟨S_, .f32⟩
  | 93 => ⟨S8x4096x512, .f32⟩
  | 94 => ⟨S8x4096x512, .f32⟩
  | 95 => ⟨S8x4096x512, .f32⟩
  | 96 => ⟨S8x4096x8x64, .f32⟩
  | 97 => ⟨S8x4096x8x64, .f32⟩
  | 98 => ⟨S8x4096x8x64, .f32⟩
  | 99 => ⟨S8x4096x8x64, .f32⟩
  | 100 => ⟨S8x4096x8x64, .f32⟩
  | 101 => ⟨S8x4096x8x64, .f32⟩
  | 102 => ⟨S8x4096x8x64, .f32⟩
  | 103 => ⟨S8x4096x8x64, .f32⟩
  | 104 => ⟨S8x4096x8x64, .f32⟩
  | 105 => ⟨S8x4096x8x64, .f32⟩
  | 106 => ⟨S4096x8x8x64, .f32⟩
  | 107 => ⟨S4096x8x8x64, .f32⟩
  | 108 => ⟨S4096x8x8x64, .f32⟩
  | 109 => ⟨S4096x8x8x64, .f32⟩
  | 110 => ⟨S4096x8x8x64, .f32⟩
  | 111 => ⟨S4096x8x8x64, .f32⟩
  | 112 => ⟨S_, .f32⟩
  | 113 => ⟨S8x8x64x64, .f32⟩
  | 114 => ⟨S_, .f32⟩
  | 115 => ⟨S4096x8x8x64, .f32⟩
  | 116 => ⟨S_, .i32⟩
  | 117 => ⟨S4096x8x8x64, .f32⟩
  | 118 => ⟨S4096x8x8x64, .f32⟩
  | 119 => ⟨S4096x8x8x64, .f32⟩
  | 120 => ⟨S4096x8x8x64, .f32⟩
  | 121 => ⟨S4096x8x8x64, .f32⟩
  | 122 => ⟨S4096x8x8x64, .f32⟩
  | 123 => ⟨S_, .i32⟩
  | 124 => ⟨S8x8x64x64, .f32⟩
  | 125 => ⟨S4096x8x8x64, .f32⟩
  | 126 => ⟨S_, .i32⟩
  | 127 => ⟨S_, .i1⟩
  | _ => ⟨S8x4096x1792, .f32⟩

abbrev hbmTy0_1 (i : Nat) : BufTy := match i % 128 with
  | 0 => ⟨S_, .i32⟩
  | 1 => ⟨S_, .i32⟩
  | 2 => ⟨S_, .i32⟩
  | 3 => ⟨S1x8x8x64, .f32⟩
  | 4 => ⟨S8x8x64, .f32⟩
  | 5 => ⟨S_, .i32⟩
  | 6 => ⟨S_, .i32⟩
  | 7 => ⟨S_, .i32⟩
  | 8 => ⟨S1x8x8x64, .f32⟩
  | 9 => ⟨S8x8x64, .f32⟩
  | 10 => ⟨S_, .i32⟩
  | 11 => ⟨S_, .i32⟩
  | 12 => ⟨S_, .i32⟩
  | 13 => ⟨S1x8x8x64, .f32⟩
  | 14 => ⟨S8x8x64, .f32⟩
  | 15 => ⟨S_, .i32⟩
  | 16 => ⟨S_, .i32⟩
  | 17 => ⟨S_, .i32⟩
  | 18 => ⟨S1x8x8x64, .f32⟩
  | 19 => ⟨S8x8x64, .f32⟩
  | 20 => ⟨S_, .i32⟩
  | 21 => ⟨S_, .i32⟩
  | 22 => ⟨S_, .i32⟩
  | 23 => ⟨S1x8x8x64, .f32⟩
  | 24 => ⟨S8x8x64, .f32⟩
  | 25 => ⟨S_, .i32⟩
  | 26 => ⟨S_, .i32⟩
  | 27 => ⟨S_, .i32⟩
  | 28 => ⟨S1x8x8x64, .f32⟩
  | 29 => ⟨S8x8x64, .f32⟩
  | 30 => ⟨S8x8x64, .f32⟩
  | 31 => ⟨S8x8x1x64, .f32⟩
  | 32 => ⟨S8x8x64x64, .f32⟩
  | 33 => ⟨S8x8x64x64, .f32⟩
  | 34 => ⟨S8x8x64x1, .f32⟩
  | 35 => ⟨S8x8x1x64, .f32⟩
  | 36 => ⟨S8x8x64x64, .f32⟩
  | 37 => ⟨S8x8x64x64, .f32⟩
  | 38 => ⟨S8x8x64x64, .f32⟩
  | 39 => ⟨S8x8x64x64, .f32⟩
  | 40 => ⟨S8x8x64x1, .f32⟩
  | 41 => ⟨S8x8x1x64, .f32⟩
  | 42 => ⟨S8x8x64x64, .f32⟩
  | 43 => ⟨S8x8x64x64, .f32⟩
  | 44 => ⟨S8x8x64x64, .f32⟩
  | 45 => ⟨S8x8x64x64, .f32⟩
  | 46 => ⟨S8x8x64, .f32⟩
  | 47 => ⟨S1x8x8x64, .f32⟩
  | 48 => ⟨S_, .i32⟩
  | 49 => ⟨S_, .i32⟩
  | 50 => ⟨S_, .i32⟩
  | 51 => ⟨S4096x8x8x64, .f32⟩
  | 52 => ⟨S_, .i32⟩
  | 53 => ⟨S_, .i32⟩
  | 54 => ⟨S8x4096x8x64, .f32⟩
  | 55 => ⟨S_, .f32⟩
  | 56 => ⟨S8x4096x8, .f32⟩
  | 57 => ⟨S8x4096x8x1, .f32⟩
  | 58 => ⟨S_, .f32⟩
  | 59 => ⟨S8x4096x8x1, .f32⟩
  | 60 => ⟨S8x4096x8x1, .f32⟩
  | 61 => ⟨S8x4096x8x64, .f32⟩
  | 62 => ⟨S8x4096x8x64, .f32⟩
  | 63 => ⟨S8x4096x8x64, .f32⟩
  | 64 => ⟨S_, .f32⟩
  | 65 => ⟨S8x4096x8, .f32⟩
  | 66 => ⟨S8x4096x8x1, .f32⟩
  | 67 => ⟨S_, .f32⟩
  | 68 => ⟨S8x4096x8x1, .f32⟩
  | 69 => ⟨S8x4096x8x1, .f32⟩
  | 70 => ⟨S8x4096x8x64, .f32⟩
  | 71 => ⟨S8x4096x8x64, .f32⟩
  | 72 => ⟨S_, .f32⟩
  | 73 => ⟨S8x4096x8x1, .f32⟩
  | 74 => ⟨S8x4096x8x1, .f32⟩
  | 75 => ⟨S8x4096x8x1, .f32⟩
  | 76 => ⟨S8x4096x8x64, .f32⟩
  | 77 => ⟨S8x4096x8x64, .f32⟩
  | 78 => ⟨S8x4096x512, .f32⟩
  | 79 => ⟨S1x1x512, .f32⟩
  | 80 => ⟨S8x4096x512, .f32⟩
  | 81 => ⟨S8x4096x512, .f32⟩
  | 82 => ⟨S1x1x512, .f32⟩
  | 83 => ⟨S8x4096x512, .f32⟩
  | 84 => ⟨S8x4096x512, .f32⟩
  | 85 => ⟨S8x4096x8x64, .f32⟩
  | 86 => ⟨S1x1x8x64, .f32⟩
  | 87 => ⟨S8x4096x8x64, .f32⟩
  | 88 => ⟨S8x4096x8x64, .f32⟩
  | 89 => ⟨S_, .f32⟩
  | 90 => ⟨S8x4096x8, .f32⟩
  | 91 => ⟨S8x4096x8x1, .f32⟩
  | 92 => ⟨S8x4096x8x64, .f32⟩
  | 93 => ⟨S8x4096x8x64, .f32⟩
  | 94 => ⟨S8x4096x512, .f32⟩
  | 95 => ⟨S8x4096x512, .f32⟩
  | 96 => ⟨S8x4096x512, .f32⟩
  | 97 => ⟨S8x4096x512, .bf16⟩
  | _ => ⟨S8x4096x1792, .f32⟩

abbrev hbmTy (i : Nat) : BufTy := match i / 128 with
  | 0 => hbmTy0_0 i
  | 1 => hbmTy0_1 i
  | _ => ⟨S8x4096x1792, .f32⟩

abbrev bufTy : (tb : Table) → Fin (tcTables nBuf tb) → BufTy
  | .hbm, ⟨i, _⟩ => hbmTy i
  | _, _ => ⟨S8x4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_0 : Ref sig .tc := ⟨.hbm, 57, rfl⟩
abbrev main_v29 : Ref sig .tc := ⟨.hbm, 58, rfl⟩
abbrev main_v30 : Ref sig .tc := ⟨.hbm, 59, rfl⟩
abbrev main_cst_1 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_2 : Ref sig .tc := ⟨.hbm, 65, rfl⟩
abbrev main_v35 : Ref sig .tc := ⟨.hbm, 66, rfl⟩
abbrev main_v36 : Ref sig .tc := ⟨.hbm, 67, rfl⟩
abbrev main_cst_3 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_call2_v2 : Ref sig .tc := ⟨.hbm, 79, rfl⟩
abbrev main_v44 : Ref sig .tc := ⟨.hbm, 80, rfl⟩
abbrev main_cst_4 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_5 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_6 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_7 : Ref sig .tc := ⟨.hbm, 112, rfl⟩
abbrev main_v73 : Ref sig .tc := ⟨.hbm, 113, rfl⟩
abbrev main_cst_8 : Ref sig .tc := ⟨.hbm, 114, rfl⟩
abbrev main_v74 : Ref sig .tc := ⟨.hbm, 115, rfl⟩
abbrev main_c_9 : Ref sig .tc := ⟨.hbm, 116, rfl⟩
abbrev main_v75_0 : Ref sig .tc := ⟨.hbm, 117, rfl⟩
abbrev main_v75_1 : Ref sig .tc := ⟨.hbm, 118, rfl⟩
abbrev main_v75_2 : Ref sig .tc := ⟨.hbm, 119, rfl⟩
abbrev main_v75_3 : Ref sig .tc := ⟨.hbm, 120, rfl⟩
abbrev main_v75_4 : Ref sig .tc := ⟨.hbm, 121, rfl⟩
abbrev main_v75_5 : Ref sig .tc := ⟨.hbm, 122, rfl⟩
abbrev main_v75_6 : Ref sig .tc := ⟨.hbm, 123, rfl⟩
abbrev main_v75_7 : Ref sig .tc := ⟨.hbm, 124, rfl⟩
abbrev main_v75_8 : Ref sig .tc := ⟨.hbm, 125, rfl⟩
abbrev main_while0c_c_24 : Ref sig .tc := ⟨.hbm, 126, rfl⟩
abbrev main_while0c_v114 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_c_1 : Ref sig .tc := ⟨.hbm, 130, rfl⟩
abbrev main_while0b_call3_v0 : Ref sig .tc := ⟨.hbm, 131, rfl⟩
abbrev main_while0b_v114 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_call4_c_1 : Ref sig .tc := ⟨.hbm, 135, rfl⟩
abbrev main_while0b_call4_v0 : Ref sig .tc := ⟨.hbm, 136, rfl⟩
abbrev main_while0b_v115 : Ref sig .tc := ⟨.hbm, 137, rfl⟩
abbrev main_while0b_call5_c : Ref sig .tc := ⟨.hbm, 138, rfl⟩
abbrev main_while0b_call5_c_0 : Ref sig .tc := ⟨.hbm, 139, rfl⟩
abbrev main_while0b_call5_c_1 : Ref sig .tc := ⟨.hbm, 140, rfl⟩
abbrev main_while0b_call5_v0 : Ref sig .tc := ⟨.hbm, 141, rfl⟩
abbrev main_while0b_v116 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_v0 : Ref sig .tc := ⟨.hbm, 146, rfl⟩
abbrev main_while0b_v117 : Ref sig .tc := ⟨.hbm, 147, rfl⟩
abbrev main_while0b_call7_c : Ref sig .tc := ⟨.hbm, 148, rfl⟩
abbrev main_while0b_call7_c_0 : Ref sig .tc := ⟨.hbm, 149, rfl⟩
abbrev main_while0b_call7_c_1 : Ref sig .tc := ⟨.hbm, 150, rfl⟩
abbrev main_while0b_call7_v0 : Ref sig .tc := ⟨.hbm, 151, rfl⟩
abbrev main_while0b_v118 : Ref sig .tc := ⟨.hbm, 152, rfl⟩
abbrev main_while0b_call8_c : Ref sig .tc := ⟨.hbm, 153, rfl⟩
abbrev main_while0b_call8_c_0 : Ref sig .tc := ⟨.hbm, 154, rfl⟩
abbrev main_while0b_call8_c_1 : Ref sig .tc := ⟨.hbm, 155, rfl⟩
abbrev main_while0b_call8_v0 : Ref sig .tc := ⟨.hbm, 156, rfl⟩
abbrev main_while0b_v119 : Ref sig .tc := ⟨.hbm, 157, rfl⟩
abbrev main_while0b_v120 : Ref sig .tc := ⟨.hbm, 158, rfl⟩
abbrev main_while0b_v121 : Ref sig .tc := ⟨.hbm, 159, rfl⟩
abbrev main_while0b_v122 : Ref sig .tc := ⟨.hbm, 160, rfl⟩
abbrev main_while0b_v123 : Ref sig .tc := ⟨.hbm, 161, rfl⟩
abbrev main_while0b_v124 : Ref sig .tc := ⟨.hbm, 162, rfl⟩
abbrev main_while0b_v125 : Ref sig .tc := ⟨.hbm, 163, rfl⟩
abbrev main_while0b_v126 : Ref sig .tc := ⟨.hbm, 164, rfl⟩
abbrev main_while0b_v127 : Ref sig .tc := ⟨.hbm, 165, rfl⟩
abbrev main_while0b_v128 : Ref sig .tc := ⟨.hbm, 166, rfl⟩
abbrev main_while0b_v129 : Ref sig .tc := ⟨.hbm, 167, rfl⟩
abbrev main_while0b_v130 : Ref sig .tc := ⟨.hbm, 168, rfl⟩
abbrev main_while0b_v131 : Ref sig .tc := ⟨.hbm, 169, rfl⟩
abbrev main_while0b_v132 : Ref sig .tc := ⟨.hbm, 170, rfl⟩
abbrev main_while0b_v133 : Ref sig .tc := ⟨.hbm, 171, rfl⟩
abbrev main_while0b_v134 : Ref sig .tc := ⟨.hbm, 172, rfl⟩
abbrev main_while0b_v135 : Ref sig .tc := ⟨.hbm, 173, rfl⟩
abbrev main_while0b_v136 : Ref sig .tc := ⟨.hbm, 174, rfl⟩
abbrev main_while0b_call9_v0 : Ref sig .tc := ⟨.hbm, 175, rfl⟩
abbrev main_while0b_call9_c : Ref sig .tc := ⟨.hbm, 176, rfl⟩
abbrev main_while0b_call9_c_0 : Ref sig .tc := ⟨.hbm, 177, rfl⟩
abbrev main_while0b_call9_c_1 : Ref sig .tc := ⟨.hbm, 178, rfl⟩
abbrev main_while0b_v137 : Ref sig .tc := ⟨.hbm, 179, rfl⟩
abbrev main_while0b_c_24 : Ref sig .tc := ⟨.hbm, 180, rfl⟩
abbrev main_while0b_v138 : Ref sig .tc := ⟨.hbm, 181, rfl⟩
abbrev main_v76 : Ref sig .tc := ⟨.hbm, 182, rfl⟩
abbrev main_cst_10 : Ref sig .tc := ⟨.hbm, 183, rfl⟩
abbrev main_v77 : Ref sig .tc := ⟨.hbm, 184, rfl⟩
abbrev main_v78 : Ref sig .tc := ⟨.hbm, 185, rfl⟩
abbrev main_cst_11 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_cst_12 : Ref sig .tc := ⟨.hbm, 192, rfl⟩
abbrev main_v84 : Ref sig .tc := ⟨.hbm, 193, rfl⟩
abbrev main_v85 : Ref sig .tc := ⟨.hbm, 194, rfl⟩
abbrev main_cst_13 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_cst_14 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩
abbrev main_v96 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_cst_15 : Ref sig .tc := ⟨.hbm, 217, rfl⟩
abbrev main_v106 : Ref sig .tc := ⟨.hbm, 218, rfl⟩
abbrev main_v107 : Ref sig .tc := ⟨.hbm, 219, rfl⟩
abbrev main_v108 : Ref sig .tc := ⟨.hbm, 220, rfl⟩
abbrev main_v109 : Ref sig .tc := ⟨.hbm, 221, rfl⟩
abbrev main_v110 : Ref sig .tc := ⟨.hbm, 222, rfl⟩
abbrev main_v111 : Ref sig .tc := ⟨.hbm, 223, rfl⟩
abbrev main_v112 : Ref sig .tc := ⟨.hbm, 224, rfl⟩
abbrev main_v113 : Ref sig .tc := ⟨.hbm, 225, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8x4096x1024 : Shape := ⟨3, ![8, 4096, 1024]⟩
abbrev S8x3x1024 : Shape := ⟨3, ![8, 3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x3x1024 : Shape := ⟨3, ![1, 3, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x512x1024, .f32⟩
  | .local _ .vmem, ⟨9, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x4096x1024 : Shape := ⟨3, ![8, 4096, 1024]⟩
abbrev S8x3x1024 : Shape := ⟨3, ![8, 3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S1024x2816 : Shape := ⟨2, ![1024, 2816]⟩
abbrev S8x4096x2816 : Shape := ⟨3, ![8, 4096, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S1024x2816, .f32⟩
  | .hbm, ⟨36, _⟩ => ⟨S1024x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S_, .f32⟩
  | .hbm, ⟨41, _⟩ => ⟨S8x4096x2816, .f32⟩
  | .hbm, ⟨42, _⟩ => ⟨S8x4096x2816, .f32⟩
  | .hbm, ⟨43, _⟩ => ⟨S_, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x1024, .f32⟩
  | .hbm, ⟨50, _⟩ => ⟨S8x1x1024, .f32⟩
  | .hbm, ⟨51, _⟩ => ⟨S8x1024, .f32⟩
  | .hbm, ⟨52, _⟩ => ⟨S8x1x1024, .f32⟩
  | .hbm, ⟨53, _⟩ => ⟨S_, .f32⟩
  | .hbm, ⟨54, _⟩ => ⟨S8x1x1024, .f32⟩
  | .hbm, ⟨55, _⟩ => ⟨S8x1x1024, .f32⟩
  | .hbm, ⟨56, _⟩ => ⟨S8x4096x1024, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S8x4096x1, .f32⟩
  | .hbm, ⟨67, _⟩ => ⟨S8x4096x1024, .f32⟩
  | .hbm, ⟨68, _⟩ => ⟨S8x4096x1024, .f32⟩
  | .hbm, ⟨69, _⟩ => ⟨S1x1x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x3x1024 : Shape := ⟨3, ![8, 3, 1024]⟩
abbrev S1024 : Shape := ⟨1, ![1024]⟩
abbrev S8x4096x512 : Shape := ⟨3, ![8, 4096, 512]⟩
abbrev S1024x3072 : Shape := ⟨2, ![1024, 3072]⟩
abbrev S3x512x1024 : Shape := ⟨3, ![3, 512, 1024]⟩
abbrev S1024x1024 : Shape := ⟨2, ![1024, 1024]⟩
abbrev S1x512x1024 : Shape := ⟨3, ![1, 512, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S1x1024 : Shape := ⟨2, ![1, 1024]⟩
abbrev S1x3x1024 : Shape := ⟨3, ![1, 3, 1024]⟩
abbrev S1x512x512 : Shape := ⟨3, ![1, 512, 512]⟩
abbrev S512 : Shape := ⟨1, ![512]⟩
abbrev S512x1 : Shape := ⟨2, ![512, 1]⟩
abbrev S1x1x1024 : Shape := ⟨3, ![1, 1, 1024]⟩
abbrev S512x512 : Shape := ⟨2, ![512, 512]⟩

abbrev nBuf : Space → Nat
  | .hbm => 27
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024, .f32⟩
  | .hbm, ⟨4, _⟩ => ⟨S8x4096x1024, .bf16⟩
  | .hbm, ⟨5, _⟩ => ⟨S8x4096x512, .bf16⟩
  | .hbm, ⟨6, _⟩ => ⟨S8x4096x512, .bf16⟩
  | .hbm, ⟨7, _⟩ => ⟨S1024x3072, .f32⟩
  | .hbm, ⟨8, _⟩ => ⟨S3x512x1024, .f32⟩
  | .hbm, ⟨9, _⟩ => ⟨S1024x1024, .f32⟩
  | .hbm, ⟨10, _⟩ => ⟨S1024x3072, .bf16⟩
  | .hbm, ⟨11, _⟩ => ⟨S3x512x1024, .bf16⟩
  | .hbm, ⟨12, _⟩ => ⟨S1024x1024, .bf16⟩
  | .hbm, ⟨13, _⟩ => ⟨S1x512x1024, .bf16⟩
  | .hbm, ⟨14, _⟩ => ⟨S512x1024, .bf16⟩
  | .hbm, ⟨15, _⟩ => ⟨S8x64x1024, .bf16⟩
  | .hbm, ⟨16, _⟩ => ⟨S_, .i32⟩
  | .hbm, ⟨17, _⟩ => ⟨S_, .bf16⟩
  | .hbm, ⟨18, _⟩ => ⟨S8x128x1024, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x512x1024, .bf16⟩
  | .hbm, ⟨23, _⟩ => ⟨S512x1024, .bf16⟩
  | .hbm, ⟨24, _⟩ => ⟨S1x512x1024, .bf16⟩
  | .hbm, ⟨25, _⟩ => ⟨S512x1024, .bf16⟩
  | .hbm, ⟨26, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1024x3072, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S8x3x1024 : Shape := ⟨3, ![8, 3, 1024]⟩
abbrev S1024 : Shape := ⟨1, ![1024]⟩
abbrev S8x4096x512 : Shape := ⟨3, ![8, 4096, 512]⟩
abbrev S1024x3072 : Shape := ⟨2, ![1024, 3072]⟩
abbrev S3x512x1024 : Shape := ⟨3, ![3, 512, 1024]⟩
abbrev S1024x1024 : Shape := ⟨2, ![1024, 1024]⟩
abbrev S8x4096x8x128 : Shape := ⟨4, ![8, 4096, 8, 128]⟩
abbrev S8x4096x8x64 : Shape := ⟨4, ![8, 4096, 8, 64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S1x512x1024 : Shape := ⟨3, ![1, 512, 1024]⟩
abbrev S512x1024 : Shape := ⟨2, ![512, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024, .f32⟩
  | .hbm, ⟨4, _⟩ => ⟨S8x4096x1024, .bf16⟩
  | .hbm, ⟨5, _⟩ => ⟨S8x4096x512, .bf16⟩
  | .hbm, ⟨6, _⟩ => ⟨S8x4096x512, .bf16⟩
  | .hbm, ⟨7, _⟩ => ⟨S1024x3072, .f32⟩
  | .hbm, ⟨8, _⟩ => ⟨S3x512x1024, .f32⟩
  | .hbm, ⟨9, _⟩ => ⟨S1024x1024, .f32⟩
  | .hbm, ⟨10, _⟩ => ⟨S8x4096x8x128, .bf16⟩
  | .hbm, ⟨11, _⟩ => ⟨S8x4096x8x64, .bf16⟩
  | .hbm, ⟨12, _⟩ => ⟨S8x4096x512, .bf16⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x1024, .f32⟩
  | .hbm, ⟨31, _⟩ => ⟨S8x1x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x1x1024, .f32⟩
  | .hbm, ⟨38, _⟩ => ⟨S8x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S1024x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x4096x1024, .f32⟩
  | .hbm, ⟨51, _⟩ => ⟨S8x4096x1024, .f32⟩
  | .hbm, ⟨52, _⟩ => ⟨S8x4096x512, .f32⟩
  | .hbm, ⟨53, _⟩ => ⟨S1x512x1024, .f32⟩
  | .hbm, ⟨54, _⟩ => ⟨S512x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S1024x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096x1024, .f32⟩
  | .hbm, ⟨66, _⟩ => ⟨S8x4096x1024, .f32⟩
  | .hbm, ⟨67, _⟩ => ⟨S_, .f32⟩
  | .hbm, ⟨68, _⟩ => ⟨S8x4096x1024, .f32⟩
  | .hbm, ⟨69, _⟩ => ⟨S8x4096x1024, .f32⟩
  | .hbm, ⟨70, _⟩ => ⟨S8x4096x512, .f32⟩
  | .hbm, ⟨71, _⟩ => ⟨S1x512x1024, .f32⟩
  | .hbm, ⟨72, _⟩ => ⟨S512x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S1024x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S_, .f32⟩
  | .hbm, ⟨81, _⟩ => ⟨S8x4096x1024, .f32⟩
  | .hbm, ⟨82, _⟩ => ⟨S8x4096x1024, .f32⟩
  | .hbm, ⟨83, _⟩ => ⟨S_, .f32⟩
  | .hbm, ⟨84, _⟩ => ⟨S8x4096x1024, .f32⟩
  | .hbm, ⟨85, _⟩ => ⟨S8x4096x1024, .f32⟩
  | .hbm, ⟨86, _⟩ => ⟨S8x4096x512, .f32⟩
  | .hbm, ⟨87, _⟩ => ⟨S1x512x1024, .f32⟩
  | .hbm, ⟨88, _⟩ => ⟨S512x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x1x1024, .f32⟩
  | .hbm, ⟨94, _⟩ => ⟨S8x1024, .f32⟩
  | .hbm, ⟨95, _⟩ => ⟨S8x1x1024, .f32⟩
  | .hbm, ⟨96, _⟩ => ⟨S8x4096x1024, .f32⟩
  | .hbm, ⟨97, _⟩ => ⟨S_, .f32⟩
  | .hbm, ⟨98, _⟩ => ⟨S8x4096, .f32⟩
  | .hbm, ⟨99, _⟩ => ⟨S8x4096x1, .f32⟩
  | .hbm, ⟨100, _⟩ => ⟨S_, .f32⟩
  | .hbm, ⟨101, _⟩ => ⟨S8x4096x1, .f32⟩
  | .hbm, ⟨102, _⟩ => ⟨S8x4096x1, .f32⟩
  | .hbm, ⟨103, _⟩ => ⟨S_, .f32⟩
  | .hbm, ⟨104, _⟩ => ⟨S8x4096x1, .f32⟩
  | .hbm, ⟨105, _⟩ => ⟨S8x4096x1, .f32⟩
  | .hbm, ⟨106, _⟩ => ⟨S8x4096x1, .f32⟩
  | .hbm, ⟨107, _⟩ => ⟨S8x4096x1024, .f32⟩
  | .hbm, ⟨108, _⟩ => ⟨S8x4096x1024, .f32⟩
  | .hbm, ⟨109, _⟩ => ⟨S1x1x1024, .f32⟩
  | .hbm, ⟨110, _⟩ => ⟨S8x4096x1024, .f32⟩
  | .hbm, ⟨111, _⟩ => ⟨S8x4096x1024, .f32⟩
  | .hbm, ⟨112, _⟩ => ⟨S8x4096x1024, .f32⟩
  | .hbm, ⟨113, _⟩ => ⟨S8x4096x1024, .f32⟩
  | .hbm, ⟨114, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩

abbrev nD : Nat := 1
abbrev τ : Topo := Topo.v7x

variable {F : FTy → Type} [FloatOps F]
-- ==== Kernel4.lean ====
abbrev S8x4096x1024 : Shape := ⟨3, ![8, 4096, 1024]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S8x4096x512 : Shape := ⟨3, ![8, 4096, 512]⟩
abbrev S1x512x1024 : Shape := ⟨3, ![1, 512, 1024]⟩
abbrev S1x512x512 : Shape := ⟨3, ![1, 512, 512]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S1x128x512 : Shape := ⟨3, ![1, 128, 512]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x128, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x512, .f32⟩
  | .local _ .vmem, ⟨6, _⟩ => ⟨S1x512x512, .bf16⟩
  | .local _ .vmem, ⟨7, _⟩ => ⟨S1x512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x4096x1024 : Shape := ⟨3, ![8, 4096, 1024]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S8x4096x512 : Shape := ⟨3, ![8, 4096, 512]⟩
abbrev S8x4096 : Shape := ⟨2, ![8, 4096]⟩
abbrev S8x4096x1 : Shape := ⟨3, ![8, 4096, 1]⟩
abbrev S1x1x512 : Shape := ⟨3, ![1, 1, 512]⟩
abbrev S8x32x128x4x128 : Shape := ⟨5, ![8, 32, 128, 4, 128]⟩
abbrev S128x128 : Shape := ⟨2, ![128, 128]⟩
abbrev S4x8x32x128x128 : Shape := ⟨5, ![4, 8, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x512, .f32⟩
  | .hbm, ⟨23, _⟩ => ⟨S8x4096x512, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x512, .f32⟩
  | .hbm, ⟨40, _⟩ => ⟨S8x4096x512, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x512, .f32⟩
  | .hbm, ⟨46, _⟩ => ⟨S8x4096x512, .f32⟩
  | .hbm, ⟨47, _⟩ => ⟨S1x1x512, .f32⟩
  | .hbm, ⟨48, _⟩ => ⟨S8x4096x512, .f32⟩
  | .hbm, ⟨49, _⟩ => ⟨S8x4096x512, .f32⟩
  | .hbm, ⟨50, _⟩ => ⟨S1x1x512, .f32⟩
  | .hbm, ⟨51, _⟩ => ⟨S8x4096x512, .f32⟩
  | .hbm, ⟨52, _⟩ => ⟨S8x4096x512, .f32⟩
  | .hbm, ⟨53, _⟩ => ⟨S8x32x128x4x128, .f32⟩
  | .hbm, ⟨54, _⟩ => ⟨S_, .i1⟩
  | .hbm, ⟨55, _⟩ => ⟨S128x128, .i1⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S_, .i1⟩
  | .hbm, ⟨63, _⟩ => ⟨S128x128, .i1⟩
  | .hbm, ⟨64, _⟩ => ⟨S128x128, .i1⟩
  | .hbm, ⟨65, _⟩ => ⟨S_, .i32⟩
  | .hbm, ⟨66, _⟩ => ⟨S_, .f32⟩
  | .hbm, ⟨67, _⟩ => ⟨S4x128x128, .i1⟩
  | .hbm, ⟨68, _⟩ => ⟨S4x128x128, .f32⟩
  | .hbm, ⟨69, _⟩ => ⟨S4x128x128, .f32⟩
  | .hbm, ⟨70, _⟩ => ⟨S4x8x32x128x128, .f32⟩
  | .hbm, ⟨71, _⟩ => ⟨S8x32x128x4x128, .f32⟩
  | .hbm, ⟨72, _⟩ => ⟨S128x4, .f32⟩
  | .hbm, ⟨73, _⟩ => ⟨S128x4x1, .f32⟩
  | .hbm, ⟨74, _⟩ => ⟨S1x1x128x4x1, .f32⟩
  | .hbm, ⟨75, _⟩ => ⟨S8x32x128x4x128, .f32⟩
  | .hbm, ⟨76, _⟩ => ⟨S8x32x128x4x128, .f32⟩
  | .hbm, ⟨77, _⟩ => ⟨S8x4096x512, .f32⟩
  | .hbm, ⟨78, _⟩ => ⟨S8x4096x512, .f32⟩
  | .hbm, ⟨79, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_v40 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v41 : Ref sig .tc := ⟨.hbm, 64, rfl⟩
abbrev main_c_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x3x1024 : Shape := ⟨3, ![8, 3, 1024]⟩
abbrev S1024 : Shape := ⟨1, ![1024]⟩
abbrev S1024x7192 : Shape := ⟨2, ![1024, 7192]⟩
abbrev S1x1024 : Shape := ⟨2, ![1, 1024]⟩
abbrev S1x256 : Shape := ⟨2, ![1, 256]⟩
abbrev S1024x512 : Shape := ⟨2, ![1024, 512]⟩
abbrev S1024x128 : Shape := ⟨2, ![1024, 128]⟩
abbrev S1024x24 : Shape := ⟨2, ![1024, 24]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x2x64 : Shape := ⟨3, ![1024, 2, 64]⟩
abbrev S1024x2x128 : Shape := ⟨3, ![1024, 2, 128]⟩
abbrev S1024x256 : Shape := ⟨2, ![1024, 256]⟩
abbrev S1024x2x12 : Shape := ⟨3, ![1024, 2, 12]⟩
abbrev S1024x2816 : Shape := ⟨2, ![1024, 2816]⟩
abbrev S1024x4864 : Shape := ⟨2, ![1024, 4864]⟩
abbrev S512x1024 : Shape := ⟨2, ![512, 1024]⟩
abbrev S8x4096x256 : Shape := ⟨3, ![8, 4096, 256]⟩
abbrev S8x4096x1792 : Shape := ⟨3, ![8, 4096, 1792]⟩
abbrev S8x2x8x128x512 : Shape := ⟨5, ![8, 2, 8, 128, 512]⟩
abbrev S8x2x32x128x128 : Shape := ⟨5, ![8, 2, 32, 128, 128]⟩
abbrev S1x512x1024 : Shape := ⟨3, ![1, 512, 1024]⟩
abbrev S1x3x1024 : Shape := ⟨3, ![1, 3, 1024]⟩
abbrev S1x512x256 : Shape := ⟨3, ![1, 512, 256]⟩
abbrev S1x512x1792 : Shape := ⟨3, ![1, 512, 1792]⟩
abbrev S1x2x1x128x512 : Shape := ⟨5, ![1, 2, 1, 128, 512]⟩
abbrev S1x2x4x128x128 : Shape := ⟨5, ![1, 2, 4, 128, 128]⟩
abbrev S512 : Shape := ⟨1, ![512]⟩
abbrev S512x1 : Shape := ⟨2, ![512, 1]⟩
abbrev S1x1x1024 : Shape := ⟨3, ![1, 1, 1024]⟩
abbrev S512x256 : Shape := ⟨2, ![512, 256]⟩
abbrev S1024x1792 : Shape := ⟨2, ![1024, 1792]⟩
abbrev S512x1792 : Shape := ⟨2, ![512, 1792]⟩
abbrev S512x512 : Shape := ⟨2, ![512, 512]⟩
abbrev S1x512 : Shape := ⟨2, ![1, 512]⟩
abbrev S128x1 : Shape := ⟨2, ![128, 1]⟩
abbrev S128x512 : Shape := ⟨2, ![128, 512]⟩
abbrev S1x1x1x128x512 : Shape := ⟨5, ![1, 1, 1, 128, 512]⟩
abbrev S128x128 : Shape := ⟨2, ![128, 128]⟩
abbrev S1x1x1x128x128 : Shape := ⟨5, ![1, 1, 1, 128, 128]⟩

abbrev nBuf : Space → Nat
  | .hbm => 60
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x7192, .f32⟩
  | .hbm, ⟨4, _⟩ => ⟨S1x1024, .f32⟩
  | .hbm, ⟨5, _⟩ => ⟨S1x256, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x24, .f32⟩
  | .hbm, ⟨14, _⟩ => ⟨S1024x8x64, .f32⟩
  | .hbm, ⟨15, _⟩ => ⟨S_, .i32⟩
  | .hbm, ⟨16, _⟩ => ⟨S_, .f32⟩
  | .hbm, ⟨17, _⟩ => ⟨S1024x8x128, .f32⟩
  | .hbm, ⟨18, _⟩ => ⟨S1024x1024, .f32⟩
  | .hbm, ⟨19, _⟩ => ⟨S1024x2x64, .f32⟩
  | .hbm, ⟨20, _⟩ => ⟨S_, .i32⟩
  | .hbm, ⟨21, _⟩ => ⟨S_, .f32⟩
  | .hbm, ⟨22, _⟩ => ⟨S1024x2x128, .f32⟩
  | .hbm, ⟨23, _⟩ => ⟨S1024x256, .f32⟩
  | .hbm, ⟨24, _⟩ => ⟨S1024x2x64, .f32⟩
  | .hbm, ⟨25, _⟩ => ⟨S_, .i32⟩
  | .hbm, ⟨26, _⟩ => ⟨S_, .f32⟩
  | .hbm, ⟨27, _⟩ => ⟨S1024x2x128, .f32⟩
  | .hbm, ⟨28, _⟩ => ⟨S1024x256, .f32⟩
  | .hbm, ⟨29, _⟩ => ⟨S1024x2x12, .f32⟩
  | .hbm, ⟨30, _⟩ => ⟨S_, .i32⟩
  | .hbm, ⟨31, _⟩ => ⟨S_, .f32⟩
  | .hbm, ⟨32, _⟩ => ⟨S1024x2x128, .f32⟩
  | .hbm, ⟨33, _⟩ => ⟨S1024x256, .f32⟩
  | .hbm, ⟨34, _⟩ => ⟨S1024x2816, .f32⟩
  | .hbm, ⟨35, _⟩ => ⟨S1024x4864, .f32⟩
  | .hbm, ⟨36, _⟩ => ⟨S1024x4864, .bf16⟩
  | .hbm, ⟨37, _⟩ => ⟨S1024x2x64, .f32⟩
  | .hbm, ⟨38, _⟩ => ⟨S_, .i32⟩
  | .hbm, ⟨39, _⟩ => ⟨S_, .f32⟩
  | .hbm, ⟨40, _⟩ => ⟨S1024x2x128, .f32⟩
  | .hbm, ⟨41, _⟩ => ⟨S1024x256, .f32⟩
  | .hbm, ⟨42, _⟩ => ⟨S1024x2x64, .f32⟩
  | .hbm, ⟨43, _⟩ => ⟨S_, .i32⟩
  | .hbm, ⟨44, _⟩ => ⟨S_, .f32⟩
  | .hbm, ⟨45, _⟩ => ⟨S1024x2x128, .f32⟩
  | .hbm, ⟨46, _⟩ => ⟨S1024x256, .f32⟩
  | .hbm, ⟨47, _⟩ => ⟨S1024x512, .f32⟩
  | .hbm, ⟨48, _⟩ => ⟨S512x1024, .f32⟩
  | .hbm, ⟨49, _⟩ => ⟨S512x1024, .bf16⟩
  | .hbm, ⟨50, _⟩ => ⟨S1x1024, .f32⟩
  | .hbm, ⟨51, _⟩ => ⟨S8x4096x1024, .bf16⟩
  | .hbm, ⟨52, _⟩ => ⟨S8x4096x256, .bf16⟩
  | .hbm, ⟨53, _⟩ => ⟨S8x4096x256, .bf16⟩
  | .hbm, ⟨54, _⟩ => ⟨S8x4096x256, .bf16⟩
  | .hbm, ⟨55, _⟩ => ⟨S8x4096x256, .f32⟩
  | .hbm, ⟨56, _⟩ => ⟨S8x4096x1024, .f32⟩
  | .hbm, ⟨57, _⟩ => ⟨S8x4096x1792, .f32⟩
  | .hbm, ⟨58, _⟩ => ⟨S8x2x8x128x512, .bf16⟩
  | .hbm, ⟨59, _⟩ => ⟨S8x2x32x128x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x4864, .bf16⟩
  | .local _ .vmem, ⟨6, _⟩ => ⟨S512x1024, .bf16⟩
  | .local _ .vmem, ⟨7, _⟩ => ⟨S1x1024, .f32⟩
  | .local _ .vmem, ⟨8, _⟩ => ⟨S1x256, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .f32⟩
  | .local _ .vmem, ⟨18, _⟩ => ⟨S1x512x256, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1792, .f32⟩
  | .local _ .vmem, ⟨22, _⟩ => ⟨S1x512x1792, .f32⟩
  | .local _ .vmem, ⟨23, _⟩ => ⟨S1x2x1x128x512, .bf16⟩
  | .local _ .vmem, ⟨24, _⟩ => ⟨S1x2x1x128x512, .bf16⟩
  | .local _ .vmem, ⟨25, _⟩ => ⟨S1x2x4x128x128, .bf16⟩
  | .local _ .vmem, ⟨26, _⟩ => ⟨S1x2x4x128x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_call3_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_call4_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_call5_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_v33_2 : Ref sig .tc := ⟨.hbm, 53, rfl⟩
abbrev main_v33_3 : Ref sig .tc := ⟨.hbm, 54, rfl⟩
abbrev main_v33_4 : Ref sig .tc := ⟨.hbm, 55, rfl⟩
abbrev main_v33_5 : Ref sig .tc := ⟨.hbm, 56, rfl⟩
abbrev main_v33_6 : Ref sig .tc := ⟨.hbm, 57, rfl⟩
abbrev main_v33_7 : Ref sig .tc := ⟨.hbm, 58, rfl⟩
abbrev main_v33_8 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1792 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x4x128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference5Ideal.lean ====
abbrev S8x4096x1024 : Shape := ⟨3, ![8, 4096, 1024]⟩
abbrev S8x3x1024 : Shape := ⟨3, ![8, 3, 1024]⟩
abbrev S1024 : Shape := ⟨1, ![1024]⟩
abbrev S1024x7192 : Shape := ⟨2, ![1024, 7192]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S1024x1304 : Shape := ⟨2, ![1024, 1304]⟩
abbrev S1024x1024 : Shape := ⟨2, ![1024, 1024]⟩
abbrev S1024x1792 : Shape := ⟨2, ![1024, 1792]⟩
abbrev S1024x3072 : Shape := ⟨2, ![1024, 3072]⟩
abbrev S8x4096x1304 : Shape := ⟨3, ![8, 4096, 1304]⟩
abbrev S8x4096x256 : Shape := ⟨3, ![8, 4096, 256]⟩
abbrev S8x4096x1792 : Shape := ⟨3, ![8, 4096, 1792]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3x1024, .f32⟩
  | .hbm, ⟨2, _⟩ => ⟨S1024, .f32⟩
  | .hbm, ⟨3, _⟩ => ⟨S1024x7192, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S1024x1304, .f32⟩
  | .hbm, ⟨34, _⟩ => ⟨S1024x1024, .f32⟩
  | .hbm, ⟨35, _⟩ => ⟨S1024x1792, .f32⟩
  | .hbm, ⟨36, _⟩ => ⟨S1024x3072, .f32⟩
  | .hbm, ⟨37, _⟩ => ⟨S8x4096x1304, .f32⟩
  | .hbm, ⟨38, _⟩ => ⟨S8x4096x256, .f32⟩
  | .hbm, ⟨39, _⟩ => ⟨S8x4096x256, .bf16⟩
  | .hbm, ⟨40, _⟩ => ⟨S8x4096x1024, .f32⟩
  | .hbm, ⟨41, _⟩ => ⟨S8x4096x1792, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Proof.Ops.lean ====
/- Vector operations read at one index, at the ideal values, for matrices of any extents: matrix products, row sums, and
   the casts and broadcasts that add or drop an axis of extent one. -/
module

public import Idealize.ShloMosaic.Lib.Pipeline.Value
public import Idealize.ShloMosaic.Lib.ValueIdx
public import Idealize.ShloMosaic.PureOps.Ideal.Laws

@[expose] public section

noncomputable section

namespace Cert.Ops

open Idealize.ShloMosaic Idealize.ShloMosaic.ValueIdx

section Layout
variable {α : Type}

/-- Dropping a leading unit axis. -/
theorem drop_lead {a b : Nat} (v : (⟨3, ![1, a, b]⟩ : Shape).Idx → α) (h : Shape.ShapeCasts ⟨3, ![1, a, b]⟩ ⟨2, ![a, b]⟩)
    (i : Fin a) (j : Fin b) : shapeCast ⟨2, ![a, b]⟩ v h (ix2 i j) = v (ix3 0 i j) :=
  shapeCast_apply v h (ix2 i j) (ix3 0 i j) (by
    rw [Shape.rowMajor_val_three, Shape.rowMajor_val_two]
    show (0 * a + i.val) * b + j.val = i.val * b + j.val
    rw [Nat.zero_mul, Nat.zero_add])

/-- Adding a leading unit axis. -/
theorem add_lead {a b : Nat} (v : (⟨2, ![a, b]⟩ : Shape).Idx → α) (h : Shape.ShapeCasts ⟨2, ![a, b]⟩ ⟨3, ![1, a, b]⟩)
    (o : Fin 1) (i : Fin a) (j : Fin b) : shapeCast ⟨3, ![1, a, b]⟩ v h (ix3 o i j) = v (ix2 i j) :=
  shapeCast_apply v h (ix3 o i j) (ix2 i j) (by
    rw [Shape.rowMajor_val_three, Shape.rowMajor_val_two]
    have : o.val = 0 := by omega
    show i.val * b + j.val = (o.val * a + i.val) * b + j.val
    rw [this, Nat.zero_mul, Nat.zero_add])

/-- A vector as one column. -/
theorem as_col {a : Nat} (v : (⟨1, ![a]⟩ : Shape).Idx → α) (h : Shape.ShapeCasts ⟨1, ![a]⟩ ⟨2, ![a, 1]⟩)
    (i : Fin a) (o : Fin 1) : shapeCast ⟨2, ![a, 1]⟩ v h (ix2 i o) = v (ix1 i) :=
  shapeCast_apply v h (ix2 i o) (ix1 i) (by
    rw [Shape.rowMajor_val_one, Shape.rowMajor_val_two]
    have : o.val = 0 := by omega
    show i.val = i.val * 1 + o.val
    omega)

/-- A vector as one row. -/
theorem as_row {a : Nat} (v : (⟨1, ![a]⟩ : Shape).Idx → α) (h : Shape.ShapeCasts ⟨1, ![a]⟩ ⟨2, ![1, a]⟩)
    (o : Fin 1) (i : Fin a) : shapeCast ⟨2, ![1, a]⟩ v h (ix2 o i) = v (ix1 i) :=
  shapeCast_apply v h (ix2 o i) (ix1 i) (by
    rw [Shape.rowMajor_val_one, Shape.rowMajor_val_two]
    have : o.val = 0 := by omega
    show i.val = o.val * a + i.val
    rw [this, Nat.zero_mul, Nat.zero_add])

/-- One column spread over the columns of a matrix. -/
theorem spread_col {a b : Nat} (v : (⟨2, ![a, 1]⟩ : Shape).Idx → α) (h : Shape.Broadcasts ⟨2, ![a, 1]⟩ ⟨2, ![a, b]⟩)
    (i : Fin a) (j : Fin b) : broadcastTo ⟨2, ![a, b]⟩ v h (ix2 i j) = v (ix2 i 0) :=
  broadcastTo_apply v h (ix2 i j) (ix2 i 0) (fun c => by
    match c with
    | ⟨0, _⟩ => show i.val = if a = 1 then 0 else i.val
                split
                · have := i.isLt; omega
                · rfl
    | ⟨1, _⟩ => show 0 = if (1 : Nat) = 1 then 0 else j.val; rw [if_pos rfl])

/-- One row spread over the rows of a matrix. -/
theorem spread_row {a b : Nat} (v : (⟨2, ![1, b]⟩ : Shape).Idx → α) (h : Shape.Broadcasts ⟨2, ![1, b]⟩ ⟨2, ![a, b]⟩)
    (i : Fin a) (j : Fin b) : broadcastTo ⟨2, ![a, b]⟩ v h (ix2 i j) = v (ix2 0 j) :=
  broadcastTo_apply v h (ix2 i j) (ix2 0 j) (fun c => by
    match c with
    | ⟨0, _⟩ => show 0 = if (1 : Nat) = 1 then 0 else i.val; rw [if_pos rfl]
    | ⟨1, _⟩ => show j.val = if b = 1 then 0 else j.val
                split
                · have := j.isLt; omega
                · rfl)

end Layout

/-- The sum along the rows of a matrix. -/
theorem row_sum {a b : Nat} (v : FVec Ideal ⟨2, ![a, b]⟩ .f32) (h : Shape.Reduces ⟨2, ![a, b]⟩ [1] ⟨1, ![a]⟩) (i : Fin a) :
    multiReduction .add [1] ⟨1, ![a]⟩ v 0x00000000#32 h (.inl rfl) rfl (ix1 i) = ∑ k : Fin b, v (ix2 i k) := by
  refine (Ideal.multiReduction_add_single v _ h (.inl rfl) rfl (ix1 i)).trans ?_
  refine Finset.sum_congr rfl fun k _ => congrArg v (funext fun c => Fin.ext ?_)
  match c with
  | ⟨0, _⟩ => rfl
  | ⟨1, _⟩ => rfl

/-- The contraction index of a rows-by-columns product is its one coordinate. -/
theorem mm_plain {M K N : Nat} {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂) (i : Fin M) (j : Fin N) :
    matmul D prec l r (constant ⟨2, ![M, N]⟩ .f32 0x00000000#32) (ix2 i j) = ∑ k : Fin K, l (ix2 i k) * r (ix2 k j) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun c => Fin.ext (by
      match c with
      | ⟨0, _⟩ => rfl
      | ⟨1, _⟩ => exact hk)
  have er : (DotDims.plain M K N).rhsIdx (ix2 i j) ((contrEquiv1 (DotDims.plain M K N) K rfl rfl).symm k) = ix2 k j :=
    funext fun c => Fin.ext (by
      match c with
      | ⟨0, _⟩ => exact hk
      | ⟨1, _⟩ => rfl)
  rw [el, er]

/-- A product of the rows of both operands. -/
theorem mm_rows {M K N : Nat} {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂) (i : Fin M) (j : Fin N) :
    matmul D prec l r (constant ⟨2, ![M, N]⟩ .f32 0x00000000#32) (ix2 i j) = ∑ k : Fin K, l (ix2 i k) * r (ix2 j k) := by
  subst hD
  simp only [matmul]
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun c => Fin.ext (by
      match c with
      | ⟨0, _⟩ => rfl
      | ⟨1, _⟩ => exact hk)
  have er : (DotDims.transposedRhs M K N).rhsIdx (ix2 i j) ((contrEquiv1 (DotDims.transposedRhs M K N) K rfl rfl).symm k) = ix2 j k :=
    funext fun c => Fin.ext (by
      match c with
      | ⟨0, _⟩ => rfl
      | ⟨1, _⟩ => exact hk)
  rw [el, er]

end Cert.Ops

end
-- ==== Proof.FfnSpec.lean ====
/- The feed-forward call on one token row, over the extended reals: the modulated normalisation, the gated hidden layer and
   the gated residual. Both programs of the second claim compute this function row by row. -/
module

public import proofs.«01_k».proof.Proof.Ops

@[expose] public section

noncomputable section

namespace Cert.Ffn

open Idealize.ShloMosaic

/-- The constants of the layer, as the programs print them. -/
abbrev zero : EReal := Ideal.ofBits .f32 0x00000000#32
abbrev one : EReal := Ideal.ofBits .f32 0x3F800000#32
abbrev half : EReal := Ideal.ofBits .f32 0x3F000000#32
abbrev width : EReal := Ideal.ofBits .f32 0x44800000#32
abbrev eps : EReal := Ideal.ofBits .f32 0x358637BD#32

/-- A row divided by its root mean square. -/
def rms (x : Fin 1024 → EReal) (j : Fin 1024) : EReal :=
  x j * Ideal.rsqrt (Ideal.div (∑ k, x k * x k) width + eps)

/-- The modulated, normalised row. -/
def pre (x g sc sh : Fin 1024 → EReal) (j : Fin 1024) : EReal :=
  rms x j * g j * (one + sc j) + sh j

/-- One hidden unit before the gate. -/
def hid (p : Fin 1024 → EReal) (w : Fin 1024 → Fin 5632 → EReal) (u : Fin 5632) : EReal := ∑ k, p k * w k u

/-- `z` times its logistic. -/
def silu (z : EReal) : EReal := z * Ideal.div one (one + Ideal.exp (zero - z))

/-- One gated hidden unit. -/
def act (p : Fin 1024 → EReal) (w : Fin 1024 → Fin 5632 → EReal) (u : Fin 2816) : EReal :=
  silu (hid p w ⟨u.val, by omega⟩) * hid p w ⟨2816 + u.val, by omega⟩

/-- The second layer. -/
def down (p : Fin 1024 → EReal) (w : Fin 1024 → Fin 5632 → EReal) (wo : Fin 2816 → Fin 1024 → EReal) (j : Fin 1024) : EReal :=
  ∑ u, act p w u * wo u j

/-- The residual row. -/
def row (x sh sc gate g1 g2 : Fin 1024 → EReal) (w : Fin 1024 → Fin 5632 → EReal) (wo : Fin 2816 → Fin 1024 → EReal)
    (j : Fin 1024) : EReal :=
  x j + half * gate j * (rms (down (pre x g1 sc sh) w wo) j * g2 j)

/-- A sum over the hidden units, in the two halves the kernel takes it in. -/
theorem sum_halves (f : Fin 2816 → EReal) :
    ∑ u, f u = ∑ a : Fin 1408, f ⟨a.val, by omega⟩ + ∑ a : Fin 1408, f ⟨1408 + a.val, by omega⟩ :=
  Fin.sum_univ_add (a := 1408) (b := 1408) f

end Cert.Ffn

end
-- ==== Proof.MergeSpec.lean ====
/- The merge of the branches on one token row, over the extended reals: gates from the modulated normalisation, the branches'
   projections, the output projection and the gated residual. Both programs of the third claim compute this function row by row. -/
module

public import proofs.«01_k».proof.Proof.FfnSpec
public import Idealize.ShloMosaic.Lib.KernelVsHost

@[expose] public section

noncomputable section

namespace Cert.Merge

open Cert.Ffn
open Idealize.ShloMosaic Idealize.ShloMosaic.ValueIdx

/-- The logistic function. -/
def logistic (z : EReal) : EReal := Ideal.div one (one + Ideal.exp (zero - z))

/-- One channel of a branch's gate, the branch's columns beginning at `o`. -/
def gate (p : Fin 1024 → EReal) (w : Fin 1024 → Fin 3072 → EReal) (o : Nat) (ho : o + 1024 ≤ 3072) (j : Fin 1024) : EReal :=
  logistic (∑ k, p k * w k ⟨o + j.val, by omega⟩)

/-- One channel of a branch's projection. -/
def proj {n : Nat} (y : Fin n → EReal) (w : Fin n → Fin 1024 → EReal) (j : Fin 1024) : EReal := ∑ k, y k * w k j

/-- One channel of the gated sum of the projected branches. -/
def merged (p : Fin 1024 → EReal) (w : Fin 1024 → Fin 3072 → EReal) (a b c : Fin 1024 → EReal) (j : Fin 1024) : EReal :=
  gate p w 0 (by omega) j * a j + gate p w 1024 (by omega) j * b j + gate p w 2048 (by omega) j * c j

/-- The residual row. -/
def row (x sh sc gt g1 g2 : Fin 1024 → EReal) (w : Fin 1024 → Fin 3072 → EReal) (a b c : Fin 1024 → EReal)
    (wo : Fin 1024 → Fin 1024 → EReal) (j : Fin 1024) : EReal :=
  x j + gt j * (rms (proj (merged (pre x g1 sc sh) w a b c) wo) j * g2 j)

/-- Where a channel of the attention's row stands in its padded row: 64 of each head's 128 columns. -/
def lane (u : Fin 512) : Fin 1024 := ⟨u.val / 64 * 128 + u.val % 64, by omega⟩

/-- A padded sum whose terms outside the channels are zero. -/
theorem sum_lanes (f : Fin 1024 → EReal) (h : ∀ k : Fin 1024, ¬ k.val % 128 < 64 → f k = 0) : ∑ k, f k = ∑ u, f (lane u) := by
  refine (Finset.sum_of_injOn lane ?_ (fun _ _ => Finset.mem_coe.mpr (Finset.mem_univ _)) (fun k _ hk => h k fun hlt => hk ?_) fun _ _ => rfl).symm
  · intro u _ v _ e
    have e' : u.val / 64 * 128 + u.val % 64 = v.val / 64 * 128 + v.val % 64 := congrArg Fin.val e
    exact Fin.ext (by omega)
  · refine ⟨⟨k.val / 128 * 64 + k.val % 128, by omega⟩, Finset.mem_coe.mpr (Finset.mem_univ _), Fin.ext ?_⟩
    show (k.val / 128 * 64 + k.val % 128) / 64 * 128 + (k.val / 128 * 64 + k.val % 128) % 64 = k.val
    omega

/-- The padded weights: 64 rows of the weights, then 64 rows of zeros, per head. -/
def padded (w : Fin 512 → Fin 1024 → EReal) (k j : Fin 1024) : EReal :=
  if h : k.val % 128 < 64 then w ⟨k.val / 128 * 64 + k.val % 128, by omega⟩ j else 0

/-- The padded row times the padded weights is the row times the weights, whatever the padding of the row. -/
theorem proj_padded (y : Fin 1024 → EReal) (w : Fin 512 → Fin 1024 → EReal) (j : Fin 1024) :
    proj y (padded w) j = proj (fun u => y (lane u)) w j := by
  unfold proj
  rw [sum_lanes _ fun k hk => by rw [padded, dif_neg hk, mul_zero]]
  refine Finset.sum_congr rfl fun u _ => ?_
  have hu : (lane u).val % 128 < 64 := by show (u.val / 64 * 128 + u.val % 64) % 128 < 64; omega
  rw [padded, dif_pos hu]
  refine congrArg (fun v => y (lane u) * w v j) (Fin.ext ?_)
  show (u.val / 64 * 128 + u.val % 64) / 128 * 64 + (u.val / 64 * 128 + u.val % 64) % 128 = u.val
  omega

end Cert.Merge

end
-- ==== Proof.FfnBlock.lean ====
/- The feed-forward kernel's body: the block it leaves is the row function of each row of the staged block. -/
module

public import proofs.«01_k».proof.Proof.FfnSpec
public import proofs.«01_k».proof.Proof.Gen.Kernel2Ideal.Value

@[expose] public section

noncomputable section

namespace Cert.Ffn.Block

open Cert.Kernel2Ideal Cert.Kernel2Ideal.Gen Cert.Ops Cert.Ffn
open Idealize.ShloMosaic Idealize.ShloMosaic.ValueIdx

/-- The first part's normalised block. -/
theorem pay3 (P0 : Vec Ideal S1x512x1024 .f32) (P2 : Vec Ideal S1x1024 .f32) (P3 P4 : Vec Ideal S1x1x1024 .f32)
    (r : Fin 512) (j : Fin 1024) :
    k0_pay3 (F := Ideal) P0 P2 P3 P4 (ix2 r j)
      = pre (fun k => P0 (ix3 0 r k)) (fun k => P2 (ix2 0 k)) (fun k => P3 (ix3 0 0 k)) (fun k => P4 (ix3 0 0 k)) j := by
  unfold k0_pay3 k0_pay2 pre rms
  simp only [truncf_apply, addf_apply, mulf_apply, divf_apply, drop_lead, spread_col, spread_row, as_col, shapeCast_self, row_sum,
    broadcast_apply, rsqrt, Ideal.rsqrt_def]
  rw [row_sum]
  simp only [mulf_apply, drop_lead]
  rfl

/-- The gate's and the value's products, and the gated units of one half of the hidden layer. -/
theorem half_act (p : FVec Ideal S512x1024 .bf16) (w1 w2 : FVec Ideal S1024x1408 .bf16)
    (o : Nat) (ho : o + 1408 ≤ 2816) (w : Fin 1024 → Fin 5632 → EReal)
    (h1 : ∀ k (u : Fin 1408), w1 (ix2 k u) = w k ⟨o + u.val, by omega⟩)
    (h2 : ∀ k (u : Fin 1408), w2 (ix2 k u) = w k ⟨2816 + (o + u.val), by omega⟩) (r : Fin 512) (u : Fin 1408) :
    mulf (mulf (matmul dot_S512x1024_S1024x1408_S512x1408_1_0_0_1_n_n none p w1 (constant S512x1408 .f32 0x00000000#32))
        (divf (broadcast S512x1408 (Scalar.ofBits (F := Ideal) .f32 0x3F800000#32))
          (addf (broadcast S512x1408 (Scalar.ofBits (F := Ideal) .f32 0x3F800000#32))
            (exp (subf (broadcast S512x1408 (Scalar.ofBits (F := Ideal) .f32 0x00000000#32))
              (matmul dot_S512x1024_S1024x1408_S512x1408_1_0_0_1_n_n none p w1 (constant S512x1408 .f32 0x00000000#32)))))))
      (matmul dot_S512x1024_S1024x1408_S512x1408_1_0_0_1_n_n none p w2 (constant S512x1408 .f32 0x00000000#32)) (ix2 r u)
      = act (fun k => p (ix2 r k)) w ⟨o + u.val, by omega⟩ := by
  have e1 : matmul dot_S512x1024_S1024x1408_S512x1408_1_0_0_1_n_n none p w1 (constant S512x1408 .f32 0x00000000#32) (ix2 r u)
      = hid (fun k => p (ix2 r k)) w ⟨o + u.val, by omega⟩ :=
    (mm_plain _ rfl none p w1 r u).trans (Finset.sum_congr rfl fun k _ => by rw [h1])
  have e2 : matmul dot_S512x1024_S1024x1408_S512x1408_1_0_0_1_n_n none p w2 (constant S512x1408 .f32 0x00000000#32) (ix2 r u)
      = hid (fun k => p (ix2 r k)) w ⟨2816 + (o + u.val), by omega⟩ :=
    (mm_plain _ rfl none p w2 r u).trans (Finset.sum_congr rfl fun k _ => by rw [h2])
  simp only [mulf_apply, divf_apply, addf_apply, subf_apply, exp, Ideal.exp_def, broadcast_apply, e1, e2]
  rfl

/-- The second layer over one half of the hidden units. -/
theorem half_down (a : FVec Ideal S512x1408 .bf16) (w2 : FVec Ideal S1408x1024 .bf16) (f : Fin 1408 → EReal)
    (wo : Fin 1408 → Fin 1024 → EReal) (r : Fin 512) (ha : ∀ u, a (ix2 r u) = f u) (hw : ∀ u j, w2 (ix2 u j) = wo u j) (j : Fin 1024) :
    matmul dot_S512x1408_S1408x1024_S512x1024_1_0_0_1_n_n none a w2 (constant S512x1024 .f32 0x00000000#32) (ix2 r j)
      = ∑ u, f u * wo u j :=
  (mm_plain _ rfl none a w2 r j).trans (Finset.sum_congr rfl fun u _ => by rw [ha, hw])

/-- The hidden layer's output block, for any staged weights. -/
theorem pay7 (P0 : Vec Ideal S1x512x1024 .f32) (P2 : Vec Ideal S1x1024 .f32) (P3 P4 : Vec Ideal S1x1x1024 .f32)
    (A B A' B' : Vec Ideal S1024x1408 .bf16) (C C' : Vec Ideal S1408x1024 .bf16)
    (w : Fin 1024 → Fin 5632 → EReal) (wo : Fin 2816 → Fin 1024 → EReal)
    (hA : ∀ k (u : Fin 1408), A (ix2 k u) = w k ⟨0 + u.val, by omega⟩)
    (hB : ∀ k (u : Fin 1408), B (ix2 k u) = w k ⟨2816 + (0 + u.val), by omega⟩)
    (hA' : ∀ k (u : Fin 1408), A' (ix2 k u) = w k ⟨1408 + u.val, by omega⟩)
    (hB' : ∀ k (u : Fin 1408), B' (ix2 k u) = w k ⟨2816 + (1408 + u.val), by omega⟩)
    (hC : ∀ (u : Fin 1408) j, C (ix2 u j) = wo ⟨0 + u.val, by omega⟩ j)
    (hC' : ∀ (u : Fin 1408) j, C' (ix2 u j) = wo ⟨1408 + u.val, by omega⟩ j) (r : Fin 512) (j : Fin 1024) :
    k0_pay7 (F := Ideal) (k0_pay3 P0 P2 P3 P4) (k0_pay4 P0 P2 P3 P4 A) (k0_pay5 P0 P2 P3 P4 B) (k0_pay6 P0 P2 P3 P4 A) C A' B' C' (ix2 r j)
      = down (pre (fun k => P0 (ix3 0 r k)) (fun k => P2 (ix2 0 k)) (fun k => P3 (ix3 0 0 k)) (fun k => P4 (ix3 0 0 k))) w wo j := by
  have hp : (fun k => k0_pay3 (F := Ideal) P0 P2 P3 P4 (ix2 r k))
      = pre (fun k => P0 (ix3 0 r k)) (fun k => P2 (ix2 0 k)) (fun k => P3 (ix3 0 0 k)) (fun k => P4 (ix3 0 0 k)) :=
    funext fun k => pay3 P0 P2 P3 P4 r k
  unfold k0_pay7 k0_pay6 k0_pay5 k0_pay4
  simp only [shapeCast_self]
  rw [addf_apply, down, sum_halves]
  refine congrArg₂ (· + ·) ?_ ?_
  · refine (half_down _ C (fun u => act (fun k => k0_pay3 (F := Ideal) P0 P2 P3 P4 (ix2 r k)) w ⟨0 + u.val, by omega⟩) _ r (fun u => ?_) hC j).trans
      (Finset.sum_congr rfl fun u _ => ?_)
    · exact half_act (k0_pay3 P0 P2 P3 P4) A B 0 (by omega) w hA hB r u
    · rw [hp]; simp only [Nat.zero_add]
  · refine (half_down _ C' (fun u => act (fun k => k0_pay3 (F := Ideal) P0 P2 P3 P4 (ix2 r k)) w ⟨1408 + u.val, by omega⟩) _ r (fun u => ?_) hC' j).trans
      (Finset.sum_congr rfl fun u _ => ?_)
    · exact half_act (k0_pay3 P0 P2 P3 P4) A' B' 1408 (by omega) w hA' hB' r u
    · rw [hp]

/-- The block's last part: normalise the hidden layer's output, gate it, add the input. -/
theorem pay1 (P0 : Vec Ideal S1x512x1024 .f32) (f : FVec Ideal S512x1024 .f32) (P1 : Vec Ideal S1x1x1024 .f32) (P11 : Vec Ideal S1x1024 .f32)
    (r : Fin 512) (d : Fin 1024 → EReal) (hd : ∀ j, f (ix2 r j) = d j) (o : Fin 1) (j : Fin 1024) :
    k0_pay1 (F := Ideal) (k0_pay2 P0) f (k0_pay8 P1) (k0_pay9 P11) (mulf f f) (ix3 o r j)
      = P0 (ix3 0 r j) + half * P1 (ix3 0 0 j) * (rms d j * P11 (ix2 0 j)) := by
  unfold k0_pay1 k0_pay2 k0_pay8 k0_pay9 rms
  simp only [add_lead, addf_apply, mulf_apply, divf_apply, drop_lead, spread_col, spread_row, as_col, shapeCast_self,
    broadcast_apply, rsqrt, Ideal.rsqrt_def, hd]
  rw [row_sum]
  simp only [mulf_apply, hd]
  rfl

/-- A rectangle of a staged matrix at an index. -/
theorem ld2 {A B a b : Nat} {φ : EltTy} (x : (⟨2, ![A, B]⟩ : Shape).Idx → Elt Ideal φ) (o p : Nat)
    (inb : ∀ c, (![o, p] : Fin 2 → Nat) c + (![a, b] : Fin 2 → Nat) c ≤ (⟨2, ![A, B]⟩ : Shape).size c) (i : Fin a) (j : Fin b)
    (hi : o + i.val < A) (hj : p + j.val < B) :
    View.ld x (Rect.unit (s := ⟨2, ![A, B]⟩) ![o, p] ![a, b] inb) (ix2 i j) = x (ix2 ⟨o + i.val, hi⟩ ⟨p + j.val, hj⟩) := by
  rw [View.ld_unit]
  refine congrArg x (funext fun c => Fin.ext ?_)
  match c with
  | ⟨0, _⟩ => rfl
  | ⟨1, _⟩ => rfl

/-- A rectangle of a staged rank-three block at an index. -/
theorem ld3 {A B C a b d : Nat} {φ : EltTy} (x : (⟨3, ![A, B, C]⟩ : Shape).Idx → Elt Ideal φ) (o p q : Nat)
    (inb : ∀ c, (![o, p, q] : Fin 3 → Nat) c + (![a, b, d] : Fin 3 → Nat) c ≤ (⟨3, ![A, B, C]⟩ : Shape).size c)
    (i : Fin a) (j : Fin b) (k : Fin d) (hi : o + i.val < A) (hj : p + j.val < B) (hk : q + k.val < C) :
    View.ld x (Rect.unit (s := ⟨3, ![A, B, C]⟩) ![o, p, q] ![a, b, d] inb) (ix3 i j k) = x (ix3 ⟨o + i.val, hi⟩ ⟨p + j.val, hj⟩ ⟨q + k.val, hk⟩) := by
  rw [View.ld_unit]
  refine congrArg x (funext fun c => Fin.ext ?_)
  match c with
  | ⟨0, _⟩ => rfl
  | ⟨1, _⟩ => rfl
  | ⟨2, _⟩ => rfl

theorem hz3 : (![0, 0, 0] : Fin 3 → Nat) = fun _ => 0 := funext fun a => by fin_cases a <;> rfl

/-- What the body leaves in its output block. -/
theorem out (x0 : Vec Ideal S1x512x1024 .f32) (x1 : Vec Ideal S1x3x1024 .f32) (x2 x3 : Vec Ideal S1x1024 .f32)
    (x4 : Vec Ideal S1024x5632 .bf16) (x5 : Vec Ideal S2816x1024 .bf16) (o : Fin 1) (r : Fin 512) (j : Fin 1024) :
    out0_6 (F := Ideal) x0 x1 x2 x3 x4 x5 (ix3 o r j)
      = row (fun k => x0 (ix3 0 r k)) (fun k => x1 (ix3 0 0 k)) (fun k => x1 (ix3 0 1 k)) (fun k => x1 (ix3 0 2 k))
          (fun k => x2 (ix2 0 k)) (fun k => x3 (ix2 0 k)) (fun k u => x4 (ix2 k u)) (fun u k => x5 (ix2 u k)) j := by
  unfold_out out0_6
  rw [View.canon_unit_zero hz3]
  unfold k0_pay10
  have hx0 : ∀ k : Fin 1024, View.ld x0 r0_0 (ix3 0 r k) = x0 (ix3 0 r k) := fun k => congrFun (View.ld_unit_zero hz3 _ x0) (ix3 0 r k)
  have e := fun k => pay7 (View.ld x0 r0_0) (View.ld x2 r0_1) (View.ld x1 r0_2) (View.ld x1 r0_3) (View.ld x4 r0_4) (View.ld x4 r0_5)
    (View.ld x4 r0_7) (View.ld x4 r0_8) (View.ld x5 r0_6) (View.ld x5 r0_9) (fun k u => x4 (ix2 k u)) (fun u k => x5 (ix2 u k))
    (fun k u => (ld2 x4 0 0 _ k u (by omega) (by omega)).trans (by simp only [Nat.zero_add]))
    (fun k u => (ld2 x4 0 2816 _ k u (by omega) (by omega)).trans (by simp only [Nat.zero_add]))
    (fun k u => (ld2 x4 0 1408 _ k u (by omega) (by omega)).trans (by simp only [Nat.zero_add]))
    (fun k u => (ld2 x4 0 4224 _ k u (by omega) (by omega)).trans (by simp only [Nat.zero_add]; congr 2; exact Fin.ext (by simp only []; omega)))
    (fun u k => (ld2 x5 0 0 _ u k (by omega) (by omega)).trans (by simp only [Nat.zero_add]))
    (fun u k => (ld2 x5 1408 0 _ u k (by omega) (by omega)).trans (by simp only [Nat.zero_add])) r k
  refine (pay1 (View.ld x0 r0_0) _ (View.ld x1 r0_10) (View.ld x3 r0_1) r _ e o j).trans ?_
  have s0 : ∀ k : Fin 1024, View.ld x1 r0_3 (ix3 0 0 k) = x1 (ix3 0 0 k) := fun k =>
    (ld3 x1 0 0 0 _ 0 0 k (by omega) (by omega) (by omega)).trans (by simp only [Nat.zero_add]; rfl)
  have s1 : ∀ k : Fin 1024, View.ld x1 r0_2 (ix3 0 0 k) = x1 (ix3 0 1 k) := fun k =>
    (ld3 x1 0 1 0 _ 0 0 k (by omega) (by omega) (by omega)).trans (by simp only [Nat.zero_add]; rfl)
  have s2 : ∀ k : Fin 1024, View.ld x1 r0_10 (ix3 0 0 k) = x1 (ix3 0 2 k) := fun k =>
    (ld3 x1 0 2 0 _ 0 0 k (by omega) (by omega) (by omega)).trans (by simp only [Nat.zero_add]; rfl)
  have g0 : ∀ k : Fin 1024, View.ld x2 r0_1 (ix2 0 k) = x2 (ix2 0 k) := fun k =>
    (ld2 x2 0 0 _ 0 k (by omega) (by omega)).trans (by simp only [Nat.zero_add])
  have g1 : ∀ k : Fin 1024, View.ld x3 r0_1 (ix2 0 k) = x3 (ix2 0 k) := fun k =>
    (ld2 x3 0 0 _ 0 k (by omega) (by omega)).trans (by simp only [Nat.zero_add])
  simp only [hx0, s0, s1, s2, g0, g1]
  rfl

end Cert.Ffn.Block

end
-- ==== Proof.MergeBlock.lean ====
/- The merge kernel's body: the block it leaves is the row function of each row of the staged blocks. -/
module

public import proofs.«01_k».proof.Proof.MergeSpec
public import proofs.«01_k».proof.Proof.FfnBlock
public import proofs.«01_k».proof.Proof.Gen.Kernel3Ideal.Value

@[expose] public section

noncomputable section

namespace Cert.Merge.Block

open Cert.Kernel3Ideal Cert.Kernel3Ideal.Gen Cert.Ops Cert.Ffn Cert.Merge
open Cert.Ffn.Block (ld2 ld3 hz3)
open Idealize.ShloMosaic Idealize.ShloMosaic.ValueIdx

/-- The normalised block. -/
theorem pay3 (P0 : Vec Ideal S1x512x1024 .f32) (P2 : Vec Ideal S1x1024 .f32) (P3 P4 : Vec Ideal S1x1x1024 .f32)
    (r : Fin 512) (j : Fin 1024) :
    k0_pay3 (F := Ideal) P0 P2 P3 P4 (ix2 r j)
      = pre (fun k => P0 (ix3 0 r k)) (fun k => P2 (ix2 0 k)) (fun k => P3 (ix3 0 0 k)) (fun k => P4 (ix3 0 0 k)) j := by
  unfold k0_pay3 k0_pay2 pre rms
  simp only [truncf_apply, addf_apply, mulf_apply, divf_apply, drop_lead, spread_col, spread_row, as_col, shapeCast_self, row_sum,
    broadcast_apply, rsqrt, Ideal.rsqrt_def]
  rw [row_sum]
  simp only [mulf_apply, drop_lead]
  rfl

/-- A branch's gate. -/
theorem gate_apply (p : FVec Ideal S512x1024 .bf16) (w1 : FVec Ideal S1024x1024 .bf16) (o : Nat) (ho : o + 1024 ≤ 3072)
    (q : Fin 1024 → EReal) (w : Fin 1024 → Fin 3072 → EReal) (r : Fin 512) (hp : ∀ k, p (ix2 r k) = q k)
    (h1 : ∀ k (j : Fin 1024), w1 (ix2 k j) = w k ⟨o + j.val, by omega⟩) (j : Fin 1024) :
    divf (broadcast S512x1024 (Scalar.ofBits (F := Ideal) .f32 0x3F800000#32))
      (addf (broadcast S512x1024 (Scalar.ofBits (F := Ideal) .f32 0x3F800000#32))
        (exp (subf (broadcast S512x1024 (Scalar.ofBits (F := Ideal) .f32 0x00000000#32))
          (matmul dot_S512x1024_S1024x1024_S512x1024_1_0_0_1_n_n none p w1 (constant S512x1024 .f32 0x00000000#32))))) (ix2 r j)
      = gate q w o ho j := by
  have e1 : matmul dot_S512x1024_S1024x1024_S512x1024_1_0_0_1_n_n none p w1 (constant S512x1024 .f32 0x00000000#32) (ix2 r j)
      = ∑ k, q k * w k ⟨o + j.val, by omega⟩ :=
    (mm_plain _ rfl none p w1 r j).trans (Finset.sum_congr rfl fun k _ => by rw [h1, hp])
  simp only [divf_apply, addf_apply, subf_apply, exp, Ideal.exp_def, broadcast_apply, e1]
  rfl

/-- A branch's projection, at either width. -/
theorem proj_wide (y : Vec Ideal S1x512x1024 .bf16) (w : FVec Ideal S1024x1024 .bf16) (r : Fin 512) (j : Fin 1024) :
    matmul dot_S512x1024_S1024x1024_S512x1024_1_0_0_1_n_n none (shapeCast S512x1024 y shapeCasts_S1x512x1024_S512x1024 : FVec Ideal S512x1024 .bf16) w
        (constant S512x1024 .f32 0x00000000#32) (ix2 r j)
      = proj (fun k => y (ix3 0 r k)) (fun k j => w (ix2 k j)) j :=
  (mm_plain _ rfl none _ w r j).trans (Finset.sum_congr rfl fun k _ => by rw [drop_lead])
theorem proj_half (y : Vec Ideal S1x512x512 .bf16) (w : FVec Ideal S512x1024 .bf16) (r : Fin 512) (j : Fin 1024) :
    matmul dot_S512x512_S512x1024_S512x1024_1_0_0_1_n_n none (shapeCast S512x512 y shapeCasts_S1x512x512_S512x512 : FVec Ideal S512x512 .bf16) w
        (constant S512x1024 .f32 0x00000000#32) (ix2 r j)
      = proj (fun k => y (ix3 0 r k)) (fun k j => w (ix2 k j)) j :=
  (mm_plain _ rfl none _ w r j).trans (Finset.sum_congr rfl fun k _ => by rw [drop_lead])

/-- The sum of the first two branches. -/
theorem pay5 (p : FVec Ideal S512x1024 .bf16) (g : FVec Ideal S512x1024 .f32) (ya : Vec Ideal S1x512x1024 .bf16) (wa : Vec Ideal S1024x1024 .bf16)
    (w1 : Vec Ideal S1024x1024 .bf16) (yb : Vec Ideal S1x512x512 .bf16) (wb : Vec Ideal S512x1024 .bf16)
    (q : Fin 1024 → EReal) (w : Fin 1024 → Fin 3072 → EReal) (r : Fin 512) (hp : ∀ k, p (ix2 r k) = q k)
    (hg : ∀ j, g (ix2 r j) = gate q w 0 (by omega) j)
    (h1 : ∀ k (j : Fin 1024), w1 (ix2 k j) = w k ⟨1024 + j.val, by omega⟩) (j : Fin 1024) :
    k0_pay5 (F := Ideal) p g ya wa w1 yb wb (ix2 r j)
      = gate q w 0 (by omega) j * proj (fun k => ya (ix3 0 r k)) (fun k j => wa (ix2 k j)) j
        + gate q w 1024 (by omega) j * proj (fun k => yb (ix3 0 r k)) (fun k j => wb (ix2 k j)) j := by
  unfold k0_pay5
  simp only [shapeCast_self]
  rw [addf_apply, mulf_apply, mulf_apply, hg, proj_wide, proj_half]
  exact congrArg (fun z => gate q w 0 (by omega) j * proj (fun k => ya (ix3 0 r k)) (fun k j => wa (ix2 k j)) j + z * proj (fun k => yb (ix3 0 r k)) (fun k j => wb (ix2 k j)) j)
    (gate_apply p w1 1024 (by omega) q w r hp h1 j)

/-- The last part: the third branch, the output projection, its normalisation, and the gated residual. -/
theorem pay1 (P0 : Vec Ideal S1x512x1024 .f32) (f g : FVec Ideal S512x1024 .f32) (yc : Vec Ideal S1x512x512 .bf16) (wc : FVec Ideal S512x1024 .bf16)
    (wo : FVec Ideal S1024x1024 .bf16) (P1 : Vec Ideal S1x1x1024 .f32) (P3 : Vec Ideal S1x1024 .f32)
    (r : Fin 512) (d : Fin 1024 → EReal)
    (hd : ∀ j, f (ix2 r j) + g (ix2 r j) * proj (fun k => yc (ix3 0 r k)) (fun k j => wc (ix2 k j)) j = d j) (o : Fin 1) (j : Fin 1024) :
    k0_pay1 (F := Ideal) (k0_pay2 P0) f g yc wc wo P1 P3 (ix3 o r j)
      = P0 (ix3 0 r j) + P1 (ix3 0 0 j) * (rms (proj d fun k j => wo (ix2 k j)) j * P3 (ix2 0 j)) := by
  have ho : ∀ j, matmul (φ₁ := .bf16) (φ₂ := .bf16) dot_S512x1024_S1024x1024_S512x1024_1_0_0_1_n_n none
      (truncf .bf16 (addf f (mulf g (matmul dot_S512x512_S512x1024_S512x1024_1_0_0_1_n_n none
        (shapeCast S512x512 yc shapeCasts_S1x512x512_S512x512 : FVec Ideal S512x512 .bf16) wc (constant S512x1024 .f32 0x00000000#32)))) bitsLt_bf16_f32)
      wo (constant S512x1024 .f32 0x00000000#32) (ix2 r j) = proj d (fun k j => wo (ix2 k j)) j := fun j =>
    (mm_plain _ rfl none _ wo r j).trans (Finset.sum_congr rfl fun k _ => by
      rw [truncf_apply, addf_apply, mulf_apply, proj_half]
      exact congrArg (fun z => z * wo (ix2 k j)) (hd k))
  unfold k0_pay1 k0_pay2 rms
  simp only [shapeCast_self]
  simp only [add_lead, addf_apply, mulf_apply, divf_apply, drop_lead, spread_col, spread_row, as_col,
    broadcast_apply, rsqrt, Ideal.rsqrt_def, ho]
  rw [row_sum]
  simp only [mulf_apply, ho]
  rfl

/-- What the body leaves in its output block. -/
theorem out (x0 : Vec Ideal S1x512x1024 .f32) (x1 : Vec Ideal S1x3x1024 .f32) (x2 x3 : Vec Ideal S1x1024 .f32)
    (x4 : Vec Ideal S1x512x1024 .bf16) (x5 x6 : Vec Ideal S1x512x512 .bf16) (x7 : Vec Ideal S1024x3072 .bf16)
    (x8 : Vec Ideal S1024x1024 .bf16) (x9 x10 : Vec Ideal S512x1024 .bf16) (x11 : Vec Ideal S1024x1024 .bf16)
    (o : Fin 1) (r : Fin 512) (j : Fin 1024) :
    out0_12 (F := Ideal) x0 x1 x2 x3 x4 x5 x6 x7 x8 x9 x10 x11 (ix3 o r j)
      = row (fun k => x0 (ix3 0 r k)) (fun k => x1 (ix3 0 0 k)) (fun k => x1 (ix3 0 1 k)) (fun k => x1 (ix3 0 2 k))
          (fun k => x2 (ix2 0 k)) (fun k => x3 (ix2 0 k)) (fun k u => x7 (ix2 k u))
          (proj (fun k => x4 (ix3 0 r k)) fun k j => x8 (ix2 k j)) (proj (fun k => x5 (ix3 0 r k)) fun k j => x9 (ix2 k j))
          (proj (fun k => x6 (ix3 0 r k)) fun k j => x10 (ix2 k j)) (fun k j => x11 (ix2 k j)) j := by
  unfold_out out0_12
  rw [View.canon_unit_zero hz3]
  have hz2 : (![0, 0] : Fin 2 → Nat) = fun _ => 0 := funext fun a => by fin_cases a <;> rfl
  have l0 : View.ld x0 r0_0 = x0 := View.ld_unit_zero hz3 _ x0
  have l2 : View.ld x2 r0_1 = x2 := View.ld_unit_zero hz2 _ x2
  have l3 : View.ld x3 r0_1 = x3 := View.ld_unit_zero hz2 _ x3
  have l4 : View.ld x4 r0_0 = x4 := View.ld_unit_zero hz3 _ x4
  have l5 : View.ld x5 r0_7 = x5 := View.ld_unit_zero hz3 _ x5
  have l6 : View.ld x6 r0_7 = x6 := View.ld_unit_zero hz3 _ x6
  have l8 : View.ld x8 r0_5 = x8 := View.ld_unit_zero hz2 _ x8
  have l9 : View.ld x9 r0_8 = x9 := View.ld_unit_zero hz2 _ x9
  have l10 : View.ld x10 r0_8 = x10 := View.ld_unit_zero hz2 _ x10
  have l11 : View.ld x11 r0_5 = x11 := View.ld_unit_zero hz2 _ x11
  rw [l0, l2, l3, l4, l5, l6, l8, l9, l10, l11]
  have s0 : ∀ k : Fin 1024, View.ld x1 r0_3 (ix3 0 0 k) = x1 (ix3 0 0 k) := fun k =>
    (ld3 x1 0 0 0 _ 0 0 k (by omega) (by omega) (by omega)).trans (by simp only [Nat.zero_add]; rfl)
  have s1 : ∀ k : Fin 1024, View.ld x1 r0_2 (ix3 0 0 k) = x1 (ix3 0 1 k) := fun k =>
    (ld3 x1 0 1 0 _ 0 0 k (by omega) (by omega) (by omega)).trans (by simp only [Nat.zero_add]; rfl)
  have s2 : ∀ k : Fin 1024, View.ld x1 r0_10 (ix3 0 0 k) = x1 (ix3 0 2 k) := fun k =>
    (ld3 x1 0 2 0 _ 0 0 k (by omega) (by omega) (by omega)).trans (by simp only [Nat.zero_add]; rfl)
  have hp : ∀ k, k0_pay3 (F := Ideal) x0 x2 (View.ld x1 r0_2) (View.ld x1 r0_3) (ix2 r k)
      = pre (fun k => x0 (ix3 0 r k)) (fun k => x2 (ix2 0 k)) (fun k => x1 (ix3 0 1 k)) (fun k => x1 (ix3 0 0 k)) k := fun k => by
    rw [pay3]; simp only [s0, s1]
  have hg : ∀ j, k0_pay4 (F := Ideal) x0 x2 (View.ld x1 r0_2) (View.ld x1 r0_3) (View.ld x7 r0_4) (ix2 r j)
      = gate (pre (fun k => x0 (ix3 0 r k)) (fun k => x2 (ix2 0 k)) (fun k => x1 (ix3 0 1 k)) (fun k => x1 (ix3 0 0 k)))
          (fun k u => x7 (ix2 k u)) 0 (by omega) j := fun j => by
    unfold k0_pay4
    simp only [shapeCast_self]
    exact gate_apply _ _ 0 (by omega) _ (fun k u => x7 (ix2 k u)) r hp
      (fun k u => (ld2 x7 0 0 _ k u (by omega) (by omega)).trans (by simp only [Nat.zero_add])) j
  have hc : ∀ j, k0_pay6 (F := Ideal) (k0_pay3 x0 x2 (View.ld x1 r0_2) (View.ld x1 r0_3)) (View.ld x7 r0_9) (ix2 r j)
      = gate (pre (fun k => x0 (ix3 0 r k)) (fun k => x2 (ix2 0 k)) (fun k => x1 (ix3 0 1 k)) (fun k => x1 (ix3 0 0 k)))
          (fun k u => x7 (ix2 k u)) 2048 (by omega) j := fun j => by
    unfold k0_pay6
    simp only [shapeCast_self]
    exact gate_apply _ _ 2048 (by omega) _ (fun k u => x7 (ix2 k u)) r hp
      (fun k u => (ld2 x7 0 2048 _ k u (by omega) (by omega)).trans (by simp only [Nat.zero_add])) j
  have e := fun j => pay5 _ _ x4 x8 (View.ld x7 r0_6) x5 x9 _ (fun k u => x7 (ix2 k u)) r hp hg
    (fun k u => (ld2 x7 0 1024 _ k u (by omega) (by omega)).trans (by simp only [Nat.zero_add])) j
  refine (pay1 x0 _ _ x6 x10 x11 (View.ld x1 r0_10) x3 r _ (fun j => by rw [e j, hc j]) o j).trans ?_
  rw [s2]
  rfl

end Cert.Merge.Block

end
-- ==== Proof.MergeRef.lean ====
/- The merge's reference: its result array is the row function of each token row. -/
module

public import proofs.«01_k».proof.Proof.MergeSpec
public import proofs.«01_k».proof.Proof.Gen.Reference3Ideal.Read

@[expose] public section

noncomputable section

namespace Cert.Merge.Ref

open Cert.Reference3Ideal Cert.Reference3Ideal.Read Cert.Ops Cert.Ffn Cert.Merge
open Idealize.ShloMosaic Idealize.ShloMosaic.ValueIdx

variable (x0 : (⟨S8x4096x1024, .f32⟩ : BufTy).Contents (Elt Ideal)) (x1 : (⟨S8x3x1024, .f32⟩ : BufTy).Contents (Elt Ideal))
  (x2 x3 : (⟨S1024, .f32⟩ : BufTy).Contents (Elt Ideal)) (x4 : (⟨S8x4096x1024, .bf16⟩ : BufTy).Contents (Elt Ideal))
  (x5 x6 : (⟨S8x4096x512, .bf16⟩ : BufTy).Contents (Elt Ideal)) (x7 : (⟨S1024x3072, .f32⟩ : BufTy).Contents (Elt Ideal))
  (x8 : (⟨S3x512x1024, .f32⟩ : BufTy).Contents (Elt Ideal)) (x9 : (⟨S1024x1024, .f32⟩ : BufTy).Contents (Elt Ideal))
  (b : Fin 8) (t : Fin 4096)

/-- The three modulation rows of a batch element. -/
theorem scale (k : Fin 1024) : val_main_v18 (F := Ideal) x1 (ix3 b 0 k) = x1 (ix3 b 1 k) := by
  rw [val_main_v18_apply, val_main_v17_apply, val_main_v16_apply]
  refine congrArg x1 (funext fun a => Fin.ext ?_)
  match a with
  | ⟨0, _⟩ => show (b.val * 1024 + k.val) / 1024 = b.val; omega
  | ⟨1, _⟩ => rfl
  | ⟨2, _⟩ => show (b.val * 1024 + k.val) % 1024 = k.val; omega
theorem shift (k : Fin 1024) : val_main_v25 (F := Ideal) x1 (ix3 b 0 k) = x1 (ix3 b 0 k) := by
  rw [val_main_v25_apply, val_main_v24_apply, val_main_v23_apply]
  refine congrArg x1 (funext fun a => Fin.ext ?_)
  match a with
  | ⟨0, _⟩ => show (b.val * 1024 + k.val) / 1024 = b.val; omega
  | ⟨1, _⟩ => rfl
  | ⟨2, _⟩ => show (b.val * 1024 + k.val) % 1024 = k.val; omega
theorem resid (k : Fin 1024) : val_main_v74 (F := Ideal) x1 (ix3 b 0 k) = x1 (ix3 b 2 k) := by
  rw [val_main_v74_apply, val_main_v73_apply, val_main_v72_apply]
  refine congrArg x1 (funext fun a => Fin.ext ?_)
  match a with
  | ⟨0, _⟩ => show (b.val * 1024 + k.val) / 1024 = b.val; omega
  | ⟨1, _⟩ => rfl
  | ⟨2, _⟩ => show (b.val * 1024 + k.val) % 1024 = k.val; omega

/-- The reductions' starting value is zero. -/
theorem start1 (i : S_.Idx) : val_main_cst (F := Ideal) i = 0 := Ideal.ofBits_zero_f32
theorem start2 (i : S_.Idx) : val_main_cst_10 (F := Ideal) i = 0 := Ideal.ofBits_zero_f32

/-- The row's sum of squares. -/
theorem sq1 : val_main_v4 (F := Ideal) x0 (ix2 b t) = ∑ k, x0 (ix3 b t k) * x0 (ix3 b t k) := by
  rw [val_main_v4_apply, start1, zero_add]
  refine Finset.sum_congr rfl fun k _ => ?_
  rw [show idx_main_v4 (ix2 b t) k = ix3 b t k from eq_ix3 _, val_main_v3_apply]
  rfl

/-- The token's row, normalised and modulated. -/
abbrev normed : Fin 1024 → EReal :=
  pre (fun k => x0 (ix3 b t k)) (fun k => x2 (ix1 k)) (fun k => x1 (ix3 b 1 k)) (fun k => x1 (ix3 b 0 k))

theorem pre_apply (k : Fin 1024) : val_main_v27 (F := Ideal) x0 x1 x2 (ix3 b t k) = normed x0 x1 x2 b t k := by
  rw [val_main_v27_apply, val_main_v22_apply, val_main_v15_apply, val_main_v12_apply, val_main_v11_apply, val_main_v10_apply,
    val_main_v9_apply, val_main_v7_apply, val_main_v5_apply, val_main_v14_apply, val_main_v13_apply, val_main_v21_apply,
    val_main_v20_apply, val_main_v26_apply]
  rw [show idx_main_v5 (idx_main_v11 (ix3 b t k)) = ix2 b t from eq_ix2 _, sq1,
    show idx_main_v21 (ix3 b t k) = ix3 b 0 k from eq_ix3 _, show idx_main_v26 (ix3 b t k) = ix3 b 0 k from eq_ix3 _,
    scale, shift, show idx_main_v13 (idx_main_v14 (ix3 b t k)) = ix1 k from eq_ix1 _]
  rfl

/-- The three gates. -/
theorem gate_a (j : Fin 1024) : val_main_v35 (F := Ideal) x0 x1 x2 x7 (ix3 b t j)
    = gate (normed x0 x1 x2 b t) (fun k u => x7 (ix2 k u)) 0 (by omega) j := by
  have e : val_main_v29 (F := Ideal) x0 x1 x2 x7 (ix3 b t j) = ∑ k, normed x0 x1 x2 b t k * x7 (ix2 k ⟨0 + j.val, by omega⟩) := by
    rw [val_main_v29_apply]
    refine Finset.sum_congr rfl fun k _ => ?_
    rw [show lidx_main_v29 (ix3 b t j) k = ix3 b t k from eq_ix3 _, pre_apply, val_main_v28_apply]
    refine congrArg (_ * ·) (congrArg x7 ((eq_ix2 _).trans (congrArg₂ ix2 (Fin.ext ?_) (Fin.ext ?_))))
    · rfl
    · exact (Nat.zero_add _).symm
  rw [val_main_v35_apply, val_main_v33_apply, val_main_v31_apply, val_main_v30_apply, e, gate, logistic,
    show zero = 0 from Ideal.ofBits_zero_f32, zero_sub]
  rfl
theorem gate_b (j : Fin 1024) : val_main_v50 (F := Ideal) x0 x1 x2 x7 (ix3 b t j)
    = gate (normed x0 x1 x2 b t) (fun k u => x7 (ix2 k u)) 1024 (by omega) j := by
  have e : val_main_v44 (F := Ideal) x0 x1 x2 x7 (ix3 b t j) = ∑ k, normed x0 x1 x2 b t k * x7 (ix2 k ⟨1024 + j.val, by omega⟩) := by
    rw [val_main_v44_apply]
    refine Finset.sum_congr rfl fun k _ => ?_
    rw [show lidx_main_v44 (ix3 b t j) k = ix3 b t k from eq_ix3 _, pre_apply, val_main_v43_apply]
    refine congrArg (_ * ·) (congrArg x7 ((eq_ix2 _).trans (congrArg₂ ix2 (Fin.ext ?_) (Fin.ext ?_))))
    · rfl
    · rfl
  rw [val_main_v50_apply, val_main_v48_apply, val_main_v46_apply, val_main_v45_apply, e, gate, logistic,
    show zero = 0 from Ideal.ofBits_zero_f32, zero_sub]
  rfl
theorem gate_c (j : Fin 1024) : val_main_v64 (F := Ideal) x0 x1 x2 x7 (ix3 b t j)
    = gate (normed x0 x1 x2 b t) (fun k u => x7 (ix2 k u)) 2048 (by omega) j := by
  have e : val_main_v58 (F := Ideal) x0 x1 x2 x7 (ix3 b t j) = ∑ k, normed x0 x1 x2 b t k * x7 (ix2 k ⟨2048 + j.val, by omega⟩) := by
    rw [val_main_v58_apply]
    refine Finset.sum_congr rfl fun k _ => ?_
    rw [show lidx_main_v58 (ix3 b t j) k = ix3 b t k from eq_ix3 _, pre_apply, val_main_v57_apply]
    refine congrArg (_ * ·) (congrArg x7 ((eq_ix2 _).trans (congrArg₂ ix2 (Fin.ext ?_) (Fin.ext ?_))))
    · rfl
    · rfl
  rw [val_main_v64_apply, val_main_v62_apply, val_main_v60_apply, val_main_v59_apply, e, gate, logistic,
    show zero = 0 from Ideal.ofBits_zero_f32, zero_sub]
  rfl

/-- A branch's weights. -/
theorem weight_a (k : Fin 512) (j : Fin 1024) : val_main_v38 (F := Ideal) x8 (ix2 k j) = x8 (ix3 0 k j) := by
  rw [val_main_v38_apply, val_main_v37_apply]
  refine congrArg x8 (funext fun a => Fin.ext ?_)
  match a with
  | ⟨0, _⟩ => rfl
  | ⟨1, _⟩ => show (k.val * 1024 + j.val) / 1024 % 512 = k.val; omega
  | ⟨2, _⟩ => show (k.val * 1024 + j.val) % 1024 = j.val; omega
theorem weight_b (k : Fin 512) (j : Fin 1024) : val_main_v53 (F := Ideal) x8 (ix2 k j) = x8 (ix3 1 k j) := by
  rw [val_main_v53_apply, val_main_v52_apply]
  refine congrArg x8 (funext fun a => Fin.ext ?_)
  match a with
  | ⟨0, _⟩ => rfl
  | ⟨1, _⟩ => show (k.val * 1024 + j.val) / 1024 % 512 = k.val; omega
  | ⟨2, _⟩ => show (k.val * 1024 + j.val) % 1024 = j.val; omega
theorem weight_c (k : Fin 512) (j : Fin 1024) : val_main_v67 (F := Ideal) x8 (ix2 k j) = x8 (ix3 2 k j) := by
  rw [val_main_v67_apply, val_main_v66_apply]
  refine congrArg x8 (funext fun a => Fin.ext ?_)
  match a with
  | ⟨0, _⟩ => rfl
  | ⟨1, _⟩ => show (k.val * 1024 + j.val) / 1024 % 512 = k.val; omega
  | ⟨2, _⟩ => show (k.val * 1024 + j.val) % 1024 = j.val; omega

/-- The attention's channels, out of the padded row. -/
theorem unpad (u : Fin 512) : val_main_v36 (F := Ideal) x4 (ix3 b t u) = x4 (ix3 b t (lane u)) := by
  rw [val_main_v36_apply, val_main_v2_apply, val_main_v1_apply, val_main_v0_apply]
  have h2 : idx_main_v2 (ix3 b t u) = ix4 b t (⟨u.val / 64, by omega⟩ : Fin 8) (⟨u.val % 64, by omega⟩ : Fin 64) :=
    funext fun a => Fin.ext (by
      match a with
      | ⟨0, _⟩ => show ((b.val * 4096 + t.val) * 512 + u.val) / 2097152 = b.val; omega
      | ⟨1, _⟩ => show ((b.val * 4096 + t.val) * 512 + u.val) / 512 % 4096 = t.val; omega
      | ⟨2, _⟩ => show ((b.val * 4096 + t.val) * 512 + u.val) / 64 % 8 = u.val / 64; omega
      | ⟨3, _⟩ => show ((b.val * 4096 + t.val) * 512 + u.val) % 64 = u.val % 64; omega)
  rw [h2]
  refine congrArg x4 (funext fun a => Fin.ext ?_)
  match a with
  | ⟨0, _⟩ => show (((b.val * 4096 + t.val) * 8 + u.val / 64) * 128 + u.val % 64) / 4194304 = b.val; omega
  | ⟨1, _⟩ => show (((b.val * 4096 + t.val) * 8 + u.val / 64) * 128 + u.val % 64) / 1024 % 4096 = t.val; omega
  | ⟨2, _⟩ => show (((b.val * 4096 + t.val) * 8 + u.val / 64) * 128 + u.val % 64) % 1024 = u.val / 64 * 128 + u.val % 64; omega

/-- The three projections. -/
theorem proj_a (j : Fin 1024) : val_main_v39 (F := Ideal) x4 x8 (ix3 b t j)
    = proj (fun u => x4 (ix3 b t (lane u))) (fun k j => x8 (ix3 0 k j)) j := by
  rw [val_main_v39_apply, proj]
  refine Finset.sum_congr rfl fun k _ => ?_
  rw [show lidx_main_v39 (ix3 b t j) k = ix3 b t k from eq_ix3 _, unpad, show ridx_main_v39 (ix3 b t j) k = ix2 k j from eq_ix2 _, weight_a]
theorem proj_b (j : Fin 1024) : val_main_v54 (F := Ideal) x5 x8 (ix3 b t j)
    = proj (fun u => x5 (ix3 b t u)) (fun k j => x8 (ix3 1 k j)) j := by
  rw [val_main_v54_apply, proj]
  refine Finset.sum_congr rfl fun k _ => ?_
  rw [show lidx_main_v54 (ix3 b t j) k = ix3 b t k from eq_ix3 _, val_main_v51_apply, show ridx_main_v54 (ix3 b t j) k = ix2 k j from eq_ix2 _, weight_b]
  rfl
theorem proj_c (j : Fin 1024) : val_main_v68 (F := Ideal) x6 x8 (ix3 b t j)
    = proj (fun u => x6 (ix3 b t u)) (fun k j => x8 (ix3 2 k j)) j := by
  rw [val_main_v68_apply, proj]
  refine Finset.sum_congr rfl fun k _ => ?_
  rw [show lidx_main_v68 (ix3 b t j) k = ix3 b t k from eq_ix3 _, val_main_v65_apply, show ridx_main_v68 (ix3 b t j) k = ix2 k j from eq_ix2 _, weight_c]
  rfl

/-- The gated sum of the branches of a token. -/
abbrev mixed : Fin 1024 → EReal :=
  merged (normed x0 x1 x2 b t) (fun k u => x7 (ix2 k u)) (proj (fun u => x4 (ix3 b t (lane u))) fun k j => x8 (ix3 0 k j))
    (proj (fun u => x5 (ix3 b t u)) fun k j => x8 (ix3 1 k j)) (proj (fun u => x6 (ix3 b t u)) fun k j => x8 (ix3 2 k j))

theorem mixed_apply (j : Fin 1024) : val_main_v70 (F := Ideal) x0 x1 x2 x4 x5 x6 x7 x8 (ix3 b t j) = mixed x0 x1 x2 x4 x5 x6 x7 x8 b t j := by
  rw [val_main_v70_apply, val_main_v69_apply, val_main_v56_apply, val_main_v55_apply, val_main_v42_apply, val_main_v40_apply,
    gate_a, gate_b, gate_c, proj_a, proj_b, proj_c,
    show val_main_v41 (F := Ideal) (ix3 b t j) = (0 : EReal) from Ideal.ofBits_zero_f32]
  refine Eq.trans ?_ (congrArg (fun z => z + _ + _) (zero_add _))
  rfl

/-- The output projection. -/
theorem out_apply (j : Fin 1024) : val_main_v71 (F := Ideal) x0 x1 x2 x4 x5 x6 x7 x8 x9 (ix3 b t j)
    = proj (mixed x0 x1 x2 x4 x5 x6 x7 x8 b t) (fun k j => x9 (ix2 k j)) j := by
  rw [val_main_v71_apply, proj]
  refine Finset.sum_congr rfl fun k _ => ?_
  rw [show lidx_main_v71 (ix3 b t j) k = ix3 b t k from eq_ix3 _, mixed_apply, show ridx_main_v71 (ix3 b t j) k = ix2 k j from eq_ix2 _]

theorem sq2 : val_main_v76 (F := Ideal) x0 x1 x2 x4 x5 x6 x7 x8 x9 (ix2 b t)
    = ∑ k, val_main_v71 (F := Ideal) x0 x1 x2 x4 x5 x6 x7 x8 x9 (ix3 b t k) * val_main_v71 (F := Ideal) x0 x1 x2 x4 x5 x6 x7 x8 x9 (ix3 b t k) := by
  rw [val_main_v76_apply, start2, zero_add]
  refine Finset.sum_congr rfl fun k _ => ?_
  rw [show idx_main_v76 (ix2 b t) k = ix3 b t k from eq_ix3 _, val_main_v75_apply]
  rfl

/-- The result at a token and a channel. -/
theorem result (j : Fin 1024) :
    val_main_v90 (F := Ideal) x0 x1 x2 x3 x4 x5 x6 x7 x8 x9 (ix3 b t j)
      = row (fun k => x0 (ix3 b t k)) (fun k => x1 (ix3 b 0 k)) (fun k => x1 (ix3 b 1 k)) (fun k => x1 (ix3 b 2 k))
          (fun k => x2 (ix1 k)) (fun k => x3 (ix1 k)) (fun k u => x7 (ix2 k u))
          (proj (fun u => x4 (ix3 b t (lane u))) fun k j => x8 (ix3 0 k j)) (proj (fun u => x5 (ix3 b t u)) fun k j => x8 (ix3 1 k j))
          (proj (fun u => x6 (ix3 b t u)) fun k j => x8 (ix3 2 k j)) (fun k j => x9 (ix2 k j)) j := by
  rw [val_main_v90_apply, val_main_v89_apply, val_main_v88_apply, val_main_v87_apply, val_main_v84_apply,
    val_main_v83_apply, val_main_v82_apply, val_main_v81_apply, val_main_v79_apply, val_main_v77_apply, val_main_v86_apply, val_main_v85_apply]
  rw [show idx_main_v77 (idx_main_v83 (ix3 b t j)) = ix2 b t from eq_ix2 _, sq2,
    show idx_main_v88 (ix3 b t j) = ix3 b 0 j from eq_ix3 _, resid, show idx_main_v85 (idx_main_v86 (ix3 b t j)) = ix1 j from eq_ix1 _]
  simp only [out_apply]
  rfl

end Cert.Merge.Ref

end
-- ==== Proof.MergeArray.lean ====
/- The merge kernel: after the run its result array is the row function of each token row. -/
module

public import proofs.«01_k».proof.Proof.MergeBlock
public import proofs.«01_k».proof.Proof.MergeRef
public import proofs.«01_k».proof.Proof.Gen.Kernel3Ideal.Value
public import proofs.«01_k».proof.Defs
public import Idealize.ShloMosaic.Lib.Pipeline.ValueKit

@[expose] public section

set_option maxRecDepth 16384

noncomputable section

namespace Cert.Merge.Array

open Cert.Kernel3Ideal Cert.Kernel3Ideal.Gen Cert.Merge
open Idealize.ShloMosaic hiding ix1 ix2 ix3 eq_ix3 eq_ix2
open Idealize.ShloMosaic.TcCoe Idealize.SL.Sem Idealize.ShloMosaic.ValueIdx
open Idealize.ShloMosaic.Pipeline (Dat)

/-- The arrays of the call, whole: the row function of each token row. -/
def whole (x0 : FVec Ideal S8x4096x1024 .f32) (x1 : FVec Ideal S8x3x1024 .f32) (x2 x3 : FVec Ideal S1024 .f32)
    (x4 : FVec Ideal S8x4096x1024 .bf16) (x5 x6 : FVec Ideal S8x4096x512 .bf16) (x7 : FVec Ideal S1024x3072 .f32)
    (x8 : FVec Ideal S3x512x1024 .f32) (x9 : FVec Ideal S1024x1024 .f32) : FVec Ideal S8x4096x1024 .f32 := fun i =>
  row (fun k => x0 (ix3 (i 0) (i 1) k)) (fun k => x1 (ix3 (i 0) 0 k)) (fun k => x1 (ix3 (i 0) 1 k)) (fun k => x1 (ix3 (i 0) 2 k))
    (fun k => x2 (ix1 k)) (fun k => x3 (ix1 k)) (fun k u => x7 (ix2 k u))
    (proj (fun u => x4 (ix3 (i 0) (i 1) (lane u))) fun k j => x8 (ix3 0 k j)) (proj (fun u => x5 (ix3 (i 0) (i 1) u)) fun k j => x8 (ix3 1 k j))
    (proj (fun u => x6 (ix3 (i 0) (i 1) u)) fun k j => x8 (ix3 2 k j)) (fun k j => x9 (ix2 k j)) (i 2)

/-- Which block each window holds at a grid point. -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![t.val / 8, t.val % 8, 0]
    ∧ win0_5.index t = ![t.val / 8, t.val % 8, 0] ∧ win0_6.index t = ![t.val / 8, t.val % 8, 0]
    ∧ win0_7.index t = ![0, 0] ∧ win0_8.index t = ![0, 0] ∧ win0_9.index t = ![0, 0] ∧ win0_10.index t = ![0, 0] ∧ win0_11.index t = ![0, 0]
    ∧ win0_12.index t = ![t.val / 8, t.val % 8, 0] ∧ t.val / 8 < 8 :=
  (by decide +kernel : ∀ t : Fin grid0.N, _)

/-- One branch's weights out of the three. -/
theorem branch_at {α : Type} (w : S3x512x1024.Idx → α) (q : Fin 3) (hs : S3x512x1024.Slices ![q.val, 0, 0] S1x512x1024)
    (h : S1x512x1024.ShapeCasts S512x1024) (k : Fin 512) (j : Fin 1024) :
    shapeCast S512x1024 (extractStridedSlice S1x512x1024 ![q.val, 0, 0] w hs) h (ix2 k j) = w (ix3 q k j) := by
  rw [Ops.drop_lead (a := 512) (b := 1024), extractStridedSlice_apply _ _ hs _ (ix3 q k j) (fun a => by
    match a with
    | ⟨0, _⟩ => exact (Nat.add_zero _).symm
    | ⟨1, _⟩ => exact (Nat.zero_add _).symm
    | ⟨2, _⟩ => exact (Nat.zero_add _).symm)]

/-- The rows by heads, each head's padded with zeros, as rows again. -/
theorem padded_at (w : FVec Ideal S512x1024 .bf16) (z : FVec Ideal S_ .bf16) (hz : ∀ i, z i = 0) (h1 : S512x1024.ShapeCasts S8x64x1024)
    (h2 : S8x64x1024.Pads ![0, 0, 0] ![0, 64, 0] ![0, 0, 0] S8x128x1024) (hu : 0 < S_.numel) (h3 : S8x128x1024.ShapeCasts S1024x1024)
    (k j : Fin 1024) :
    shapeCast S1024x1024 (pad S8x128x1024 ![0, 0, 0] ![0, 64, 0] ![0, 0, 0] (shapeCast S8x64x1024 w h1) z h2 hu) h3 (ix2 k j)
      = padded (fun k j => w (ix2 k j)) k j := by
  rw [shapeCast_apply _ h3 (ix2 k j) (ix3 (⟨k.val / 128, by omega⟩ : Fin 8) (⟨k.val % 128, by omega⟩ : Fin 128) j) (by
    rw [Shape.rowMajor_val_three, Shape.rowMajor_val_two]
    show (k.val / 128 * 128 + k.val % 128) * 1024 + j.val = k.val * 1024 + j.val
    omega)]
  unfold padded
  by_cases h : k.val % 128 < 64
  · rw [dif_pos h, pad_apply_of_inside _ _ _ _ _ h2 hu _ (ix3 (⟨k.val / 128, by omega⟩ : Fin 8) (⟨k.val % 128, h⟩ : Fin 64) j) (fun a => by
      match a with
      | ⟨0, _⟩ => show k.val / 128 = 0 + k.val / 128 * (0 + 1); omega
      | ⟨1, _⟩ => show k.val % 128 = 0 + k.val % 128 * (0 + 1); omega
      | ⟨2, _⟩ => show j.val = 0 + j.val * (0 + 1); omega)]
    exact shapeCast_apply w h1 _ (ix2 (⟨k.val / 128 * 64 + k.val % 128, by omega⟩ : Fin 512) j) (by
      rw [Shape.rowMajor_val_three, Shape.rowMajor_val_two]
      show (k.val / 128 * 64 + k.val % 128) * 1024 + j.val = (k.val / 128 * 64 + k.val % 128) * 1024 + j.val
      rfl)
  · rw [dif_neg h, pad_apply_of_not_inside _ _ _ _ _ h2 hu _ 1 (fun hin => h (by
      have e := hin.2.2
      replace e : (k.val % 128 - 0) / (0 + 1) < 64 := e
      omega))]
    exact hz _

variable (m : (ℓ : Loc nD τ sig) → Buf (Elt Ideal) ℓ) (c : Dev nD)

/-- The weights and gains the host hands to the call. -/
theorem host2 (k : Fin 1024) : V m c main_v8 (ix2 0 k) = m ((c : Thread nD τ).loc main_arg2) (ix1 k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact Ops.as_row (a := 1024) _ shapeCasts_S1024_S1x1024 0 k
theorem host3 (k : Fin 1024) : V m c main_v9 (ix2 0 k) = m ((c : Thread nD τ).loc main_arg3) (ix1 k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact Ops.as_row (a := 1024) _ shapeCasts_S1024_S1x1024 0 k
theorem host7 : V m c main_v0 = m ((c : Thread nD τ).loc main_arg7) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl
theorem host8 (k j : Fin 1024) :
    V m c main_v7 (ix2 k j) = padded (fun k j => m ((c : Thread nD τ).loc main_arg8) (ix3 0 k j)) k j := by
  show StableHlo.after (List.flatten [hostOps0, hostOps0_1, hostOps0_2]) _ _ _ = _
  simp only [hostOps0, hostOps0_1, hostOps0_2, List.flatten_cons, List.flatten_nil, List.append_nil, List.cons_append, List.nil_append]
  after_results
  refine (padded_at (shapeCast S512x1024 (extractStridedSlice S1x512x1024 ![0, 0, 0] (m ((c : Thread nD τ).loc main_arg8) : FVec Ideal S3x512x1024 .bf16)
    slices_S3x512x1024_S1x512x1024_0_0_0) shapeCasts_S1x512x1024_S512x1024) (sitofp (F := Ideal) .bf16 (constantI S_ 32 0#32)) (fun i => ?_) shapeCasts_S512x1024_S8x64x1024 pads_S8x64x1024_S8x128x1024_000_0640_000 h_S_ shapeCasts_S8x128x1024_S1024x1024 k j).trans ?_
  · show (((0#32 : BitVec 32).toInt : ℝ) : EReal) = 0
    simp
  · exact congrArg (fun f => padded f k j) (funext fun k => funext fun j =>
      branch_at (m ((c : Thread nD τ).loc main_arg8)) 0 slices_S3x512x1024_S1x512x1024_0_0_0 shapeCasts_S1x512x1024_S512x1024 k j)
theorem host9 (k : Fin 512) (j : Fin 1024) : V m c main_v11 (ix2 k j) = m ((c : Thread nD τ).loc main_arg8) (ix3 1 k j) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact branch_at (m ((c : Thread nD τ).loc main_arg8)) 1 slices_S3x512x1024_S1x512x1024_1_0_0 shapeCasts_S1x512x1024_S512x1024 k j
theorem host10 (k : Fin 512) (j : Fin 1024) : V m c main_v13 (ix2 k j) = m ((c : Thread nD τ).loc main_arg8) (ix3 2 k j) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact branch_at (m ((c : Thread nD τ).loc main_arg8)) 2 slices_S3x512x1024_S1x512x1024_2_0_0 shapeCasts_S1x512x1024_S512x1024 k j
theorem host11 : V m c main_v2 = m ((c : Thread nD τ).loc main_arg9) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- The batch element of a grid point, and the token of a row of its block. -/
def bat (t : Fin cfg0.N) : Fin 8 := ⟨t.val / 8, (idx t).2.2.2.2.2.2.2.2.2.2.2.2.2⟩
def tok (t : Fin cfg0.N) (r : Fin 512) : Fin 4096 := ⟨t.val % 8 * 512 + r.val, by omega⟩

/-- What each window's block holds. -/
theorem blk0 (t : Fin cfg0.N) (r : Fin 512) (k : Fin 1024) : iblk m c 0 t (ix3 0 r k) = m ((c : Thread nD τ).loc main_arg0) (ix3 (bat t) (tok t r) k) := by
  blk_ext [iblk, V_main_arg0 m c, idx t, bat, tok]
theorem blk1 (t : Fin cfg0.N) (q : Fin 3) (k : Fin 1024) : iblk m c 1 t (ix3 0 q k) = m ((c : Thread nD τ).loc main_arg1) (ix3 (bat t) q k) := by
  blk_ext [iblk, V_main_arg1 m c, idx t, bat]
theorem blk2 (t : Fin cfg0.N) (k : Fin 1024) : iblk m c 2 t (ix2 0 k) = m ((c : Thread nD τ).loc main_arg2) (ix1 k) := by
  refine Eq.trans ?_ (host2 m c k); blk_ext [iblk, idx t]
theorem blk3 (t : Fin cfg0.N) (k : Fin 1024) : iblk m c 3 t (ix2 0 k) = m ((c : Thread nD τ).loc main_arg3) (ix1 k) := by
  refine Eq.trans ?_ (host3 m c k); blk_ext [iblk, idx t]
theorem blk4 (t : Fin cfg0.N) (r : Fin 512) (k : Fin 1024) : iblk m c 4 t (ix3 0 r k) = m ((c : Thread nD τ).loc main_arg4) (ix3 (bat t) (tok t r) k) := by
  blk_ext [iblk, V_main_arg4 m c, idx t, bat, tok]
theorem blk5 (t : Fin cfg0.N) (r k : Fin 512) : iblk m c 5 t (ix3 0 r k) = m ((c : Thread nD τ).loc main_arg5) (ix3 (bat t) (tok t r) k) := by
  blk_ext [iblk, V_main_arg5 m c, idx t, bat, tok]
theorem blk6 (t : Fin cfg0.N) (r k : Fin 512) : iblk m c 6 t (ix3 0 r k) = m ((c : Thread nD τ).loc main_arg6) (ix3 (bat t) (tok t r) k) := by
  blk_ext [iblk, V_main_arg6 m c, idx t, bat, tok]
theorem blk7 (t : Fin cfg0.N) (k : Fin 1024) (u : Fin 3072) : iblk m c 7 t (ix2 k u) = m ((c : Thread nD τ).loc main_arg7) (ix2 k u) := by
  refine Eq.trans ?_ (congrFun (host7 m c) _); blk_ext [iblk, idx t]
theorem blk8 (t : Fin cfg0.N) (k j : Fin 1024) : iblk m c 8 t (ix2 k j) = padded (fun k j => m ((c : Thread nD τ).loc main_arg8) (ix3 0 k j)) k j := by
  refine Eq.trans ?_ (host8 m c k j); blk_ext [iblk, idx t]
theorem blk9 (t : Fin cfg0.N) (k : Fin 512) (j : Fin 1024) : iblk m c 9 t (ix2 k j) = m ((c : Thread nD τ).loc main_arg8) (ix3 1 k j) := by
  refine Eq.trans ?_ (host9 m c k j); blk_ext [iblk, idx t]
theorem blk10 (t : Fin cfg0.N) (k : Fin 512) (j : Fin 1024) : iblk m c 10 t (ix2 k j) = m ((c : Thread nD τ).loc main_arg8) (ix3 2 k j) := by
  refine Eq.trans ?_ (host10 m c k j); blk_ext [iblk, idx t]
theorem blk11 (t : Fin cfg0.N) (k j : Fin 1024) : iblk m c 11 t (ix2 k j) = m ((c : Thread nD τ).loc main_arg9) (ix2 k j) := by
  refine Eq.trans ?_ (congrFun (host11 m c) _); blk_ext [iblk, idx t]

/-- Where an index of the output's block stands in the result. -/
theorem blk12 (t : Fin cfg0.N) (o : Fin 1) (r : Fin 512) (j : Fin 1024) : ((cfg0.win 12).blk t).view.emb (ix3 o r j) = ix3 (bat t) (tok t r) j := by
  have ho : o.val = 0 := by omega
  funext d
  refine Fin.ext ?_
  match d with
  | ⟨0, _⟩ => blk_simp [idx t, bat]
  | ⟨1, _⟩ => blk_simp [idx t, tok]
  | ⟨2, _⟩ => blk_simp [idx t]

/-- What a grid point leaves at a row and a channel of its block. -/
theorem point (t : Fin cfg0.N) (o : Fin 1) (r : Fin 512) (j : Fin 1024) :
    out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix3 o r j)
      = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (((cfg0.win 12).blk t).view.emb (ix3 o r j)) := by
  refine (Block.out _ _ _ _ _ _ _ _ _ _ _ _ o r j).trans ?_
  rw [blk12]
  unfold whole
  show row _ _ _ _ _ _ _ _ _ _ _ j = row _ _ _ _ _ _ _ _ _ _ _ j
  congr 1
  · exact funext (blk0 m c t r)
  · exact funext (blk1 m c t 0)
  · exact funext (blk1 m c t 1)
  · exact funext (blk1 m c t 2)
  · exact funext (blk2 m c t)
  · exact funext (blk3 m c t)
  · exact funext fun k => funext fun u => blk7 m c t k u
  · exact (congrArg₂ proj (funext (blk4 m c t r)) (funext fun k => funext fun j => blk8 m c t k j)).trans (funext fun j => proj_padded _ _ j)
  · exact congrArg₂ proj (funext (blk5 m c t r)) (funext fun k => funext fun j => blk9 m c t k j)
  · exact congrArg₂ proj (funext (blk6 m c t r)) (funext fun k => funext fun j => blk10 m c t k j)
  · exact funext fun k => funext fun j => blk11 m c t k j

/-- The result array after the run. -/
theorem final : (dats m 0 c).arrAt 12 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 12 _ (by decide +kernel) fun t _ y => ?_
  blk_simp
  rw [after0_12, eq_ix3 y]
  exact point m c t (y 0) (y 1) (y 2)

/-- The reference's result, whole. -/
theorem reference (x0 : FVec Ideal S8x4096x1024 .f32) (x1 : FVec Ideal S8x3x1024 .f32) (x2 x3 : FVec Ideal S1024 .f32)
    (x4 : FVec Ideal S8x4096x1024 .bf16) (x5 x6 : FVec Ideal S8x4096x512 .bf16) (x7 : FVec Ideal S1024x3072 .f32)
    (x8 : FVec Ideal S3x512x1024 .f32) (x9 : FVec Ideal S1024x1024 .f32) :
    Cert.Reference3Ideal.Read.val_main_v90 (F := Ideal) x0 x1 x2 x3 x4 x5 x6 x7 x8 x9 = whole x0 x1 x2 x3 x4 x5 x6 x7 x8 x9 :=
  funext fun i => by
    rw [eq_ix3 i]
    exact Ref.result x0 x1 x2 x3 x4 x5 x6 x7 x8 x9 (i 0) (i 1) (i 2)

/-- Kernel and reference compute the same merge. -/
theorem algebraic : Cert.algebraic_Kernel3Ideal_Reference3Ideal := by
  intro m ρ m' ρ' _ hagree
  refine ⟨fun c => whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)), ?_, ?_⟩
  · exact (θ_run Cert.Kernel3Ideal.defs _ _).mono (fun _ h c => ⟨(h c).1.trans (final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5, h6, h7, h8, h9⟩ := hagree c
    refine (Cert.Reference3Ideal.Read.val_main_v90_eq m' c).trans ?_
    rw [reference, h0, h1, h2, h3, h4, h5, h6, h7, h8, h9]

end Cert.Merge.Array

end
-- ==== Proof.SguSpec.lean ====
/- The spatial gating unit on one chunk of token rows, over the extended reals: both halves through the activation, the second
   one normalised, mixed over the chunk's earlier tokens per group of channels, and multiplied to the first. Both programs of the
   fourth claim compute this function chunk by chunk. -/
module

public import proofs.«01_k».proof.Proof.FfnSpec

@[expose] public section

noncomputable section

namespace Cert.Sgu

open Cert.Ffn (one half)
open Idealize.ShloMosaic

/-- The constants of the layer, as the programs print them. -/
abbrev cubic : EReal := Ideal.ofBits .f32 0x3D372713#32
abbrev slope : EReal := Ideal.ofBits .f32 0x3F4C422A#32
abbrev width : EReal := Ideal.ofBits .f32 0x44000000#32
abbrev eps : EReal := Ideal.ofBits .f32 0x3727C5AC#32

/-- The activation, in its hyperbolic-tangent form. -/
def gelu (z : EReal) : EReal := z * (half * (one + Ideal.tanh (slope * (z + cubic * (z * z * z)))))

/-- The kernel multiplies the half to the argument first. -/
theorem gelu_half (z : EReal) : half * z * (one + Ideal.tanh (slope * (z + cubic * (z * z * z)))) = gelu z := by
  rw [gelu, mul_comm half z, mul_assoc]

/-- A row less its mean. -/
def centre (v : Fin 512 → EReal) (j : Fin 512) : EReal := v j - Ideal.div (∑ k, v k) width

/-- The normalised row. -/
def norm (v g b : Fin 512 → EReal) (j : Fin 512) : EReal :=
  centre v j * Ideal.rsqrt (Ideal.div (∑ k, centre v k * centre v k) width + eps) * g j + b j

/-- The second half of a token's row, activated and normalised. -/
def gated (p : Fin 1024 → EReal) (g b : Fin 512 → EReal) : Fin 512 → EReal :=
  norm (fun k => gelu (p ⟨512 + k.val, by omega⟩)) g b

/-- The weight of token `k` for token `t` of the chunk: none of a later one. -/
def causal (w : Fin 128 → Fin 128 → EReal) (t k : Fin 128) : EReal := if k.val ≤ t.val then w t k else 0

/-- The group of a channel. -/
def grp (j : Fin 512) : Fin 4 := ⟨j.val / 128, by omega⟩

/-- One channel of a token's result, from the rows of its chunk. -/
def unit (P : Fin 128 → Fin 1024 → EReal) (g b : Fin 512 → EReal) (w : Fin 4 → Fin 128 → Fin 128 → EReal) (s : Fin 4 → Fin 128 → EReal)
    (t : Fin 128) (j : Fin 512) : EReal :=
  gelu (P t ⟨j.val, by omega⟩) * (∑ k, causal (w (grp j)) t k * gated (P k) g b j + s (grp j) t)

end Cert.Sgu

end
-- ==== Proof.RwkvChunk.lean ====
/- The delta rule over one block of 64 tokens: running the tokens one after the other is the same as a few matrix
   products, where the inverse of one minus a strictly lower matrix is reached by doubling. -/
module

public import Mathlib.Data.Matrix.Mul
public import Mathlib.Data.Real.Basic
public import Mathlib.Tactic.NoncommRing
public import Mathlib.Tactic.Linarith
public import Mathlib.Tactic.Ring
public import Mathlib.Tactic.NormNum
public import Mathlib.Algebra.BigOperators.Fin

@[expose] public section

noncomputable section

namespace Cert.Rwkv

open Matrix

/-- A square matrix of 64 tokens or channels. -/
abbrev Mat := Matrix (Fin 64) (Fin 64) ℝ

/-- The part strictly below the diagonal. -/
def strict (M : Mat) : Mat := Matrix.of fun i j => if j < i then M i j else 0

/-- The part on and below the diagonal. -/
def incl (M : Mat) : Mat := Matrix.of fun i j => if j ≤ i then M i j else 0

/-- The inverse of `1 - x` by doubling, for an `x` whose 64th power vanishes. -/
def dbl {R : Type} [Ring R] (x : R) : R :=
  let p0 := x * x
  let t0 := 1 + x
  let t1 := t0 + t0 * p0
  let p1 := p0 * p0
  let t2 := t1 + t1 * p1
  let p2 := p1 * p1
  let t3 := t2 + t2 * p2
  let p3 := p2 * p2
  let t4 := t3 + t3 * p3
  let p4 := p3 * p3
  t4 + t4 * p4

/-- One step of the doubling. -/
theorem dbl_step {R : Type} [Ring R] (x p t : R) (hp : p * x = x * p) (ht : t * (1 - x) = 1 - p) :
    (t + t * p) * (1 - x) = 1 - p * p := by
  have : (t + t * p) * (1 - x) = t * (1 - x) * (1 + p) := by
    have e : p * (1 - x) = (1 - x) * p := by rw [mul_sub, sub_mul, hp, one_mul, mul_one]
    calc (t + t * p) * (1 - x) = t * (1 - x) + t * (p * (1 - x)) := by rw [add_mul, mul_assoc]
      _ = t * (1 - x) * (1 + p) := by rw [e, mul_add, mul_one, mul_assoc]
  rw [this, ht]; noncomm_ring

/-- Squares of what commutes with `x` commute with `x`. -/
theorem comm_sq {R : Type} [Ring R] (x p : R) (hp : p * x = x * p) : p * p * x = x * (p * p) := by
  rw [mul_assoc, hp, ← mul_assoc, hp, mul_assoc]

/-- The doubling is a left inverse up to the 64th power. -/
theorem dbl_mul {R : Type} [Ring R] (x : R) : dbl x * (1 - x) = 1 - x ^ 64 := by
  have c0 : x * x * x = x * (x * x) := mul_assoc _ _ _
  have s0 : (1 + x) * (1 - x) = 1 - x * x := by noncomm_ring
  have s1 := dbl_step x _ _ c0 s0
  have c1 := comm_sq x _ c0
  have s2 := dbl_step x _ _ c1 s1
  have c2 := comm_sq x _ c1
  have s3 := dbl_step x _ _ c2 s2
  have c3 := comm_sq x _ c2
  have s4 := dbl_step x _ _ c3 s3
  have c4 := comm_sq x _ c3
  have s5 := dbl_step x _ _ c4 s4
  refine s5.trans ?_
  congr 1
  simp only [← pow_two, ← pow_mul]
  norm_num

/-- A power of a strictly lower matrix vanishes on and above the diagonal that many places down. -/
theorem strict_pow (M : Mat) (n : ℕ) (i j : Fin 64) (h : i.val < j.val + n) : (strict M ^ n) i j = 0 := by
  induction n generalizing i j with
  | zero =>
    rw [pow_zero, Matrix.one_apply, if_neg]
    rintro rfl; omega
  | succ n ih =>
    rw [pow_succ', Matrix.mul_apply]
    refine Finset.sum_eq_zero fun l _ => ?_
    by_cases hl : l < i
    · rw [ih l j (by have : l.val < i.val := hl; omega), mul_zero]
    · have : strict M i l = 0 := by simp [strict, hl]
      rw [this, zero_mul]

/-- The doubling inverts `1 - x` for a strictly lower `x`. -/
theorem dbl_strict (M : Mat) : dbl (strict M) * (1 - strict M) = 1 := by
  rw [dbl_mul]
  have : strict M ^ 64 = 0 := by
    ext i j
    exact strict_pow M 64 i j (by have := i.isLt; omega)
  rw [this, sub_zero]

section Block
variable (S : ℕ → Mat) (A R B K V : Mat)

/-- What one token adds to the scaled state. -/
def Steps : Prop := ∀ i : Fin 64, ∀ p j, S (i.val + 1) p j = S i.val p j + (∑ l, S i.val p l * A i l) * B i j + V i p * K i j

/-- The inner products of the state with the tokens' in-context rows. -/
def inner : Mat := Matrix.of fun i p => ∑ l, S i.val p l * A i l

variable {S A B K V}

/-- The state after `n` tokens is the first state plus the tokens' outer products. -/
theorem steps_sum (h : Steps S A B K V) (n : ℕ) (hn : n ≤ 64) (p j : Fin 64) :
    S n p j = S 0 p j + ∑ s : Fin 64, if s.val < n then inner S A s p * B s j + V s p * K s j else 0 := by
  induction n with
  | zero => simp
  | succ n ih =>
    have hn' : n < 64 := hn
    have e := h ⟨n, hn'⟩ p j
    rw [show (⟨n, hn'⟩ : Fin 64).val = n from rfl, ih hn'.le] at e
    rw [e, add_assoc, add_assoc]
    congr 1
    have : ∀ s : Fin 64, (if s.val < n + 1 then inner S A s p * B s j + V s p * K s j else 0)
        = (if s.val < n then inner S A s p * B s j + V s p * K s j else 0)
          + if s = ⟨n, hn'⟩ then inner S A s p * B s j + V s p * K s j else 0 := by
      intro s
      by_cases h1 : s.val < n
      · have h2 : s ≠ ⟨n, hn'⟩ := fun e => by have := congrArg Fin.val e; simp at this; omega
        rw [if_pos h1, if_pos (by omega), if_neg h2, add_zero]
      · by_cases h2 : s = ⟨n, hn'⟩
        · subst h2; simp
        · have : ¬ s.val < n + 1 := fun h3 => h2 (Fin.ext (by simp; omega))
          rw [if_neg h1, if_neg this, if_neg h2, add_zero]
    simp only [this, Finset.sum_add_distrib, Finset.sum_ite_eq', Finset.mem_univ, if_true]
    rfl

/-- A row of the state after `n` tokens against any vector. -/
theorem steps_dot (h : Steps S A B K V) (n : ℕ) (hn : n ≤ 64) (p : Fin 64) (x : Fin 64 → ℝ) :
    ∑ j, S n p j * x j = ∑ j, S 0 p j * x j
      + ∑ s : Fin 64, (if s.val < n then (∑ j, x j * B s j) * inner S A s p + (∑ j, x j * K s j) * V s p else 0) := by
  simp only [steps_sum h n hn p, add_mul, Finset.sum_add_distrib, Finset.sum_mul]
  congr 1
  rw [Finset.sum_comm]
  refine Finset.sum_congr rfl fun s _ => ?_
  by_cases hs : s.val < n
  · simp only [if_pos hs, ← Finset.sum_mul, add_mul, Finset.sum_add_distrib]
    rw [Finset.sum_mul, Finset.sum_mul]
    congr 1 <;> exact Finset.sum_congr rfl fun j _ => by ring
  · simp only [if_neg hs, zero_mul, Finset.sum_const_zero]

/-- The inner products solve a strictly lower system. -/
theorem inner_eq (h : Steps S A B K V) :
    inner S A = A * (S 0)ᵀ + strict (A * Bᵀ) * inner S A + strict (A * Kᵀ) * V := by
  ext i p
  have e := steps_dot h i.val i.isLt.le p (A i)
  have e' : inner S A i p = ∑ j, S i.val p j * A i j := rfl
  rw [e', e]
  simp only [Matrix.add_apply, Matrix.mul_apply, Matrix.transpose_apply, strict, Matrix.of_apply, ite_mul, zero_mul]
  rw [add_assoc]
  refine congrArg₂ (· + ·) (Finset.sum_congr rfl fun j _ => mul_comm _ _) ?_
  · rw [← Finset.sum_add_distrib]
    refine Finset.sum_congr rfl fun s _ => ?_
    by_cases hs : s < i
    · have hs' : s.val < i.val := hs
      rw [if_pos hs', if_pos hs, if_pos hs]
    · have hs' : ¬ s.val < i.val := hs
      rw [if_neg hs', if_neg hs, if_neg hs, add_zero]

/-- The tokens' read-outs. -/
theorem read_eq (h : Steps S A B K V) (i p : Fin 64) :
    ∑ j, S (i.val + 1) p j * R i j = (R * (S 0)ᵀ + incl (R * Bᵀ) * inner S A + incl (R * Kᵀ) * V) i p := by
  rw [steps_dot h (i.val + 1) i.isLt p (R i)]
  simp only [Matrix.add_apply, Matrix.mul_apply, Matrix.transpose_apply, incl, Matrix.of_apply, ite_mul, zero_mul]
  rw [add_assoc]
  refine congrArg₂ (· + ·) (Finset.sum_congr rfl fun j _ => mul_comm _ _) ?_
  · rw [← Finset.sum_add_distrib]
    refine Finset.sum_congr rfl fun s _ => ?_
    by_cases hs : s ≤ i
    · have hs' : s.val < i.val + 1 := Nat.lt_succ_of_le hs
      rw [if_pos hs', if_pos hs, if_pos hs]
    · have hs' : ¬ s.val < i.val + 1 := fun h => hs (Nat.le_of_lt_succ h)
      rw [if_neg hs', if_neg hs, if_neg hs, add_zero]

/-- The state at the block's end. -/
theorem last_eq (h : Steps S A B K V) : S 64 = S 0 + (inner S A)ᵀ * B + Vᵀ * K := by
  ext p j
  rw [steps_sum h 64 le_rfl p j]
  simp only [Matrix.add_apply, Matrix.mul_apply, Matrix.transpose_apply, Fin.is_lt, if_true, Finset.sum_add_distrib]
  ring

end Block

section Doubled
variable (A R B K V : Mat)

/-- The block's in-context rows after the inverse. -/
def ahat : Mat := dbl (strict (A * Bᵀ)) * A
/-- The block's own inner products. -/
def uhat : Mat := dbl (strict (A * Bᵀ)) * (strict (A * Kᵀ) * V)
/-- The rows that read the first state. -/
def rhat : Mat := R + incl (R * Bᵀ) * ahat A B
/-- The block's own read-outs. -/
def yown : Mat := incl (R * Bᵀ) * uhat A B K V + incl (R * Kᵀ) * V
/-- The block's transition. -/
def pmat : Mat := 1 + (ahat A B)ᵀ * B
/-- The block's own outer products. -/
def qmat : Mat := (uhat A B K V)ᵀ * B + Vᵀ * K

variable {S : ℕ → Mat} {A B K V}

theorem inner_solved (h : Steps S A B K V) : inner S A = ahat A B * (S 0)ᵀ + uhat A B K V := by
  have e : (1 - strict (A * Bᵀ)) * inner S A = A * (S 0)ᵀ + strict (A * Kᵀ) * V := by
    rw [sub_mul, one_mul, sub_eq_iff_eq_add]
    exact (inner_eq h).trans (by abel)
  have := congrArg (dbl (strict (A * Bᵀ)) * ·) e
  simp only [← mul_assoc, dbl_strict, one_mul, mul_add] at this
  rw [this, ahat, uhat, mul_assoc, mul_assoc]

/-- A block's read-outs, from its first state. -/
theorem block_read (h : Steps S A B K V) (i p : Fin 64) :
    ∑ j, S (i.val + 1) p j * R i j = (rhat A R B * (S 0)ᵀ + yown A R B K V) i p := by
  rw [read_eq R h, inner_solved h, rhat, yown]
  refine congrFun (congrFun ?_ i) p
  rw [mul_add, add_mul, mul_assoc]
  abel

/-- A block's last state, from its first. -/
theorem block_last (h : Steps S A B K V) : S 64 = S 0 * pmat A B + qmat A B K V := by
  rw [last_eq h, inner_solved h, pmat, qmat, Matrix.transpose_add, Matrix.transpose_mul, Matrix.transpose_transpose]
  noncomm_ring

end Doubled

end Cert.Rwkv

end
-- ==== Proof.RwkvPack.lean ====
/- Four heads side by side: real matrices that hold four 64-channel heads in 256 columns, and the block diagonal matrices
   that act on them head by head. -/
module

public import proofs.«01_k».proof.Proof.RwkvChunk
public import Mathlib.Data.Fintype.BigOperators
public import Mathlib.Data.Matrix.Diagonal

@[expose] public section

noncomputable section

namespace Cert.Rwkv

open Matrix

/-- Four heads. -/
abbrev Heads := Fin 4 → Mat

/-- The head of a column. -/
def blk (j : Fin 256) : Fin 4 := ⟨j.val / 64, by omega⟩
/-- The channel of a column inside its head. -/
def lane (j : Fin 256) : Fin 64 := ⟨j.val % 64, by omega⟩
/-- The column of a head's channel. -/
def at4 (h : Fin 4) (l : Fin 64) : Fin 256 := ⟨64 * h.val + l.val, by omega⟩

@[simp] theorem blk_at4 (h : Fin 4) (l : Fin 64) : blk (at4 h l) = h := Fin.ext (by show (64 * h.val + l.val) / 64 = h.val; omega)
@[simp] theorem lane_at4 (h : Fin 4) (l : Fin 64) : lane (at4 h l) = l := Fin.ext (by show (64 * h.val + l.val) % 64 = l.val; omega)
@[simp] theorem at4_blk (j : Fin 256) : at4 (blk j) (lane j) = j := Fin.ext (by show 64 * (j.val / 64) + j.val % 64 = j.val; omega)

theorem ext_blk {i j : Fin 256} (h : blk i = blk j) (h' : lane i = lane j) : i = j := by
  rw [← at4_blk i, ← at4_blk j, h, h']

/-- Columns as heads and channels. -/
def colEquiv : Fin 4 × Fin 64 ≃ Fin 256 where
  toFun p := at4 p.1 p.2
  invFun j := (blk j, lane j)
  left_inv p := by simp
  right_inv j := by simp

/-- A sum over the columns, head by head. -/
theorem sum_cols {M : Type} [AddCommMonoid M] (f : Fin 256 → M) : ∑ j, f j = ∑ h, ∑ l, f (at4 h l) := by
  rw [← Equiv.sum_comp colEquiv, Fintype.sum_prod_type]
  rfl

/-- Four heads side by side. -/
def pack (M : Heads) : Matrix (Fin 64) (Fin 256) ℝ := Matrix.of fun t j => M (blk j) t (lane j)

/-- Four heads down the diagonal. -/
def diag4 (M : Heads) : Matrix (Fin 256) (Fin 256) ℝ :=
  Matrix.of fun i j => if blk i = blk j then M (blk j) (lane i) (lane j) else 0

/-- The entries of a square matrix that join channels of one head. -/
def own (X : Matrix (Fin 256) (Fin 256) ℝ) : Matrix (Fin 256) (Fin 256) ℝ := Matrix.of fun i j => if blk i = blk j then X i j else 0

/-- Every head transposed. -/
def tr (M : Heads) : Heads := fun h => (M h)ᵀ
/-- The strictly lower part of every head. -/
def strict4 (M : Heads) : Heads := fun h => strict (M h)
/-- The lower part of every head. -/
def incl4 (M : Heads) : Heads := fun h => incl (M h)
/-- Every head's columns scaled. -/
def scale4 (M : Heads) (w : Matrix (Fin 1) (Fin 256) ℝ) : Heads := fun h => Matrix.of fun i j => M h i j * w 0 (at4 h j)

theorem pack_mul (M N : Heads) : pack M * diag4 N = pack (M * N) := by
  ext t j
  simp only [Matrix.mul_apply, pack, diag4, Matrix.of_apply, sum_cols, blk_at4, lane_at4, mul_ite, mul_zero, Pi.mul_apply]
  rw [Finset.sum_eq_single (blk j)]
  · simp
  · intro h _ hh; simp [hh]
  · simp

theorem pack_mul_tr (M N : Heads) : pack M * (diag4 N)ᵀ = pack (M * tr N) := by
  ext t j
  simp only [Matrix.mul_apply, pack, diag4, Matrix.of_apply, sum_cols, blk_at4, lane_at4, mul_ite, mul_zero, Pi.mul_apply, tr,
    Matrix.transpose_apply]
  rw [Finset.sum_eq_single (blk j)]
  · simp
  · intro h _ hh; simp [hh.symm]
  · simp

theorem diag4_mul (M N : Heads) : diag4 M * diag4 N = diag4 (M * N) := by
  ext i j
  simp only [Matrix.mul_apply, diag4, Matrix.of_apply, sum_cols, blk_at4, lane_at4, mul_ite, mul_zero, Pi.mul_apply, ite_mul, zero_mul]
  rw [Finset.sum_eq_single (blk j)]
  · by_cases h : blk i = blk j <;> simp [h]
  · intro h _ hh; simp [hh]
  · simp

theorem pack_add (M N : Heads) : pack M + pack N = pack (M + N) := rfl

theorem diag4_add (M N : Heads) : diag4 M + diag4 N = diag4 (M + N) := by
  ext i j
  by_cases h : blk i = blk j <;> simp [diag4, h]

theorem diag4_one : diag4 1 = 1 := by
  ext i j
  simp only [diag4, Matrix.of_apply, Pi.one_apply, Matrix.one_apply]
  by_cases h : i = j
  · subst h; simp
  · rw [if_neg h]
    by_cases h1 : blk i = blk j
    · have : lane i ≠ lane j := fun h2 => h (ext_blk h1 h2)
      simp [this]
    · simp [h1]

theorem diag4_zero : diag4 0 = 0 := by
  ext i j
  simp [diag4]

theorem own_tn (A B : Heads) : own ((pack A)ᵀ * pack B) = diag4 (tr A * B) := by
  ext i j
  by_cases h : blk i = blk j <;> simp [own, diag4, h, Matrix.mul_apply, pack, tr]

theorem own_add (X Y : Matrix (Fin 256) (Fin 256) ℝ) : own (X + Y) = own X + own Y := by
  ext i j
  by_cases h : blk i = blk j <;> simp [own, h]

theorem own_one : own 1 = diag4 1 := by
  rw [diag4_one]
  ext i j
  by_cases h : blk i = blk j
  · simp [own, h]
  · have : i ≠ j := fun e => h (congrArg blk e)
    simp [own, h, this]

/-- The product of two matrices entry by entry. -/
def had {m n : ℕ} (X Y : Matrix (Fin m) (Fin n) ℝ) : Matrix (Fin m) (Fin n) ℝ := Matrix.of fun i j => X i j * Y i j

/-- Every row of a one-row matrix. -/
def spread (w : Matrix (Fin 1) (Fin 256) ℝ) : Matrix (Fin 256) (Fin 256) ℝ := Matrix.of fun _ j => w 0 j

theorem diag4_scale (M : Heads) (w : Matrix (Fin 1) (Fin 256) ℝ) : had (diag4 M) (spread w) = diag4 (scale4 M w) := by
  ext i j
  by_cases h : blk i = blk j <;> simp [diag4, scale4, spread, h, had]

section Cuts
variable {a b c m n k : ℕ}

/-- One matrix above another. -/
def rows (c : ℕ) (X : Matrix (Fin a) (Fin n) ℝ) (Y : Matrix (Fin b) (Fin n) ℝ) : Matrix (Fin c) (Fin n) ℝ :=
  Matrix.of fun i j => if h : i.val < a then X ⟨i.val, h⟩ j else if h : i.val - a < b then Y ⟨i.val - a, h⟩ j else 0

/-- One matrix beside another. -/
def cols (c : ℕ) (X : Matrix (Fin n) (Fin a) ℝ) (Y : Matrix (Fin n) (Fin b) ℝ) : Matrix (Fin n) (Fin c) ℝ :=
  Matrix.of fun i j => if h : j.val < a then X i ⟨j.val, h⟩ else if h : j.val - a < b then Y i ⟨j.val - a, h⟩ else 0

/-- A window of a matrix. -/
def sub (a b o p : ℕ) (X : Matrix (Fin m) (Fin n) ℝ) : Matrix (Fin a) (Fin b) ℝ :=
  Matrix.of fun i j => if h : o + i.val < m ∧ p + j.val < n then X ⟨o + i.val, h.1⟩ ⟨p + j.val, h.2⟩ else 0

theorem rows_mul (X : Matrix (Fin a) (Fin n) ℝ) (Y : Matrix (Fin b) (Fin n) ℝ) (M : Matrix (Fin n) (Fin k) ℝ) :
    rows c X Y * M = rows c (X * M) (Y * M) := by
  ext i j
  simp only [Matrix.mul_apply, rows, Matrix.of_apply]
  split
  · rfl
  · split
    · rfl
    · simp

theorem mul_cols (M : Matrix (Fin k) (Fin n) ℝ) (X : Matrix (Fin n) (Fin a) ℝ) (Y : Matrix (Fin n) (Fin b) ℝ) :
    M * cols c X Y = cols c (M * X) (M * Y) := by
  ext i j
  simp only [Matrix.mul_apply, cols, Matrix.of_apply]
  split
  · rfl
  · split
    · rfl
    · simp

theorem mul_rows_tr (M : Matrix (Fin k) (Fin n) ℝ) (X : Matrix (Fin a) (Fin n) ℝ) (Y : Matrix (Fin b) (Fin n) ℝ) :
    M * (rows c X Y)ᵀ = cols c (M * Xᵀ) (M * Yᵀ) := by
  ext i j
  simp only [Matrix.mul_apply, cols, rows, Matrix.of_apply, Matrix.transpose_apply]
  split
  · rfl
  · split
    · rfl
    · simp

/-- A sum over a range cut in two. -/
theorem sum_cut (hc : c = a + b) (f : Fin c → ℝ) :
    ∑ i, f i = ∑ i : Fin a, f ⟨i.val, by omega⟩ + ∑ i : Fin b, f ⟨a + i.val, by omega⟩ := by
  subst hc
  rw [Fin.sum_univ_add]
  rfl

theorem cols_mul_rows (hc : c = a + b) (X : Matrix (Fin m) (Fin a) ℝ) (Y : Matrix (Fin m) (Fin b) ℝ) (U : Matrix (Fin a) (Fin n) ℝ)
    (V : Matrix (Fin b) (Fin n) ℝ) : cols c X Y * rows c U V = X * U + Y * V := by
  ext i j
  simp only [Matrix.mul_apply, Matrix.add_apply, sum_cut hc]
  simp [cols, rows]

theorem rows_tr_mul_rows (hc : c = a + b) (X : Matrix (Fin a) (Fin m) ℝ) (Y : Matrix (Fin b) (Fin m) ℝ) (U : Matrix (Fin a) (Fin n) ℝ)
    (V : Matrix (Fin b) (Fin n) ℝ) : (rows c X Y)ᵀ * rows c U V = Xᵀ * U + Yᵀ * V := by
  ext i j
  simp only [Matrix.mul_apply, Matrix.add_apply, sum_cut hc, Matrix.transpose_apply]
  simp [rows]

theorem sub_rows_top (X : Matrix (Fin a) (Fin n) ℝ) (Y : Matrix (Fin b) (Fin n) ℝ) (hc : c = a + b) : sub a n 0 0 (rows c X Y) = X := by
  subst hc
  ext i j
  have : i.val < a + b := by omega
  simp [sub, rows, this]

theorem sub_rows_bot (X : Matrix (Fin a) (Fin n) ℝ) (Y : Matrix (Fin b) (Fin n) ℝ) (hc : c = a + b) : sub b n a 0 (rows c X Y) = Y := by
  subst hc
  ext i j
  simp [sub, rows]

theorem sub_cols_left (X : Matrix (Fin n) (Fin a) ℝ) (Y : Matrix (Fin n) (Fin b) ℝ) (hc : c = a + b) : sub n a 0 0 (cols c X Y) = X := by
  subst hc
  ext i j
  have : j.val < a + b := by omega
  simp [sub, cols, this]

theorem sub_cols_right (X : Matrix (Fin n) (Fin a) ℝ) (Y : Matrix (Fin n) (Fin b) ℝ) (hc : c = a + b) : sub n b 0 a (cols c X Y) = Y := by
  subst hc
  ext i j
  simp [sub, cols]

/-- A window of two stacked matrices that lies in the first. -/
theorem sub_rows_in (X : Matrix (Fin a) (Fin n) ℝ) (Y : Matrix (Fin a) (Fin n) ℝ) (p : ℕ) (hc : c = a + a) :
    sub a k 0 p (rows c X Y) = sub a k 0 p X := by
  subst hc
  ext i j
  have h1 : i.val < a + a := by omega
  simp [sub, rows, h1]

/-- A window of two stacked matrices that lies in the second. -/
theorem sub_rows_in' (X : Matrix (Fin a) (Fin n) ℝ) (Y : Matrix (Fin a) (Fin n) ℝ) (p : ℕ) (hc : c = a + a) :
    sub a k a p (rows c X Y) = sub a k 0 p Y := by
  subst hc
  ext i j
  simp [sub, rows]

end Cuts

/-- The four heads in a window of a block of tokens. -/
def heads (o p : ℕ) (X : Matrix (Fin 256) (Fin 512) ℝ) : Heads := fun h =>
  Matrix.of fun t l => sub 64 256 o p X t (at4 h l)

theorem sub_heads (o p : ℕ) (X : Matrix (Fin 256) (Fin 512) ℝ) : sub 64 256 o p X = pack (heads o p X) := by
  ext t j
  simp [pack, heads]

end Cert.Rwkv

end
-- ==== Proof.RwkvMat.lean ====
/- Vectors of ideal values that hold real matrices: each vector operation of the recurrence on such vectors is the real
   matrix operation. -/
module

public import proofs.«01_k».proof.Proof.Ops
public import proofs.«01_k».proof.Proof.RwkvPack
public import proofs.«01_k».proof.KernelIdeal

@[expose] public section

noncomputable section

namespace Cert.Rwkv

open Idealize.ShloMosaic Idealize.ShloMosaic.ValueIdx Cert.Ops Matrix Cert.KernelIdeal

/-- A real matrix as a vector of ideal values. -/
def mat {a b : ℕ} (φ : FTy) (X : Matrix (Fin a) (Fin b) ℝ) : FVec Ideal ⟨2, ![a, b]⟩ φ :=
  fun ix => ((X (ix 0) (ix 1) : ℝ) : EReal)

/-- A yes-or-no vector from a condition on row and column. -/
def mask {a b : ℕ} (P : Fin a → Fin b → Prop) [∀ i j, Decidable (P i j)] : IVec ⟨2, ![a, b]⟩ 1 :=
  fun ix => (fun (i : Fin a) (j : Fin b) => if P i j then 1#1 else 0#1) (ix 0) (ix 1)

section
variable {a b c m n k : ℕ} {φ ψ χ : FTy}

theorem mat_at (X : Matrix (Fin a) (Fin b) ℝ) (i : Fin a) (j : Fin b) : mat φ X (ix2 i j) = ((X i j : ℝ) : EReal) := rfl

theorem mask_at (P : Fin a → Fin b → Prop) [∀ i j, Decidable (P i j)] (i : Fin a) (j : Fin b) :
    mask P (ix2 i j) = if P i j then 1#1 else 0#1 := rfl

theorem ext_mat {α : Type} {v w : (⟨2, ![a, b]⟩ : Shape).Idx → α} (h : ∀ i j, v (ix2 i j) = w (ix2 i j)) : v = w := by
  funext ix
  rw [eq_ix2 ix]
  exact h _ _

theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

theorem trunc_mat (X : Matrix (Fin a) (Fin b) ℝ) (h : ψ.bits < φ.bits) :
    (truncf ψ (mat φ X) h : FVec Ideal ⟨2, ![a, b]⟩ ψ) = mat ψ X := rfl

theorem ext_mat_f (X : Matrix (Fin a) (Fin b) ℝ) (h : φ.bits < ψ.bits) :
    (extf ψ (mat φ X) h : FVec Ideal ⟨2, ![a, b]⟩ ψ) = mat ψ X := rfl

theorem add_mat (X Y : Matrix (Fin a) (Fin b) ℝ) : addf (mat φ X) (mat φ Y) = mat φ (X + Y) :=
  ext_mat fun i j => (EReal.coe_add (X i j) (Y i j)).symm

theorem sub_mat (X Y : Matrix (Fin a) (Fin b) ℝ) : subf (mat φ X) (mat φ Y) = mat φ (X - Y) :=
  ext_mat fun i j => (EReal.coe_sub (X i j) (Y i j)).symm

theorem mul_mat (X Y : Matrix (Fin a) (Fin b) ℝ) : mulf (mat φ X) (mat φ Y) = mat φ (had X Y) :=
  ext_mat fun i j => (EReal.coe_mul (X i j) (Y i j)).symm

theorem dot_mat (D : DotDims ⟨2, ![m, k]⟩ ⟨2, ![k, n]⟩ ⟨2, ![m, n]⟩) (hD : D = DotDims.plain m k n)
    (X : Matrix (Fin m) (Fin k) ℝ) (Y : Matrix (Fin k) (Fin n) ℝ) :
    matmul D none (mat φ X) (mat ψ Y) (constant ⟨2, ![m, n]⟩ .f32 0x00000000#32) = mat .f32 (X * Y) :=
  ext_mat fun i j => by
    rw [mm_plain D hD, mat_at, Matrix.mul_apply, coe_sum]
    exact Finset.sum_congr rfl fun l _ => (EReal.coe_mul _ _).symm

theorem dot_nt_mat (D : DotDims ⟨2, ![m, k]⟩ ⟨2, ![n, k]⟩ ⟨2, ![m, n]⟩) (hD : D = DotDims.transposedRhs m k n)
    (X : Matrix (Fin m) (Fin k) ℝ) (Y : Matrix (Fin n) (Fin k) ℝ) :
    matmul D none (mat φ X) (mat ψ Y) (constant ⟨2, ![m, n]⟩ .f32 0x00000000#32) = mat .f32 (X * Yᵀ) :=
  ext_mat fun i j => by
    rw [mm_rows D hD, mat_at, Matrix.mul_apply, coe_sum]
    exact Finset.sum_congr rfl fun l _ => (EReal.coe_mul _ _).symm

/-- The dimension numbers of a product over the first axis of both operands. -/
def overRows (k m n : ℕ) : DotDims ⟨2, ![k, m]⟩ ⟨2, ![k, n]⟩ ⟨2, ![m, n]⟩ where
  lhsContracting := [0]
  rhsContracting := [0]
  lhsNonContracting := [1]
  rhsNonContracting := [1]
  lhsBatch := []
  rhsBatch := []
  wf := ⟨rfl, by simp, rfl, by simp, by simp, by simp, by simp [List.finRange]; exact List.Perm.swap _ _ _,
    by simp [List.finRange]; exact List.Perm.swap _ _ _, rfl, Nat.two_pos,
    fun b => by fin_cases b <;> rfl⟩

theorem mm_over_rows (D : DotDims ⟨2, ![k, m]⟩ ⟨2, ![k, n]⟩ ⟨2, ![m, n]⟩) (hD : D = overRows k m n)
    (prec : Option ContractPrecision) (l : FVec Ideal ⟨2, ![k, m]⟩ φ) (r : FVec Ideal ⟨2, ![k, n]⟩ ψ) (i : Fin m) (j : Fin n) :
    matmul D prec l r (constant ⟨2, ![m, n]⟩ .f32 0x00000000#32) (ix2 i j) = ∑ t : Fin k, l (ix2 t i) * r (ix2 t j) := by
  subst hD
  simp only [matmul]
  rw [Ideal.matmul_constant_zero_apply, ← Equiv.sum_comp (contrEquiv1 (overRows k m n) k rfl rfl).symm]
  refine Finset.sum_congr rfl fun t _ => ?_
  have hk := contrEquiv1_symm_val (overRows k m n) k rfl rfl t
  have el : (overRows k m n).lhsIdx (ix2 i j) ((contrEquiv1 (overRows k m n) k rfl rfl).symm t) = ix2 t i :=
    funext fun c => Fin.ext (by
      match c with
      | ⟨0, _⟩ => exact hk
      | ⟨1, _⟩ => rfl)
  have er : (overRows k m n).rhsIdx (ix2 i j) ((contrEquiv1 (overRows k m n) k rfl rfl).symm t) = ix2 t j :=
    funext fun c => Fin.ext (by
      match c with
      | ⟨0, _⟩ => exact hk
      | ⟨1, _⟩ => rfl)
  rw [el, er]

theorem dot_tn_mat (D : DotDims ⟨2, ![k, m]⟩ ⟨2, ![k, n]⟩ ⟨2, ![m, n]⟩) (hD : D = overRows k m n)
    (X : Matrix (Fin k) (Fin m) ℝ) (Y : Matrix (Fin k) (Fin n) ℝ) :
    matmul D none (mat φ X) (mat ψ Y) (constant ⟨2, ![m, n]⟩ .f32 0x00000000#32) = mat .f32 (Xᵀ * Y) :=
  ext_mat fun i j => by
    rw [mm_over_rows D hD, mat_at, Matrix.mul_apply, coe_sum]
    exact Finset.sum_congr rfl fun l _ => (EReal.coe_mul _ _).symm

theorem slice_mat (o p : ℕ) (X : Matrix (Fin m) (Fin n) ℝ) (h : (⟨2, ![m, n]⟩ : Shape).Slices ![o, p] ⟨2, ![a, b]⟩) :
    extractStridedSlice ⟨2, ![a, b]⟩ ![o, p] (mat φ X) h = mat φ (sub a b o p X) :=
  ext_mat fun i j => by
    have h0 : o + a ≤ m := h.2 0
    have h1 : p + b ≤ n := h.2 1
    have hi : o + i.val < m := by omega
    have hj : p + j.val < n := by omega
    rw [extractStridedSlice_apply ![o, p] (mat φ X) h (ix2 i j) (ix2 ⟨o + i.val, hi⟩ ⟨p + j.val, hj⟩) (fun d => by
      match d with
      | ⟨0, _⟩ => rfl
      | ⟨1, _⟩ => rfl), mat_at, mat_at]
    simp [sub, hi, hj]

theorem cat_rows (X : Matrix (Fin a) (Fin n) ℝ) (Y : Matrix (Fin b) (Fin n) ℝ)
    (h : Shape.Concatenates [(⟨2, ![a, n]⟩ : Shape), ⟨2, ![b, n]⟩] ⟨2, ![c, n]⟩ 0) (hc : c = a + b) :
    concatenate ⟨2, ![c, n]⟩ 0 [⟨⟨2, ![a, n]⟩, mat φ X⟩, ⟨⟨2, ![b, n]⟩, mat φ Y⟩] h = mat φ (rows c X Y) :=
  ext_mat fun i j => by
    by_cases hi : i.val < a
    · rw [concatenate_pair_apply_left 0 (mat φ X) (mat φ Y) h (ix2 i j) rfl (ix2 ⟨i.val, hi⟩ j) (fun d => by
        match d with
        | ⟨0, _⟩ => rfl
        | ⟨1, _⟩ => rfl), mat_at, mat_at]
      simp [rows, hi]
    · have hb : i.val - a < b := by omega
      rw [concatenate_pair_apply_right 0 (mat φ X) (mat φ Y) h (ix2 i j) rfl rfl (ix2 ⟨i.val - a, hb⟩ j) (fun d hd => by
        match d with
        | ⟨0, _⟩ => exact absurd rfl hd
        | ⟨1, _⟩ => rfl) (by show i.val - a + a = i.val; omega), mat_at, mat_at]
      simp [rows, hi, hb]

theorem cat_cols (X : Matrix (Fin n) (Fin a) ℝ) (Y : Matrix (Fin n) (Fin b) ℝ)
    (h : Shape.Concatenates [(⟨2, ![n, a]⟩ : Shape), ⟨2, ![n, b]⟩] ⟨2, ![n, c]⟩ 1) (hc : c = a + b) :
    concatenate ⟨2, ![n, c]⟩ 1 [⟨⟨2, ![n, a]⟩, mat φ X⟩, ⟨⟨2, ![n, b]⟩, mat φ Y⟩] h = mat φ (cols c X Y) :=
  ext_mat fun i j => by
    by_cases hj : j.val < a
    · rw [concatenate_pair_apply_left 1 (mat φ X) (mat φ Y) h (ix2 i j) rfl (ix2 i ⟨j.val, hj⟩) (fun d => by
        match d with
        | ⟨0, _⟩ => rfl
        | ⟨1, _⟩ => rfl), mat_at, mat_at]
      simp [cols, hj]
    · have hb : j.val - a < b := by omega
      rw [concatenate_pair_apply_right 1 (mat φ X) (mat φ Y) h (ix2 i j) rfl rfl (ix2 i ⟨j.val - a, hb⟩) (fun d hd => by
        match d with
        | ⟨0, _⟩ => rfl
        | ⟨1, _⟩ => exact absurd rfl hd) (by show j.val - a + a = j.val; omega), mat_at, mat_at]
      simp [cols, hj, hb]

theorem zero_f32 : (Scalar.ofBits (F := Ideal) .f32 0x00000000#32) = ((0 : ℝ) : EReal) := by
  show Ideal.ofBits .f32 0x00000000#32 = _
  simp
theorem zero_bf16 : (Scalar.ofBits (F := Ideal) .bf16 0x0000#16) = ((0 : ℝ) : EReal) := by
  show Ideal.ofBits .bf16 0x0000#16 = _
  simp [Ideal.ofBits, Ideal.ieee]
theorem one_f32 : (Scalar.ofBits (F := Ideal) .f32 0x3F800000#32) = ((1 : ℝ) : EReal) := by
  show Ideal.ofBits .f32 0x3F800000#32 = _
  simp [Ideal.ofBits, Ideal.ieee]
  rw [← EReal.coe_mul, ← EReal.coe_one, EReal.coe_eq_coe_iff]
  norm_num

theorem select_mask (P : Fin a → Fin b → Prop) [∀ i j, Decidable (P i j)] (X : Matrix (Fin a) (Fin b) ℝ) (z : Ideal φ)
    (hz : z = ((0 : ℝ) : EReal)) :
    select (mask P) (mat φ X) (broadcast ⟨2, ![a, b]⟩ z) = mat φ (Matrix.of fun i j => if P i j then X i j else 0) :=
  ext_mat fun i j => by
    rw [select_apply, mask_at, broadcast_apply, mat_at, mat_at, Matrix.of_apply, hz]
    by_cases h : P i j
    · rw [if_pos h, if_pos h]; rfl
    · rw [if_neg h, if_neg h]; rfl

end

section Masks

/-- Columns of one head. -/
def ownMask : IVec S256x256 1 := mask fun i j => blk i = blk j
/-- Earlier tokens. -/
def strictMask : IVec S64x256 1 := mask fun i j => lane j < i
/-- Tokens up to this one. -/
def inclMask : IVec S64x256 1 := mask fun i j => lane j ≤ i

theorem select_strict (M : Heads) : select strictMask (mat .f32 (pack M)) (broadcast S64x256 (Scalar.ofBits (F := Ideal) .f32 0x00000000#32))
    = mat .f32 (pack (strict4 M)) :=
  (select_mask _ _ _ zero_f32).trans rfl

theorem select_incl (M : Heads) : select inclMask (mat .f32 (pack M)) (broadcast S64x256 (Scalar.ofBits (F := Ideal) .f32 0x00000000#32))
    = mat .f32 (pack (incl4 M)) :=
  (select_mask _ _ _ zero_f32).trans rfl

theorem select_own (X : Matrix (Fin 256) (Fin 256) ℝ) :
    select ownMask (mat .f32 X) (broadcast S256x256 (Scalar.ofBits (F := Ideal) .f32 0x00000000#32)) = mat .f32 (own X) :=
  (select_mask _ _ _ zero_f32).trans rfl

/-- Four copies of a row of heads, each keeping its own head, are the heads down the diagonal. -/
theorem stacked (M : Heads) (h : Shape.Concatenates [S64x256, S64x256, S64x256, S64x256] S256x256 0) :
    select ownMask (concatenate S256x256 0 [⟨S64x256, mat .bf16 (pack M)⟩, ⟨S64x256, mat .bf16 (pack M)⟩, ⟨S64x256, mat .bf16 (pack M)⟩,
        ⟨S64x256, mat .bf16 (pack M)⟩] h) (broadcast S256x256 (Scalar.ofBits (F := Ideal) .bf16 0x0000#16))
      = mat .bf16 (diag4 M) := by
  refine ext_mat fun i j => ?_
  have e := concatenate_replicate_apply (t := S256x256) (s₁ := S64x256) 0 4 (mat .bf16 (pack M)) h rfl (ix2 i j) (ix2 (lane i) j) rfl
    (fun d hd => by
      match d with
      | ⟨0, _⟩ => exact absurd rfl hd
      | ⟨1, _⟩ => rfl)
  rw [select_apply, show ownMask (ix2 i j) = if blk i = blk j then 1#1 else 0#1 from rfl, broadcast_apply, zero_bf16, mat_at]
  by_cases hb : blk i = blk j
  · rw [if_pos hb, select_one]
    refine e.trans ?_
    simp [mat_at, pack, diag4, hb]
  · rw [if_neg hb, select_zero]
    simp [diag4, hb]

end Masks

end Cert.Rwkv

end
-- ==== Proof.RwkvMasks.lean ====
/- The recurrence's index masks, read off the kernel's integer arithmetic. -/
module

public import proofs.«01_k».proof.Proof.RwkvMat
public import proofs.«01_k».proof.Proof.Gen.KernelIdeal.Skeleton

@[expose] public section

noncomputable section

namespace Cert.Rwkv

open Idealize.ShloMosaic Idealize.ShloMosaic.ValueIdx Cert.Ops Matrix Cert.KernelIdeal Cert.KernelIdeal.Gen

/-- Small words compare for equality as their numbers. -/
theorem word_eq (a b : ℕ) (ha : a < 256) (hb : b < 256) :
    IntOp.cmpi .eq (BitVec.ofNat 32 a) (BitVec.ofNat 32 b) = if a = b then 1#1 else 0#1 := by
  by_cases h : a = b
  · subst h; simp [IntOp.cmpi]
  · have : (BitVec.ofNat 32 a == BitVec.ofNat 32 b) = false := by
      rw [beq_eq_false_iff_ne]
      intro e
      have := congrArg BitVec.toNat e
      simp only [BitVec.toNat_ofNat] at this
      omega
    simp [IntOp.cmpi, this, h]

/-- Small words are ordered as their numbers. -/
theorem word_ge (a b : ℕ) (ha : a < 256) (hb : b < 256) :
    IntOp.cmpi .sge (BitVec.ofNat 32 a) (BitVec.ofNat 32 b) = if b ≤ a then 1#1 else 0#1 := by
  have e : (BitVec.ofNat 32 b).sle (BitVec.ofNat 32 a) = decide (b ≤ a) := by
    rw [BitVec.sle_eq_decide, BitVec.toInt_eq_toNat_of_lt, BitVec.toInt_eq_toNat_of_lt]
    · simp only [BitVec.toNat_ofNat]
      congr 1
      rw [Nat.mod_eq_of_lt (by omega), Nat.mod_eq_of_lt (by omega)]
      exact propext Int.ofNat_le
    · simp only [BitVec.toNat_ofNat]; omega
    · simp only [BitVec.toNat_ofNat]; omega
  by_cases h : b ≤ a <;> simp [IntOp.cmpi, e, h]

theorem iota_row {a b : ℕ} (h : (⟨2, ![a, b]⟩ : Shape).Iotas .tc 32 [0]) (i : Fin a) (j : Fin b) :
    iota .tc ⟨2, ![a, b]⟩ 32 [0] h (ix2 i j) = BitVec.ofNat 32 i.val := by
  show BitVec.ofNat 32 (0 * a + i.val) = _
  rw [Nat.zero_mul, Nat.zero_add]

theorem iota_col {a b : ℕ} (h : (⟨2, ![a, b]⟩ : Shape).Iotas .tc 32 [1]) (i : Fin a) (j : Fin b) :
    iota .tc ⟨2, ![a, b]⟩ 32 [1] h (ix2 i j) = BitVec.ofNat 32 j.val := by
  show BitVec.ofNat 32 (0 * b + j.val) = _
  rw [Nat.zero_mul, Nat.zero_add]

/-- The head of a row, as a word. -/
theorem row_head (i j : Fin 256) : k0_pay28 (ix2 i j) = BitVec.ofNat 32 (i.val / 64) := by
  have h : ∀ i : Fin 256, k0_pay28 (ix2 i 0) = BitVec.ofNat 32 (i.val / 64) := by decide +kernel
  exact (show k0_pay28 (ix2 i j) = k0_pay28 (ix2 i 0) from rfl).trans (h i)

/-- The mask of one head's columns. -/
theorem own_mask : k0_pay31 k0_pay28 (iota .tc S256x256 32 [1] iota_S256x256_d1_w32) 64#32 k0_pay29 k0_pay30 = ownMask := by
  have h : ∀ a : Fin 4, ∀ j : Fin 256, k0_pay31 (fun _ => BitVec.ofNat 32 a.val) (iota .tc S256x256 32 [1] iota_S256x256_d1_w32) 64#32
      k0_pay29 k0_pay30 (ix2 0 j) = if a.val = j.val / 64 then 1#1 else 0#1 := by decide +kernel
  refine ext_mat fun i j => ?_
  have e : k0_pay31 k0_pay28 (iota .tc S256x256 32 [1] iota_S256x256_d1_w32) 64#32 k0_pay29 k0_pay30 (ix2 i j)
      = k0_pay31 (fun _ => k0_pay28 (ix2 i j)) (iota .tc S256x256 32 [1] iota_S256x256_d1_w32) 64#32 k0_pay29 k0_pay30 (ix2 0 j) := rfl
  rw [e, row_head, show i.val / 64 = (blk i).val from rfl, h (blk i) j]
  exact if_congr ⟨fun e => Fin.ext e, fun e => congrArg Fin.val e⟩ rfl rfl

/-- A column's channel, as a word. -/
theorem col_lane (i : Fin 64) (j : Fin 256) : k0_pay32 (ix2 i j) = BitVec.ofNat 32 (j.val % 64) := by
  have h : ∀ j : Fin 256, k0_pay32 (ix2 0 j) = BitVec.ofNat 32 (j.val % 64) := by decide +kernel
  exact (show k0_pay32 (ix2 i j) = k0_pay32 (ix2 0 j) from rfl).trans (h j)

/-- The mask of earlier tokens. -/
theorem strict_mask : k0_pay33 = strictMask := by
  have h : ∀ i j : Fin 64, IntOp.cmpi .sgt (BitVec.ofNat 32 i.val) (BitVec.ofNat 32 j.val) = if j < i then 1#1 else 0#1 := by decide +kernel
  refine ext_mat fun i j => ?_
  have e : k0_pay33 (ix2 i j) = IntOp.cmpi .sgt (iota .tc S64x256 32 [0] iota_S64x256_d0_w32 (ix2 i j)) (k0_pay32 (ix2 i j)) := rfl
  rw [e, col_lane, iota_row]
  exact h i (lane j)

/-- The mask of tokens up to this one. -/
theorem incl_mask : k0_pay34 = inclMask := by
  have h : ∀ i j : Fin 64, IntOp.cmpi .sge (BitVec.ofNat 32 i.val) (BitVec.ofNat 32 j.val) = if j ≤ i then 1#1 else 0#1 := by decide +kernel
  refine ext_mat fun i j => ?_
  have e : k0_pay34 (ix2 i j) = IntOp.cmpi .sge (iota .tc S64x256 32 [0] iota_S64x256_d0_w32 (ix2 i j)) (k0_pay32 (ix2 i j)) := rfl
  rw [e, col_lane, iota_row]
  exact h i (lane j)

/-- A choice between the words one and zero, as a real. -/
theorem select_real (p : Prop) [Decidable p] :
    Scalar.select (if p then 1#1 else 0#1) (Scalar.ofBits (F := Ideal) .f32 0x3F800000#32) (Scalar.ofBits (F := Ideal) .f32 0x00000000#32)
      = ((if p then 1 else 0 : ℝ) : EReal) := by
  by_cases h : p
  · rw [if_pos h, if_pos h, select_one, one_f32]
  · rw [if_neg h, if_neg h, select_zero, zero_f32]

/-- Each head's unit matrix, over the tokens. -/
theorem eye_tok : k0_pay35 (F := Ideal) = mat .f32 (pack 1) := by
  have h : ∀ i j : Fin 64, IntOp.cmpi .eq (BitVec.ofNat 32 i.val) (BitVec.ofNat 32 j.val) = if i = j then 1#1 else 0#1 := fun i j =>
    (word_eq _ _ (by omega) (by omega)).trans (if_congr Fin.ext_iff.symm rfl rfl)
  refine ext_mat fun i j => ?_
  have e : k0_pay35 (F := Ideal) (ix2 i j) = Scalar.select (IntOp.cmpi .eq (iota .tc S64x256 32 [0] iota_S64x256_d0_w32 (ix2 i j)) (k0_pay32 (ix2 i j)))
    (Scalar.ofBits .f32 0x3F800000#32) (Scalar.ofBits .f32 0x00000000#32) := rfl
  rw [e, col_lane, iota_row, show j.val % 64 = (lane j).val from rfl, h i (lane j), select_real, mat_at]
  rfl

/-- The unit matrix over the channels. -/
theorem eye_ch : k0_pay36 (F := Ideal) = mat .f32 1 := by
  have h : ∀ i j : Fin 256, IntOp.cmpi .eq (BitVec.ofNat 32 i.val) (BitVec.ofNat 32 j.val) = if i = j then 1#1 else 0#1 := fun i j =>
    (word_eq _ _ i.isLt j.isLt).trans (if_congr Fin.ext_iff.symm rfl rfl)
  refine ext_mat fun i j => ?_
  have e : k0_pay36 (F := Ideal) (ix2 i j) = Scalar.select (IntOp.cmpi .eq (iota .tc S256x256 32 [0] iota_S256x256_d0_w32 (ix2 i j))
    (iota .tc S256x256 32 [1] iota_S256x256_d1_w32 (ix2 i j))) (Scalar.ofBits .f32 0x3F800000#32) (Scalar.ofBits .f32 0x00000000#32) := rfl
  rw [e, iota_col, iota_row, h i j, select_real, mat_at]
  rfl

/-- The tokens of the same block up to this one. -/
def trilM : Matrix (Fin 256) (Fin 256) ℝ := Matrix.of fun i j => if j ≤ i ∧ blk i = blk j then 1 else 0

theorem pay23_row (i j : Fin 256) : k0_pay23 (ix2 i j) = BitVec.ofNat 32 (i.val / 64) := by
  have h : ∀ i : Fin 256, k0_pay23 (ix2 i 0) = BitVec.ofNat 32 (i.val / 64) := by decide +kernel
  exact (show k0_pay23 (ix2 i j) = k0_pay23 (ix2 i 0) from rfl).trans (h i)

/-- The running sums' matrix. -/
theorem tril_ones : k0_pay27 (F := Ideal) k0_pay22 k0_pay23 k0_pay24 k0_pay25 k0_pay26 0#32 = mat .bf16 trilM := by
  have h : ∀ i j : Fin 256, IntOp.cmpi .sge (BitVec.ofNat 32 i.val) (BitVec.ofNat 32 j.val) = if j ≤ i then 1#1 else 0#1 := fun i j =>
    word_ge _ _ i.isLt j.isLt
  have hc : ∀ j : Fin 256, Scalar.select (IntOp.andi (k0_pay25 (ix2 0 j)) (IntOp.cmpi .ne (k0_pay26 (ix2 0 j)) 0#32))
      (IntOp.subi (k0_pay24 (ix2 0 j)) 1#32) (k0_pay24 (ix2 0 j)) = BitVec.ofNat 32 (j.val / 64) := by decide +kernel
  have hb : ∀ a b : Fin 4, IntOp.cmpi .eq (BitVec.ofNat 32 a.val) (BitVec.ofNat 32 b.val) = if a = b then 1#1 else 0#1 := by decide +kernel
  have ha : ∀ p q : Prop, ∀ [Decidable p] [Decidable q], IntOp.andi (if p then 1#1 else 0#1) (if q then 1#1 else 0#1)
      = if p ∧ q then 1#1 else (0#1 : BitVec 1) := by
    intro p q _ _
    by_cases hp : p <;> by_cases hq : q <;> simp [hp, hq, IntOp.andi]
  refine ext_mat fun i j => ?_
  have e : (k0_pay27 (F := Ideal) k0_pay22 k0_pay23 k0_pay24 k0_pay25 k0_pay26 0#32 (ix2 i j) : Ideal .f32)
    = Scalar.select (IntOp.andi (IntOp.cmpi .sge (iota .tc S256x256 32 [0] iota_S256x256_d0_w32 (ix2 i j))
        (iota .tc S256x256 32 [1] iota_S256x256_d1_w32 (ix2 i j)))
        (IntOp.cmpi .eq (k0_pay23 (ix2 i j)) (Scalar.select (IntOp.andi (k0_pay25 (ix2 0 j)) (IntOp.cmpi .ne (k0_pay26 (ix2 0 j)) 0#32))
      (IntOp.subi (k0_pay24 (ix2 0 j)) 1#32) (k0_pay24 (ix2 0 j)))))
      (Scalar.ofBits (F := Ideal) .f32 0x3F800000#32) (Scalar.ofBits (F := Ideal) .f32 0x00000000#32) := rfl
  rw [e, iota_col, iota_row, h, pay23_row, hc, show i.val / 64 = (blk i).val from rfl, show j.val / 64 = (blk j).val from rfl, hb, ha,
    select_real, mat_at]
  rfl

end Cert.Rwkv

end
-- ==== Proof.SguBlock.lean ====
/- The gating kernel's body: the block it leaves is the unit's function of each of its chunks of token rows. -/
module

public import proofs.«01_k».proof.Proof.SguSpec
public import proofs.«01_k».proof.Proof.FfnBlock
public import proofs.«01_k».proof.Proof.RwkvMasks
public import proofs.«01_k».proof.Proof.Gen.Kernel4Ideal.Value

@[expose] public section

noncomputable section

namespace Cert.Sgu.Block

open Cert.Kernel4Ideal Cert.Kernel4Ideal.Gen Cert.Ops Cert.Sgu
open Cert.Ffn.Block (ld2 ld3)
open Idealize.ShloMosaic Idealize.ShloMosaic.ValueIdx

/-- The activation of a block. -/
theorem act (x : FVec Ideal S512x512 .f32) :
    mulf (mulf (broadcast S512x512 (Scalar.ofBits (F := Ideal) .f32 0x3F000000#32)) x)
      (addf (broadcast S512x512 (Scalar.ofBits (F := Ideal) .f32 0x3F800000#32))
        (tanh (mulf (broadcast S512x512 (Scalar.ofBits (F := Ideal) .f32 0x3F4C422A#32))
          (addf x (mulf (broadcast S512x512 (Scalar.ofBits (F := Ideal) .f32 0x3D372713#32)) (mulf (mulf x x) x))))))
      = fun i => gelu (x i) := funext fun i => gelu_half (x i)

theorem pay3 (A : Vec Ideal S1x512x512 .f32) (r j : Fin 512) : k0_pay3 (F := Ideal) A (ix2 r j) = gelu (A (ix3 0 r j)) := by
  unfold k0_pay3
  rw [act]
  exact congrArg gelu (drop_lead _ _ r j)

/-- The second half of the row, activated and centred. -/
theorem pay4 (A : Vec Ideal S1x512x512 .f32) (r j : Fin 512) :
    k0_pay4 (F := Ideal) A (ix2 r j) = centre (fun k => gelu (A (ix3 0 r k))) j := by
  unfold k0_pay4
  rw [act]
  simp only [subf_apply, divf_apply, spread_col, as_col, broadcast_apply]
  rw [row_sum]
  simp only [drop_lead]
  rfl

theorem pay5 (A : Vec Ideal S1x512x512 .f32) (r : Fin 512) (o : Fin 1) :
    k0_pay5 (F := Ideal) A (ix2 r o) = ∑ k, centre (fun k => gelu (A (ix3 0 r k))) k * centre (fun k => gelu (A (ix3 0 r k))) k := by
  unfold k0_pay5
  rw [as_col, row_sum]
  simp only [mulf_apply, pay4]

/-- The second half of the row, activated and normalised. -/
theorem pay7 (A : Vec Ideal S1x512x512 .f32) (g b : Vec Ideal S1x512 .f32) (r j : Fin 512) :
    k0_pay7 (F := Ideal) (k0_pay4 A) (k0_pay5 A) k0_pay6 g b (ix2 r j)
      = norm (fun k => gelu (A (ix3 0 r k))) (fun k => g (ix2 0 k)) (fun k => b (ix2 0 k)) j := by
  unfold k0_pay7 k0_pay6
  simp only [truncf_apply, addf_apply, mulf_apply, divf_apply, spread_col, spread_row, shapeCast_self, broadcast_apply, rsqrt,
    Ideal.rsqrt_def, pay4, pay5]
  rfl

theorem mask_at (t k : Fin 128) : k0_pay8 (ix2 t k) = if k.val ≤ t.val then 1#1 else 0#1 := by
  unfold k0_pay8
  show IntOp.cmpi .sge (iota .tc S128x128 32 [0] iota_S128x128_d0_w32 (ix2 t k)) (iota .tc S128x128 32 [1] iota_S128x128_d1_w32 (ix2 t k)) = _
  rw [Cert.Rwkv.iota_row, Cert.Rwkv.iota_col, Cert.Rwkv.word_ge t.val k.val (by omega) (by omega)]

/-- One group's weights, those of later tokens zero. -/
theorem masked (W : Vec Ideal S1x128x128 .f32) (h : S1x128x128.ShapeCasts S128x128) (hb) (t k : Fin 128) :
    truncf .bf16 (select k0_pay8 (shapeCast S128x128 W h) (broadcast S128x128 (Scalar.ofBits (F := Ideal) .f32 0x00000000#32))) hb (ix2 t k)
      = causal (fun t k => W (ix3 0 t k)) t k := by
  show Scalar.select (k0_pay8 (ix2 t k)) (shapeCast S128x128 W h (ix2 t k)) (Scalar.ofBits (F := Ideal) .f32 0x00000000#32) = _
  rw [mask_at, causal, drop_lead]
  by_cases hk : k.val ≤ t.val
  · rw [if_pos hk, if_pos hk]; rfl
  · rw [if_neg hk, if_neg hk]; exact Ideal.ofBits_zero_f32

theorem pay9 (W : Vec Ideal S1x128x128 .f32) (t k : Fin 128) : k0_pay9 (F := Ideal) W (ix2 t k) = causal (fun t k => W (ix3 0 t k)) t k :=
  masked W _ _ t k
theorem pay10 (W : Vec Ideal S1x128x128 .f32) (t k : Fin 128) : k0_pay10 (F := Ideal) W (ix2 t k) = causal (fun t k => W (ix3 0 t k)) t k :=
  masked W _ _ t k
theorem pay11 (W : Vec Ideal S1x128x128 .f32) (t k : Fin 128) : k0_pay11 (F := Ideal) W (ix2 t k) = causal (fun t k => W (ix3 0 t k)) t k :=
  masked W _ _ t k
theorem pay12 (W : Vec Ideal S1x128x128 .f32) (t k : Fin 128) : k0_pay12 (F := Ideal) W (ix2 t k) = causal (fun t k => W (ix3 0 t k)) t k :=
  masked W _ _ t k

/-- Four square blocks side by side. -/
theorem beside (X : Fin 4 → FVec Ideal S128x128 .f32) (h : Shape.Concatenates [S128x128, S128x128, S128x128, S128x128] S128x512 1)
    (t : Fin 128) (j : Fin 512) :
    concatenate S128x512 1 [⟨S128x128, X 0⟩, ⟨S128x128, X 1⟩, ⟨S128x128, X 2⟩, ⟨S128x128, X 3⟩] h (ix2 t j)
      = X (grp j) (ix2 t ⟨j.val % 128, by omega⟩) := by
  let e : Fin 128 := ⟨j.val % 128, by omega⟩
  have hp : ∀ k : Fin 4, grp j = k → (128 * k.val + e.val = j.val) := fun k hk => by
    rw [← hk]; show 128 * (j.val / 128) + j.val % 128 = j.val; omega
  have hi : ∀ b : Fin S128x128.rank, b.cast (rfl : S128x128.rank = S128x512.rank) ≠ 1
      → ((ix2 t e : S128x128.Idx) b).val = ((ix2 t j : S128x512.Idx) (b.cast rfl)).val := fun b hb' => by
    match b with
    | ⟨0, _⟩ => rfl
    | ⟨1, _⟩ => exact absurd rfl hb'
  let xs : List ((s : Shape) × (s.Idx → EReal)) := [⟨S128x128, X 0⟩, ⟨S128x128, X 1⟩, ⟨S128x128, X 2⟩, ⟨S128x128, X 3⟩]
  show concatenate S128x512 1 xs h (ix2 t j) = X (grp j) (ix2 t e)
  match hk : grp j with
  | ⟨0, _⟩ =>
    exact concatenate_apply_piece 1 xs h (ix2 t j) 0 (by show 0 < 4; omega) S128x128 (X 0) rfl rfl 0 rfl (ix2 t e) hi (hp 0 hk)
  | ⟨1, _⟩ =>
    exact concatenate_apply_piece 1 xs h (ix2 t j) 1 (by show 1 < 4; omega) S128x128 (X 1) rfl rfl 128 rfl (ix2 t e) hi (hp 1 hk)
  | ⟨2, _⟩ =>
    exact concatenate_apply_piece 1 xs h (ix2 t j) 2 (by show 2 < 4; omega) S128x128 (X 2) rfl rfl 256 rfl (ix2 t e) hi (hp 2 hk)
  | ⟨3, _⟩ =>
    exact concatenate_apply_piece 1 xs h (ix2 t j) 3 (by show 3 < 4; omega) S128x128 (X 3) rfl rfl 384 rfl (ix2 t e) hi (hp 3 hk)

/-- A square block of the normalised half. -/
theorem cut (v : FVec Ideal S512x512 .bf16) (o p : Nat) (h : S512x512.Slices ![o, p] S128x128) (k e : Fin 128) (ho : o + k.val < 512) (hp : p + e.val < 512) :
    extractStridedSlice S128x128 ![o, p] v h (ix2 k e) = v (ix2 ⟨o + k.val, ho⟩ ⟨p + e.val, hp⟩) :=
  extractStridedSlice_apply _ v h _ _ fun a => by
    match a with
    | ⟨0, _⟩ => rfl
    | ⟨1, _⟩ => rfl

/-- What is stored for the chunk at rows `o` to `o + 127`. -/
theorem chunk (o : Nat) (ho : o + 128 ≤ 512) (u : FVec Ideal S512x512 .f32) (v : FVec Ideal S512x512 .bf16)
    (w0 w1 w2 w3 : FVec Ideal S128x128 .bf16) (bias : Vec Ideal S128x512 .f32)
    (h0 : S512x512.Slices ![o, 0] S128x128) (h1 : S512x512.Slices ![o, 128] S128x128) (h2 : S512x512.Slices ![o, 256] S128x128)
    (h3 : S512x512.Slices ![o, 384] S128x128) (hu : S512x512.Slices ![o, 0] S128x512)
    (hc : Shape.Concatenates [S128x128, S128x128, S128x128, S128x128] S128x512 1) (hs : S128x512.ShapeCasts S128x512) (hb)
    (hl : S128x512.ShapeCasts S1x128x512)
    (f : Fin 512 → Fin 512 → EReal) (n : Fin 512 → Fin 512 → EReal) (W : Fin 4 → Fin 128 → Fin 128 → EReal) (s : Fin 128 → Fin 512 → EReal)
    (eu : ∀ r j, u (ix2 r j) = f r j) (ev : ∀ r j, v (ix2 r j) = n r j)
    (e0 : ∀ t k, w0 (ix2 t k) = W 0 t k) (e1 : ∀ t k, w1 (ix2 t k) = W 1 t k) (e2 : ∀ t k, w2 (ix2 t k) = W 2 t k)
    (e3 : ∀ t k, w3 (ix2 t k) = W 3 t k) (es : ∀ t j, bias (ix2 t j) = s t j) (q : Fin 1) (t : Fin 128) (j : Fin 512) :
    shapeCast S1x128x512 (truncf .bf16 (mulf (extractStridedSlice S128x512 ![o, 0] u hu)
      (addf (concatenate S128x512 1 [
          ⟨S128x128, matmul dot_S128x128_S128x128_S128x128_1_0_0_1_n_n none w0 (extractStridedSlice S128x128 ![o, 0] v h0) (constant S128x128 .f32 0x00000000#32)⟩,
          ⟨S128x128, matmul dot_S128x128_S128x128_S128x128_1_0_0_1_n_n none w1 (extractStridedSlice S128x128 ![o, 128] v h1) (constant S128x128 .f32 0x00000000#32)⟩,
          ⟨S128x128, matmul dot_S128x128_S128x128_S128x128_1_0_0_1_n_n none w2 (extractStridedSlice S128x128 ![o, 256] v h2) (constant S128x128 .f32 0x00000000#32)⟩,
          ⟨S128x128, matmul dot_S128x128_S128x128_S128x128_1_0_0_1_n_n none w3 (extractStridedSlice S128x128 ![o, 384] v h3) (constant S128x128 .f32 0x00000000#32)⟩] hc)
        (shapeCast S128x512 bias hs))) hb) hl (ix3 q t j)
      = f ⟨o + t.val, by omega⟩ j * (∑ k : Fin 128, W (grp j) t k * n ⟨o + k.val, by omega⟩ j + s t j) := by
  rw [add_lead, truncf_apply, mulf_apply, addf_apply, shapeCast_self, es,
    extractStridedSlice_apply _ u hu (ix2 t j) (ix2 ⟨o + t.val, by omega⟩ j) (fun a => by
      match a with
      | ⟨0, _⟩ => rfl
      | ⟨1, _⟩ => exact (Nat.zero_add _).symm), eu]
  refine congrArg (f ⟨o + t.val, by omega⟩ j * ·) (congrArg (· + s t j) ?_)
  have hp : ∀ p : Fin 4, grp j = p → ∀ h : 128 * p.val + j.val % 128 < 512, (⟨128 * p.val + j.val % 128, h⟩ : Fin 512) = j := fun p hp h => by
    rw [← hp] at h; subst hp; exact Fin.ext (by show 128 * (j.val / 128) + j.val % 128 = j.val; omega)
  have one : ∀ (p : Fin 4) (w : FVec Ideal S128x128 .bf16) (hw : ∀ t k, w (ix2 t k) = W p t k)
      (h : S512x512.Slices ![o, 128 * p.val] S128x128), grp j = p →
      matmul dot_S128x128_S128x128_S128x128_1_0_0_1_n_n none w (extractStridedSlice S128x128 ![o, 128 * p.val] v h) (constant S128x128 .f32 0x00000000#32)
        (ix2 t ⟨j.val % 128, by omega⟩) = ∑ k : Fin 128, W (grp j) t k * n ⟨o + k.val, by omega⟩ j := fun p w hw h hpj =>
    (mm_plain _ rfl none w _ t _).trans (Finset.sum_congr rfl fun k _ => by
      rw [hw, hpj, cut v o (128 * p.val) h k ⟨j.val % 128, by omega⟩ (by omega) (by show 128 * p.val + j.val % 128 < 512; omega), ev, hp p hpj])
  refine (beside ![_, _, _, _] hc t j).trans ?_
  match hk : grp j with
  | ⟨0, _⟩ => exact (one 0 w0 e0 h0 hk).trans (by rw [hk])
  | ⟨1, _⟩ => exact (one 1 w1 e1 h1 hk).trans (by rw [hk])
  | ⟨2, _⟩ => exact (one 2 w2 e2 h2 hk).trans (by rw [hk])
  | ⟨3, _⟩ => exact (one 3 w3 e3 h3 hk).trans (by rw [hk])

/-- Where an index of a chunk's store stands in the block. -/
theorem place (o : Nat) (inb : ∀ a, (![0, o, 0] : Fin 3 → Nat) a + S1x128x512.size a ≤ S1x512x512.size a) (q : Fin 1) (t : Fin 128) (j : Fin 512)
    (h : o + t.val < 512) :
    (Rect.unit (s := S1x512x512) ![0, o, 0] S1x128x512.size inb).emb (ix3 q t j) = ix3 0 ⟨o + t.val, h⟩ j :=
  funext fun a => Fin.ext (by
    match a with
    | ⟨0, _⟩ => show 0 + 1 * q.val = 0; omega
    | ⟨1, _⟩ => show o + 1 * t.val = o + t.val; omega
    | ⟨2, _⟩ => show 0 + 1 * j.val = j.val; omega)

section Out
variable (x0 : Vec Ideal S1x512x1024 .f32) (x1 x2 : Vec Ideal S1x512 .f32) (x3 : Vec Ideal S4x128x128 .f32) (x4 : Vec Ideal S128x512 .f32)
  (s : Fin 4 → Fin 128 → EReal)

/-- The block the body leaves. -/
def blockOf : Vec Ideal S1x512x512 .bf16 := fun i =>
  unit (fun k u => x0 (ix3 0 ⟨(i 1).val / 128 * 128 + k.val, by have : (i 1).val < 512 := (i 1).isLt; omega⟩ u)) (fun k => x1 (ix2 0 k))
    (fun k => x2 (ix2 0 k)) (fun g t k => x3 (ix3 g t k)) s ⟨(i 1).val % 128, by omega⟩ (i 2)

/-- The block at a row of the chunk starting at row `o`. -/
theorem blockOf_chunk (o : Nat) (ho : o + 128 ≤ 512) (hd : o / 128 * 128 = o) (t : Fin 128) (j : Fin 512) :
    blockOf x0 x1 x2 x3 s (ix3 0 ⟨o + t.val, by omega⟩ j)
      = gelu (x0 (ix3 0 ⟨o + t.val, by omega⟩ ⟨j.val, by omega⟩)) * (∑ k : Fin 128, causal (fun t k => x3 (ix3 (grp j) t k)) t k
          * gated (fun u => x0 (ix3 0 ⟨o + k.val, by omega⟩ u)) (fun k => x1 (ix2 0 k)) (fun k => x2 (ix2 0 k)) j + s (grp j) t) := by
  have e1 : (o + t.val) / 128 * 128 = o := by omega
  have e2 : (o + t.val) % 128 = t.val := by omega
  unfold blockOf unit
  show gelu (x0 (ix3 0 ⟨(o + t.val) / 128 * 128 + (o + t.val) % 128, _⟩ ⟨j.val, _⟩)) * (∑ k : Fin 128, causal (fun t k => x3 (ix3 (grp j) t k)) ⟨(o + t.val) % 128, _⟩ k
      * gated (fun u => x0 (ix3 0 ⟨(o + t.val) / 128 * 128 + k.val, _⟩ u)) (fun k => x1 (ix2 0 k)) (fun k => x2 (ix2 0 k)) j + s (grp j) ⟨(o + t.val) % 128, _⟩) = _
  simp only [e1, e2]

/-- What the body leaves in its output block. -/
theorem out (hs : ∀ t j, x4 (ix2 t j) = s (grp j) t) : out0_5 x0 x1 x2 x3 x4 = blockOf x0 x1 x2 x3 s := by
  have hu : ∀ r j : Fin 512, k0_pay3 (F := Ideal) (View.ld x0 r0_0) (ix2 r j) = gelu (x0 (ix3 0 r ⟨j.val, by omega⟩)) := fun r j =>
    (pay3 _ r j).trans (congrArg gelu ((ld3 x0 0 0 0 _ 0 r j (by omega) (by omega) (by omega)).trans (by simp only [Nat.zero_add])))
  have hv0 : ∀ r j : Fin 512, View.ld x0 r0_1 (ix3 0 r j) = x0 (ix3 0 r ⟨512 + j.val, by omega⟩) := fun r j =>
    (ld3 x0 0 0 512 _ 0 r j (by omega) (by omega) (by omega)).trans (by simp only [Nat.zero_add])
  have g1 : ∀ k : Fin 512, View.ld x1 r0_2 (ix2 0 k) = x1 (ix2 0 k) := fun k =>
    (ld2 x1 0 0 _ 0 k (by omega) (by omega)).trans (by simp only [Nat.zero_add])
  have g2 : ∀ k : Fin 512, View.ld x2 r0_2 (ix2 0 k) = x2 (ix2 0 k) := fun k =>
    (ld2 x2 0 0 _ 0 k (by omega) (by omega)).trans (by simp only [Nat.zero_add])
  have hv : ∀ r j : Fin 512, k0_pay7 (F := Ideal) (k0_pay4 (View.ld x0 r0_1)) (k0_pay5 (View.ld x0 r0_1)) k0_pay6 (View.ld x1 r0_2) (View.ld x2 r0_2) (ix2 r j)
      = gated (fun u => x0 (ix3 0 r u)) (fun k => x1 (ix2 0 k)) (fun k => x2 (ix2 0 k)) j := fun r j => by
    rw [pay7]
    simp only [hv0, g1, g2]
    rfl
  have w0 : ∀ t k : Fin 128, k0_pay9 (F := Ideal) (View.ld x3 r0_3) (ix2 t k) = causal (fun t k => x3 (ix3 0 t k)) t k := fun t k =>
    (pay9 _ t k).trans (congrArg (fun w => causal w t k) (funext fun t => funext fun k =>
      (ld3 x3 0 0 0 _ 0 t k (by omega) (by omega) (by omega)).trans (by simp only [Nat.zero_add]; rfl)))
  have w1 : ∀ t k : Fin 128, k0_pay10 (F := Ideal) (View.ld x3 r0_4) (ix2 t k) = causal (fun t k => x3 (ix3 1 t k)) t k := fun t k =>
    (pay10 _ t k).trans (congrArg (fun w => causal w t k) (funext fun t => funext fun k =>
      (ld3 x3 1 0 0 _ 0 t k (by omega) (by omega) (by omega)).trans (by simp only [Nat.zero_add]; rfl)))
  have w2 : ∀ t k : Fin 128, k0_pay11 (F := Ideal) (View.ld x3 r0_5) (ix2 t k) = causal (fun t k => x3 (ix3 2 t k)) t k := fun t k =>
    (pay11 _ t k).trans (congrArg (fun w => causal w t k) (funext fun t => funext fun k =>
      (ld3 x3 2 0 0 _ 0 t k (by omega) (by omega) (by omega)).trans (by simp only [Nat.zero_add]; rfl)))
  have w3 : ∀ t k : Fin 128, k0_pay12 (F := Ideal) (View.ld x3 r0_6) (ix2 t k) = causal (fun t k => x3 (ix3 3 t k)) t k := fun t k =>
    (pay12 _ t k).trans (congrArg (fun w => causal w t k) (funext fun t => funext fun k =>
      (ld3 x3 3 0 0 _ 0 t k (by omega) (by omega) (by omega)).trans (by simp only [Nat.zero_add]; rfl)))
  have es : ∀ t j, View.ld x4 r0_7 (ix2 t j) = s (grp j) t := fun t j =>
    (ld2 x4 0 0 _ t j (by omega) (by omega)).trans (by simp only [Nat.zero_add]; exact hs t j)
  have piece := fun (o : Nat) (ho : o + 128 ≤ 512) (hd : o / 128 * 128 = o) h0 h1 h2 h3 hu' hc hs' hb hl
      (inb : ∀ a, (![0, o, 0] : Fin 3 → Nat) a + S1x128x512.size a ≤ S1x512x512.size a) (q : Fin 1) (t : Fin 128) (j : Fin 512) =>
    (chunk o ho (k0_pay3 (F := Ideal) (View.ld x0 r0_0))
      (k0_pay7 (k0_pay4 (View.ld x0 r0_1)) (k0_pay5 (View.ld x0 r0_1)) k0_pay6 (View.ld x1 r0_2) (View.ld x2 r0_2))
      (k0_pay9 (View.ld x3 r0_3)) (k0_pay10 (View.ld x3 r0_4)) (k0_pay11 (View.ld x3 r0_5)) (k0_pay12 (View.ld x3 r0_6)) (View.ld x4 r0_7)
      h0 h1 h2 h3 hu' hc hs' hb hl _ _ (fun g => causal (fun t k => x3 (ix3 g t k))) (fun t j => s (grp j) t) hu hv w0 w1 w2 w3 es q t j).trans
      ((blockOf_chunk x0 x1 x2 x3 s o ho hd t j).symm.trans (congrArg (blockOf x0 x1 x2 x3 s) (place o inb q t j (by omega)).symm))
  funext y
  unfold_out out0_5
  refine View.canon_apply_of_pieces (blockOf x0 x1 x2 x3 s) _ (fun p hp x => ?_) y (cover0_5 _ _ _ _ y)
  simp only [List.mem_cons, List.not_mem_nil, or_false] at hp
  rcases hp with rfl | rfl | rfl | rfl
  · rw [eq_ix3 x]
    exact piece 384 (by omega) rfl slices_S512x512_o384_0_S128x128 slices_S512x512_o384_128_S128x128 slices_S512x512_o384_256_S128x128
      slices_S512x512_o384_384_S128x128 slices_S512x512_o384_0_S128x512 _ _ _ _ inb_S1x512x512_S1x128x512_0_384_0 (x 0) (x 1) (x 2)
  · rw [eq_ix3 x]
    exact piece 256 (by omega) rfl slices_S512x512_o256_0_S128x128 slices_S512x512_o256_128_S128x128 slices_S512x512_o256_256_S128x128
      slices_S512x512_o256_384_S128x128 slices_S512x512_o256_0_S128x512 _ _ _ _ inb_S1x512x512_S1x128x512_0_256_0 (x 0) (x 1) (x 2)
  · rw [eq_ix3 x]
    exact piece 128 (by omega) rfl slices_S512x512_o128_0_S128x128 slices_S512x512_o128_128_S128x128 slices_S512x512_o128_256_S128x128
      slices_S512x512_o128_384_S128x128 slices_S512x512_o128_0_S128x512 _ _ _ _ inb_S1x512x512_S1x128x512_0_128_0 (x 0) (x 1) (x 2)
  · rw [eq_ix3 x]
    exact piece 0 (by omega) rfl slices_S512x512_o0_0_S128x128 slices_S512x512_o0_128_S128x128 slices_S512x512_o0_256_S128x128
      slices_S512x512_o0_384_S128x128 slices_S512x512_o0_0_S128x512 _ _ _ _ inb_S1x512x512_S1x128x512_0_0_0 (x 0) (x 1) (x 2)

end Out

end Cert.Sgu.Block

end
-- ==== Proof.SguRef.lean ====
/- The spatial gating unit's reference: its result array is the unit's function of each chunk of token rows. -/
module

public import proofs.«01_k».proof.Proof.SguSpec
public import proofs.«01_k».proof.Proof.RwkvMasks
public import proofs.«01_k».proof.Proof.Gen.Reference4Ideal.Read

@[expose] public section

noncomputable section

namespace Cert.Sgu.Ref

open Cert.Reference4Ideal Cert.Reference4Ideal.Read Cert.Sgu
open Idealize.ShloMosaic Idealize.ShloMosaic.ValueIdx

variable (x0 : (⟨S8x4096x1024, .f32⟩ : BufTy).Contents (Elt Ideal)) (x1 x2 : (⟨S512, .f32⟩ : BufTy).Contents (Elt Ideal))
  (x3 : (⟨S4x128x128, .f32⟩ : BufTy).Contents (Elt Ideal)) (x4 : (⟨S4x128, .f32⟩ : BufTy).Contents (Elt Ideal))
  (b : Fin 8) (t : Fin 4096)

/-- An index by chunk, token of the chunk, group and channel of the group. -/
def at5 (n : Fin 32) (r : Fin 128) (g : Fin 4) (e : Fin 128) : S8x32x128x4x128.Idx := fun a => match a with
  | ⟨0, _⟩ => b
  | ⟨1, _⟩ => n
  | ⟨2, _⟩ => r
  | ⟨3, _⟩ => g
  | ⟨4, _⟩ => e

/-- The activation. -/
theorem act_apply (u : Fin 1024) : val_main_v12 (F := Ideal) x0 (ix3 b t u) = gelu (x0 (ix3 b t u)) := by
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply]
  rfl

theorem first (j : Fin 512) : val_main_v13 (F := Ideal) x0 (ix3 b t j) = gelu (x0 (ix3 b t ⟨j.val, by omega⟩)) := by
  rw [val_main_v13_apply, show idx_main_v13 (ix3 b t j) = ix3 b t ⟨j.val, by omega⟩ from funext fun a => Fin.ext (by
    match a with
    | ⟨0, _⟩ => rfl
    | ⟨1, _⟩ => rfl
    | ⟨2, _⟩ => rfl), act_apply]

/-- The second half, activated. -/
abbrev second : Fin 512 → EReal := fun k => gelu (x0 (ix3 b t ⟨512 + k.val, by omega⟩))

theorem second_apply (j : Fin 512) : val_main_v14 (F := Ideal) x0 (ix3 b t j) = second x0 b t j := by
  rw [val_main_v14_apply, show idx_main_v14 (ix3 b t j) = ix3 b t ⟨512 + j.val, by omega⟩ from funext fun a => Fin.ext (by
    match a with
    | ⟨0, _⟩ => rfl
    | ⟨1, _⟩ => rfl
    | ⟨2, _⟩ => rfl), act_apply]

/-- The reductions' starting value is zero. -/
theorem start1 (i : S_.Idx) : val_main_cst_3 (F := Ideal) i = 0 := Ideal.ofBits_zero_f32
theorem start2 (i : S_.Idx) : val_main_cst_5 (F := Ideal) i = 0 := Ideal.ofBits_zero_f32

theorem sum1 : val_main_v15 (F := Ideal) x0 (ix2 b t) = ∑ k, second x0 b t k := by
  rw [val_main_v15_apply, start1, zero_add]
  refine Finset.sum_congr rfl fun k _ => ?_
  rw [show idx_main_v15 (ix2 b t) k = ix3 b t k from eq_ix3 _, second_apply]

theorem mean_apply (o : Fin 1) : val_main_v18 (F := Ideal) x0 (ix3 b t o) = Ideal.div (∑ k, second x0 b t k) width := by
  rw [val_main_v18_apply, val_main_v16_apply, val_main_v17_apply, show idx_main_v16 (ix3 b t o) = ix2 b t from eq_ix2 _, sum1]
  rfl

theorem centre1 (j : Fin 512) : val_main_v20 (F := Ideal) x0 (ix3 b t j) = centre (second x0 b t) j := by
  rw [val_main_v20_apply, val_main_v19_apply, second_apply, show idx_main_v19 (ix3 b t j) = ix3 b t 0 from eq_ix3 _, mean_apply]
  rfl
theorem centre2 (j : Fin 512) : val_main_v27 (F := Ideal) x0 (ix3 b t j) = centre (second x0 b t) j := by
  rw [val_main_v27_apply, val_main_v26_apply, second_apply, show idx_main_v26 (ix3 b t j) = ix3 b t 0 from eq_ix3 _, mean_apply]
  rfl

theorem sum2 : val_main_v22 (F := Ideal) x0 (ix2 b t) = ∑ k, centre (second x0 b t) k * centre (second x0 b t) k := by
  rw [val_main_v22_apply, start2, zero_add]
  refine Finset.sum_congr rfl fun k _ => ?_
  rw [show idx_main_v22 (ix2 b t) k = ix3 b t k from eq_ix3 _, val_main_v21_apply, centre1]
  rfl

theorem scale_apply (o : Fin 1) : val_main_v30 (F := Ideal) x0 (ix3 b t o)
    = Ideal.rsqrt (Ideal.div (∑ k, centre (second x0 b t) k * centre (second x0 b t) k) width + eps) := by
  rw [val_main_v30_apply, val_main_v29_apply, val_main_v25_apply, val_main_v23_apply, val_main_v24_apply, val_main_v28_apply,
    show idx_main_v23 (ix3 b t o) = ix2 b t from eq_ix2 _, sum2]
  rfl

/-- The normalised second half. -/
theorem gated_apply (j : Fin 512) : val_main_v38 (F := Ideal) x0 x1 x2 (ix3 b t j)
    = gated (fun u => x0 (ix3 b t u)) (fun k => x1 (ix1 k)) (fun k => x2 (ix1 k)) j := by
  rw [val_main_v38_apply, val_main_v35_apply, val_main_v32_apply, val_main_v31_apply, centre2, val_main_v34_apply, val_main_v33_apply,
    val_main_v37_apply, val_main_v36_apply, show idx_main_v31 (ix3 b t j) = ix3 b t 0 from eq_ix3 _, scale_apply,
    show idx_main_v33 (idx_main_v34 (ix3 b t j)) = ix1 j from eq_ix1 _, show idx_main_v36 (idx_main_v37 (ix3 b t j)) = ix1 j from eq_ix1 _]
  rfl

/-- The mask of the chunk's later tokens. -/
theorem mask_apply (r k : Fin 128) : val_main_v41 (F := Ideal) (ix2 r k) = if k.val ≤ r.val then 1#1 else 0#1 := by
  rw [val_main_v41_apply, val_main_call0_v4_apply, val_main_call0_v2_apply, val_main_call0_v0_apply, val_main_call0_v1_apply, val_main_call0_c_apply,
    val_main_call0_v3_apply, val_main_v40_apply, val_main_c_apply, val_main_call0_v5_apply, val_main_call0_c_0_apply]
  rw [show IntOp.addi (BitVec.ofNat 32 ((ix2 r k : S128x128.Idx) 0).val) 0#32 = BitVec.ofNat 32 r.val from BitVec.add_zero _]
  rw [show BitVec.ofNat 32 ((ix2 r k : S128x128.Idx) 1).val = BitVec.ofNat 32 k.val from rfl,
    Cert.Rwkv.word_ge r.val k.val (by omega) (by omega)]
  by_cases h : k.val ≤ r.val
  · rw [if_pos h]; rfl
  · rw [if_neg h]; rfl

theorem weight_apply (g : Fin 4) (r k : Fin 128) : val_main_v42 (F := Ideal) x3 (ix3 g r k) = causal (fun t k => x3 (ix3 g t k)) r k := by
  rw [val_main_v42_apply, val_main_call1_v1_apply, show idx_main_call1_v1 (ix3 g r k) = ix2 r k from eq_ix2 _, mask_apply, causal]
  by_cases h : k.val ≤ r.val
  · rw [if_pos h, if_pos h]; rfl
  · rw [if_neg h, if_neg h, val_main_call1_v2_apply, val_main_call1_v0_apply, val_main_c_8_apply]
    show (((0#32 : BitVec 32).toInt : ℝ) : EReal) = 0
    simp

/-- The bias. -/
theorem bias_apply (n : Fin 32) (r : Fin 128) (g : Fin 4) (e : Fin 128) : val_main_v48 (F := Ideal) x4 (at5 b n r g e) = x4 (ix2 g r) := by
  rw [val_main_v48_apply, val_main_v47_apply, val_main_v46_apply, val_main_v45_apply]
  exact congrArg x4 (eq_ix2 _)

/-- The mixed rows of a chunk. -/
theorem mixed_apply (n : Fin 32) (r : Fin 128) (g : Fin 4) (e : Fin 128) : val_main_v44 (F := Ideal) x0 x1 x2 x3 (at5 b n r g e)
    = ∑ k : Fin 128, causal (fun t k => x3 (ix3 g t k)) r k
        * gated (fun u => x0 (ix3 b ⟨n.val * 128 + k.val, by omega⟩ u)) (fun k => x1 (ix1 k)) (fun k => x2 (ix1 k)) ⟨g.val * 128 + e.val, by omega⟩ := by
  rw [val_main_v44_apply, val_main_v43_apply]
  refine Finset.sum_congr rfl fun k _ => ?_
  rw [show ridx_main_v43 (idx_main_v44 (at5 b n r g e)) k = ix3 g r k from eq_ix3 _, weight_apply, mul_comm, val_main_v39_apply,
    ← gated_apply x0 x1 x2 b]
  refine congrArg (_ * ·) (congrArg _ (funext fun a => Fin.ext ?_))
  match a with
  | ⟨0, _⟩ => show ((((b.val * 32 + n.val) * 128 + k.val) * 4 + g.val) * 128 + e.val) / 2097152 = b.val; omega
  | ⟨1, _⟩ => show ((((b.val * 32 + n.val) * 128 + k.val) * 4 + g.val) * 128 + e.val) / 512 % 4096 = n.val * 128 + k.val; omega
  | ⟨2, _⟩ => show ((((b.val * 32 + n.val) * 128 + k.val) * 4 + g.val) * 128 + e.val) % 512 = g.val * 128 + e.val; omega

/-- The result at a token and a channel. -/
theorem result (j : Fin 512) : val_main_v52 (F := Ideal) x0 x1 x2 x3 x4 (ix3 b t j)
    = unit (fun k u => x0 (ix3 b ⟨t.val / 128 * 128 + k.val, by omega⟩ u)) (fun k => x1 (ix1 k)) (fun k => x2 (ix1 k))
        (fun g r k => x3 (ix3 g r k)) (fun g r => x4 (ix2 g r)) ⟨t.val % 128, by omega⟩ j := by
  rw [val_main_v52_apply, val_main_v51_apply, first, val_main_v50_apply,
    show idx_main_v50 (ix3 b t j) = at5 b ⟨t.val / 128, by omega⟩ ⟨t.val % 128, by omega⟩ (grp j) ⟨j.val % 128, by omega⟩ from
      funext fun a => Fin.ext (by
        match a with
        | ⟨0, _⟩ => show ((b.val * 4096 + t.val) * 512 + j.val) / 2097152 = b.val; omega
        | ⟨1, _⟩ => show ((b.val * 4096 + t.val) * 512 + j.val) / 65536 % 32 = t.val / 128; omega
        | ⟨2, _⟩ => show ((b.val * 4096 + t.val) * 512 + j.val) / 512 % 128 = t.val % 128; omega
        | ⟨3, _⟩ => show ((b.val * 4096 + t.val) * 512 + j.val) / 128 % 4 = j.val / 128; omega
        | ⟨4, _⟩ => show ((b.val * 4096 + t.val) * 512 + j.val) % 128 = j.val % 128; omega),
    val_main_v49_apply, mixed_apply, bias_apply, unit]
  have ht : (⟨t.val / 128 * 128 + t.val % 128, by omega⟩ : Fin 4096) = t := Fin.ext (by show t.val / 128 * 128 + t.val % 128 = t.val; omega)
  have hj : (⟨(grp j).val * 128 + j.val % 128, by show j.val / 128 * 128 + j.val % 128 < 512; omega⟩ : Fin 512) = j :=
    Fin.ext (by show j.val / 128 * 128 + j.val % 128 = j.val; omega)
  simp only [ht, hj]
  rfl

end Cert.Sgu.Ref

end
-- ==== Proof.SguArray.lean ====
/- The gating kernel: after the run its result array is the unit's function of each chunk of token rows. -/
module

public import proofs.«01_k».proof.Proof.SguBlock
public import proofs.«01_k».proof.Proof.SguRef
public import proofs.«01_k».proof.Proof.Gen.Kernel4Ideal.Value
public import proofs.«01_k».proof.Defs
public import Idealize.ShloMosaic.Lib.Pipeline.ValueKit

@[expose] public section

set_option maxRecDepth 16384

noncomputable section

namespace Cert.Sgu.Array

open Cert.Kernel4Ideal Cert.Kernel4Ideal.Gen Cert.Sgu
open Idealize.ShloMosaic hiding ix1 ix2 ix3 eq_ix3 eq_ix2
open Idealize.ShloMosaic.TcCoe Idealize.SL.Sem Idealize.ShloMosaic.ValueIdx
open Idealize.ShloMosaic.Pipeline (Dat)

/-- The result at a token and a channel, from the call's arrays. -/
def entry (x0 : FVec Ideal S8x4096x1024 .f32) (x1 x2 : FVec Ideal S512 .f32) (x3 : FVec Ideal S4x128x128 .f32) (x4 : FVec Ideal S4x128 .f32)
    (b : Fin 8) (t : Fin 4096) (j : Fin 512) : EReal :=
  unit (fun k u => x0 (ix3 b ⟨t.val / 128 * 128 + k.val, by omega⟩ u)) (fun k => x1 (ix1 k)) (fun k => x2 (ix1 k))
    (fun g r k => x3 (ix3 g r k)) (fun g r => x4 (ix2 g r)) ⟨t.val % 128, by omega⟩ j

/-- The arrays of the call, whole. -/
def whole (x0 : FVec Ideal S8x4096x1024 .f32) (x1 x2 : FVec Ideal S512 .f32) (x3 : FVec Ideal S4x128x128 .f32) (x4 : FVec Ideal S4x128 .f32) :
    FVec Ideal S8x4096x512 .bf16 := fun i => entry x0 x1 x2 x3 x4 (i 0) (i 1) (i 2)

/-- Which block each window holds at a grid point. -/
theorem idx : ∀ t : Fin cfg0.N, win0_0.index t = ![t.val / 8, t.val % 8, 0] ∧ win0_1.index t = ![0, 0] ∧ win0_2.index t = ![0, 0]
    ∧ win0_3.index t = ![0, 0, 0] ∧ win0_4.index t = ![0, 0] ∧ win0_5.index t = ![t.val / 8, t.val % 8, 0] ∧ t.val / 8 < 8 :=
  (by decide +kernel : ∀ t : Fin grid0.N, _)

variable (m : (ℓ : Loc nD τ sig) → Buf (Elt Ideal) ℓ) (c : Dev nD)

/-- The gains and the bias the host hands to the call. -/
theorem host1 (k : Fin 512) : V m c main_v3 (ix2 0 k) = m ((c : Thread nD τ).loc main_arg1) (ix1 k) := by
  show StableHlo.after hostOps0 _ _ _ = _
  simp only [hostOps0]
  after_results
  exact Ops.as_row (a := 512) _ shapeCasts_S512_S1x512 0 k
theorem host2 (k : Fin 512) : V m c main_v4 (ix2 0 k) = m ((c : Thread nD τ).loc main_arg2) (ix1 k) := by
  show StableHlo.after hostOps0 _ _ _ = _
  simp only [hostOps0]
  after_results
  exact Ops.as_row (a := 512) _ shapeCasts_S512_S1x512 0 k

/-- The bias of each group, spread over the group's channels. -/
theorem spread_at (w : FVec Ideal S4x128 .f32) (h1 : S4x128.Transposes [1, 0] S128x4) (h2 : S128x4.BroadcastsInDim S128x4x128 (![0, 1] : Fin 2 → Fin S128x4x128.rank))
    (h3 : S128x4x128.ShapeCasts S128x512) (t : Fin 128) (j : Fin 512) :
    shapeCast S128x512 (broadcastInDim S128x4x128 (![0, 1] : Fin 2 → Fin S128x4x128.rank) h2 (transpose S128x4 [1, 0] w h1)) h3 (ix2 t j) = w (ix2 (grp j) t) := by
  rw [shapeCast_apply _ h3 (ix2 t j) (ix3 t (grp j) (⟨j.val % 128, by omega⟩ : Fin 128)) (by
    rw [Shape.rowMajor_val_three, Shape.rowMajor_val_two]
    show (t.val * 4 + j.val / 128) * 128 + j.val % 128 = t.val * 512 + j.val
    omega)]
  exact congrArg w (eq_ix2 _)

theorem host4 (t : Fin 128) (j : Fin 512) : V m c main_v2 (ix2 t j) = m ((c : Thread nD τ).loc main_arg4) (ix2 (grp j) t) := by
  show StableHlo.after hostOps0 _ _ _ = _
  simp only [hostOps0]
  after_results
  exact spread_at (m ((c : Thread nD τ).loc main_arg4)) _ _ _ t j

/-- The batch element of a grid point, and the token of a row of its block. -/
def bat (t : Fin cfg0.N) : Fin 8 := ⟨t.val / 8, (idx t).2.2.2.2.2.2⟩
def tok (t : Fin cfg0.N) (r : Fin 512) : Fin 4096 := ⟨t.val % 8 * 512 + r.val, by omega⟩

/-- What each window's block holds. -/
theorem blk0 (t : Fin cfg0.N) (r : Fin 512) (k : Fin 1024) : iblk m c 0 t (ix3 0 r k) = m ((c : Thread nD τ).loc main_arg0) (ix3 (bat t) (tok t r) k) := by
  blk_ext [iblk, V_main_arg0 m c, idx t, bat, tok]
theorem blk1 (t : Fin cfg0.N) (k : Fin 512) : iblk m c 1 t (ix2 0 k) = m ((c : Thread nD τ).loc main_arg1) (ix1 k) := by
  refine Eq.trans ?_ (host1 m c k); blk_ext [iblk, idx t]
theorem blk2 (t : Fin cfg0.N) (k : Fin 512) : iblk m c 2 t (ix2 0 k) = m ((c : Thread nD τ).loc main_arg2) (ix1 k) := by
  refine Eq.trans ?_ (host2 m c k); blk_ext [iblk, idx t]
theorem blk3 (t : Fin cfg0.N) (g : Fin 4) (r k : Fin 128) : iblk m c 3 t (ix3 g r k) = m ((c : Thread nD τ).loc main_arg3) (ix3 g r k) := by
  blk_ext [iblk, V_main_arg3 m c, idx t]
theorem blk4 (t : Fin cfg0.N) (r : Fin 128) (j : Fin 512) : iblk m c 4 t (ix2 r j) = m ((c : Thread nD τ).loc main_arg4) (ix2 (grp j) r) := by
  refine Eq.trans ?_ (host4 m c r j); blk_ext [iblk, idx t]

/-- Where an index of the output's block stands in the result. -/
theorem blk5 (t : Fin cfg0.N) (o : Fin 1) (r : Fin 512) (j : Fin 512) : ((cfg0.win 5).blk t).view.emb (ix3 o r j) = ix3 (bat t) (tok t r) j := by
  have ho : o.val = 0 := by omega
  funext d
  refine Fin.ext ?_
  match d with
  | ⟨0, _⟩ => blk_simp [idx t, bat]
  | ⟨1, _⟩ => blk_simp [idx t, tok]
  | ⟨2, _⟩ => blk_simp [idx t]

/-- What a grid point leaves at a row and a channel of its block. -/
theorem point (t : Fin cfg0.N) (o : Fin 1) (r : Fin 512) (j : Fin 512) :
    out0_5 (iblk m c 0 t) (iblk m c 1 t) (iblk m c 2 t) (iblk m c 3 t) (iblk m c 4 t) (ix3 o r j)
      = whole (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb (ix3 o r j)) := by
  rw [Block.out _ _ _ _ _ (fun g r => m ((c : Thread nD τ).loc main_arg4) (ix2 g r)) (fun r j => blk4 m c t r j), blk5]
  unfold whole entry Block.blockOf
  show unit _ _ _ _ _ (⟨r.val % 128, _⟩ : Fin 128) j = unit _ _ _ _ _ (⟨(t.val % 8 * 512 + r.val) % 128, _⟩ : Fin 128) j
  have hr : (t.val % 8 * 512 + r.val) % 128 = r.val % 128 := by omega
  congr 1
  · funext k u
    refine (blk0 m c t _ u).trans (congrArg (fun q => m ((c : Thread nD τ).loc main_arg0) (ix3 (bat t) q u)) (Fin.ext ?_))
    show t.val % 8 * 512 + (r.val / 128 * 128 + k.val) = (t.val % 8 * 512 + r.val) / 128 * 128 + k.val
    omega
  · exact funext (blk1 m c t)
  · exact funext (blk2 m c t)
  · exact funext fun g => funext fun r => funext fun k => blk3 m c t g r k
  · exact Fin.ext hr.symm

/-- The result array after the run. -/
theorem final : (dats m 0 c).arrAt 5 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5, eq_ix3 y]
  exact point m c t (y 0) (y 1) (y 2)

/-- The reference's result, whole. -/
theorem reference (x0 : FVec Ideal S8x4096x1024 .f32) (x1 x2 : FVec Ideal S512 .f32) (x3 : FVec Ideal S4x128x128 .f32) (x4 : FVec Ideal S4x128 .f32) :
    Cert.Reference4Ideal.Read.val_main_v52 (F := Ideal) x0 x1 x2 x3 x4 = whole x0 x1 x2 x3 x4 :=
  funext fun i => by
    rw [eq_ix3 i]
    exact Ref.result x0 x1 x2 x3 x4 (i 0) (i 1) (i 2)

/-- Kernel and reference compute the same gating. -/
theorem algebraic : Cert.algebraic_Kernel4Ideal_Reference4Ideal := by
  intro m ρ m' ρ' _ hagree
  refine ⟨fun c => whole (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · exact (θ_run Cert.Kernel4Ideal.defs _ _).mono (fun _ h c => ⟨(h c).1.trans (final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    obtain ⟨h0, h1, h2, h3, h4⟩ := hagree c
    refine (Cert.Reference4Ideal.Read.val_main_v52_eq m' c).trans ?_
    rw [reference, h0, h1, h2, h3, h4]

end Cert.Sgu.Array

end
-- ==== Proof.ProjSpec.lean ====
/- The mixer's projections: a product of a token's modulated normalised row with one column of the weights. -/
module

public import proofs.«01_k».proof.Proof.FfnSpec

@[expose] public section

noncomputable section

namespace Cert.Proj

open Idealize.ShloMosaic

/-- A token's row, normalised and modulated, against one column of the weights. -/
def col (x g sc sh : Fin 1024 → EReal) (w : Fin 1024 → EReal) : EReal := ∑ k, Ffn.pre x g sc sh k * w k

end Cert.Proj

end
-- ==== Proof.ProjBlock.lean ====
/- The mixer projections' body: each block it leaves is a product of the staged rows with columns of the staged weights. -/
module

public import proofs.«01_k».proof.Proof.ProjSpec
public import proofs.«01_k».proof.Proof.FfnBlock
public import proofs.«01_k».proof.Proof.Gen.Kernel5Ideal.Value

@[expose] public section

noncomputable section

namespace Cert.Proj.Block

open Cert.Kernel5Ideal Cert.Kernel5Ideal.Gen Cert.Ops Cert.Ffn Cert.Proj
open Cert.Ffn.Block (ld2 ld3 hz3)
open Idealize.ShloMosaic Idealize.ShloMosaic.ValueIdx

/-- The normalised block. -/
theorem pay3 (P0 : Vec Ideal S1x512x1024 .f32) (P2 : Vec Ideal S1x1024 .f32) (P3 P4 : Vec Ideal S1x1x1024 .f32)
    (r : Fin 512) (j : Fin 1024) :
    k0_pay3 (F := Ideal) P0 P2 P3 P4 (ix2 r j)
      = pre (fun k => P0 (ix3 0 r k)) (fun k => P2 (ix2 0 k)) (fun k => P3 (ix3 0 0 k)) (fun k => P4 (ix3 0 0 k)) j := by
  unfold k0_pay3 pre rms
  simp only [truncf_apply, addf_apply, mulf_apply, divf_apply, drop_lead, spread_col, spread_row, as_col, shapeCast_self, row_sum,
    broadcast_apply, rsqrt, Ideal.rsqrt_def]
  rw [row_sum]
  simp only [mulf_apply, drop_lead]
  rfl

variable (i : grid0.Coords) (x0 : Vec Ideal S1x512x1024 .f32) (x1 : Vec Ideal S1x3x1024 .f32) (x2 : Vec Ideal S1x1024 .f32)
  (x3 : Vec Ideal S1024x4864 .bf16) (x4 : Vec Ideal S512x1024 .bf16) (x5 : Vec Ideal S1x1024 .f32) (x6 : Vec Ideal S1x256 .f32)
  (o : Fin 1) (r : Fin 512)

/-- The normalised block, from the staged arrays. -/
theorem staged (j : Fin 1024) :
    k0_pay3 (F := Ideal) (View.ld x0 r0_0) (View.ld x2 r0_1) (View.ld x1 r0_2) (View.ld x1 r0_3) (ix2 r j)
      = pre (fun k => x0 (ix3 0 r k)) (fun k => x2 (ix2 0 k)) (fun k => x1 (ix3 0 1 k)) (fun k => x1 (ix3 0 0 k)) j := by
  have hx0 : ∀ k : Fin 1024, View.ld x0 r0_0 (ix3 0 r k) = x0 (ix3 0 r k) := fun k => congrFun (View.ld_unit_zero hz3 _ x0) (ix3 0 r k)
  have s0 : ∀ k : Fin 1024, View.ld x1 r0_3 (ix3 0 0 k) = x1 (ix3 0 0 k) := fun k =>
    (ld3 x1 0 0 0 _ 0 0 k (by omega) (by omega) (by omega)).trans (by simp only [Nat.zero_add]; rfl)
  have s1 : ∀ k : Fin 1024, View.ld x1 r0_2 (ix3 0 0 k) = x1 (ix3 0 1 k) := fun k =>
    (ld3 x1 0 1 0 _ 0 0 k (by omega) (by omega) (by omega)).trans (by simp only [Nat.zero_add]; rfl)
  have g0 : ∀ k : Fin 1024, View.ld x2 r0_1 (ix2 0 k) = x2 (ix2 0 k) := fun k =>
    (ld2 x2 0 0 _ 0 k (by omega) (by omega)).trans (by simp only [Nat.zero_add])
  refine (pay3 _ _ _ _ r j).trans ?_
  simp only [hx0, s0, s1, g0]

/-- A column of the staged weights against a staged row. -/
abbrev colOf (p : Fin 4864) : EReal :=
  col (fun k => x0 (ix3 0 r k)) (fun k => x2 (ix2 0 k)) (fun k => x1 (ix3 0 1 k)) (fun k => x1 (ix3 0 0 k)) (fun k => x3 (ix2 k p))

/-- The products of a staged row with columns of the staged weights. -/
theorem products {n : Nat} (w : FVec Ideal ⟨2, ![1024, n]⟩ .bf16) (u : Fin n) (p : Fin 4864) (hw : ∀ k : Fin 1024, w (ix2 k u) = x3 (ix2 k p)) :
    (∑ k : Fin 1024, k0_pay3 (F := Ideal) (View.ld x0 r0_0) (View.ld x2 r0_1) (View.ld x1 r0_2) (View.ld x1 r0_3) (ix2 r k) * w (ix2 k u) : EReal)
      = colOf x0 x1 x2 x3 r p :=
  Finset.sum_congr rfl fun k _ => congrArg₂ (· * ·) (staged x0 x1 x2 r k) (hw k)

/-- What the body leaves in three of its output blocks. -/
theorem out8 (u : Fin 256) : out0_8 (F := Ideal) i x0 x1 x2 x3 x4 x5 x6 (ix3 o r u) = colOf x0 x1 x2 x3 r ⟨1024 + u.val, by omega⟩ := by
  unfold_out out0_8
  rw [View.canon_unit_zero hz3]
  unfold k0_pay12 k0_pay5
  simp only [shapeCast_self]
  refine (add_lead _ _ o r u).trans ?_
  refine (mm_plain (φ₁ := .bf16) (φ₂ := .bf16) dot_S512x1024_S1024x256_S512x256_1_0_0_1_n_n rfl none _ _ r u).trans ?_
  exact products x0 x1 x2 x3 r (View.ld x3 r0_5) u _ fun k => (ld2 x3 0 1024 _ k u (by omega) (by omega)).trans (by simp only [Nat.zero_add])

theorem out12 (u : Fin 1024) : out0_12 (F := Ideal) i x0 x1 x2 x3 x4 x5 x6 (ix3 o r u) = colOf x0 x1 x2 x3 r ⟨2048 + u.val, by omega⟩ := by
  unfold_out out0_12
  rw [View.canon_unit_zero hz3]
  unfold k0_pay17 k0_pay9
  simp only [shapeCast_self]
  refine (add_lead _ _ o r u).trans ?_
  refine (mm_plain (φ₁ := .bf16) (φ₂ := .bf16) dot_S512x1024_S1024x1024_S512x1024_1_0_0_1_n_n rfl none _ _ r u).trans ?_
  exact products x0 x1 x2 x3 r (View.ld x3 r0_9) u _ fun k => (ld2 x3 0 2048 _ k u (by omega) (by omega)).trans (by simp only [Nat.zero_add])

theorem out13 (u : Fin 1792) : out0_13 (F := Ideal) i x0 x1 x2 x3 x4 x5 x6 (ix3 o r u) = colOf x0 x1 x2 x3 r ⟨3072 + u.val, by omega⟩ := by
  unfold_out out0_13
  rw [View.canon_unit_zero hz3]
  unfold k0_pay18 k0_pay10
  simp only [shapeCast_self]
  refine (add_lead _ _ o r u).trans ?_
  refine (mm_plain (φ₁ := .bf16) (φ₂ := .bf16) dot_S512x1024_S1024x1792_S512x1792_1_0_0_1_n_n rfl none _ _ r u).trans ?_
  exact products x0 x1 x2 x3 r (View.ld x3 r0_10) u _ fun k => (ld2 x3 0 3072 _ k u (by omega) (by omega)).trans (by simp only [Nat.zero_add])

end Cert.Proj.Block

end
-- ==== Proof.ProjRef.lean ====
/- The mixer projections' reference: each result is a product of a token's row with a column of the weights. -/
module

public import proofs.«01_k».proof.Proof.ProjSpec
public import proofs.«01_k».proof.Proof.Ops
public import proofs.«01_k».proof.Proof.Gen.Reference5Ideal.Read

@[expose] public section

noncomputable section

namespace Cert.Proj.Ref

open Cert.Reference5Ideal Cert.Reference5Ideal.Read Cert.Ops Cert.Ffn Cert.Proj
open Idealize.ShloMosaic Idealize.ShloMosaic.ValueIdx

variable (x0 : (⟨S8x4096x1024, .f32⟩ : BufTy).Contents (Elt Ideal)) (x1 : (⟨S8x3x1024, .f32⟩ : BufTy).Contents (Elt Ideal))
  (x2 : (⟨S1024, .f32⟩ : BufTy).Contents (Elt Ideal)) (x3 : (⟨S1024x7192, .f32⟩ : BufTy).Contents (Elt Ideal)) (b : Fin 8) (t : Fin 4096)

/-- The two modulation rows of a batch element. -/
theorem scale (k : Fin 1024) : val_main_v15 (F := Ideal) x1 (ix3 b 0 k) = x1 (ix3 b 1 k) := by
  rw [val_main_v15_apply, val_main_v14_apply, val_main_v13_apply]
  refine congrArg x1 (funext fun a => Fin.ext ?_)
  match a with
  | ⟨0, _⟩ => show (b.val * 1024 + k.val) / 1024 = b.val; omega
  | ⟨1, _⟩ => rfl
  | ⟨2, _⟩ => show (b.val * 1024 + k.val) % 1024 = k.val; omega
theorem shift (k : Fin 1024) : val_main_v22 (F := Ideal) x1 (ix3 b 0 k) = x1 (ix3 b 0 k) := by
  rw [val_main_v22_apply, val_main_v21_apply, val_main_v20_apply]
  refine congrArg x1 (funext fun a => Fin.ext ?_)
  match a with
  | ⟨0, _⟩ => show (b.val * 1024 + k.val) / 1024 = b.val; omega
  | ⟨1, _⟩ => rfl
  | ⟨2, _⟩ => show (b.val * 1024 + k.val) % 1024 = k.val; omega

/-- The reduction's starting value is zero. -/
theorem start1 (i : S_.Idx) : val_main_cst (F := Ideal) i = 0 := Ideal.ofBits_zero_f32

/-- The row's sum of squares. -/
theorem sq1 : val_main_v1 (F := Ideal) x0 (ix2 b t) = ∑ k, x0 (ix3 b t k) * x0 (ix3 b t k) := by
  rw [val_main_v1_apply, start1, zero_add]
  refine Finset.sum_congr rfl fun k _ => ?_
  rw [show idx_main_v1 (ix2 b t) k = ix3 b t k from eq_ix3 _, val_main_v0_apply]
  rfl

/-- The normalised, modulated row. -/
theorem pre_apply (k : Fin 1024) :
    val_main_v24 (F := Ideal) x0 x1 x2 (ix3 b t k)
      = pre (fun k => x0 (ix3 b t k)) (fun k => x2 (ix1 k)) (fun k => x1 (ix3 b 1 k)) (fun k => x1 (ix3 b 0 k)) k := by
  rw [val_main_v24_apply, val_main_v19_apply, val_main_v12_apply, val_main_v9_apply, val_main_v8_apply, val_main_v7_apply,
    val_main_v6_apply, val_main_v4_apply, val_main_v2_apply, val_main_v11_apply, val_main_v10_apply, val_main_v18_apply,
    val_main_v17_apply, val_main_v23_apply]
  rw [show idx_main_v2 (idx_main_v8 (ix3 b t k)) = ix2 b t from eq_ix2 _, sq1,
    show idx_main_v18 (ix3 b t k) = ix3 b 0 k from eq_ix3 _, show idx_main_v23 (ix3 b t k) = ix3 b 0 k from eq_ix3 _,
    scale, shift, show idx_main_v10 (idx_main_v11 (ix3 b t k)) = ix1 k from eq_ix1 _]
  rfl

/-- A column of the weights against the token's row. -/
abbrev colOf (o : Fin 7192) : EReal :=
  col (fun k => x0 (ix3 b t k)) (fun k => x2 (ix1 k)) (fun k => x1 (ix3 b 1 k)) (fun k => x1 (ix3 b 0 k)) (fun k => x3 (ix2 k o))

/-- The compressed branch's keys and values. -/
theorem result1 (u : Fin 256) : val_main_v31 (F := Ideal) x0 x1 x2 x3 (ix3 b t u) = colOf x0 x1 x2 x3 b t ⟨512 + u.val, by omega⟩ := by
  rw [val_main_v31_apply, val_main_v30_apply, val_main_v29_apply]
  refine Finset.sum_congr rfl fun k _ => ?_
  rw [show lidx_main_v29 (idx_main_v30 (ix3 b t u)) k = ix3 b t k from eq_ix3 _, pre_apply, val_main_v25_apply]
  exact congrArg (_ * x3 ·) (eq_ix2 _)

/-- The gating unit's projection. -/
theorem result2 (u : Fin 1024) : val_main_v32 (F := Ideal) x0 x1 x2 x3 (ix3 b t u) = colOf x0 x1 x2 x3 b t ⟨1304 + u.val, by omega⟩ := by
  rw [val_main_v32_apply]
  refine Finset.sum_congr rfl fun k _ => ?_
  rw [show lidx_main_v32 (ix3 b t u) k = ix3 b t k from eq_ix3 _, pre_apply, val_main_v26_apply]
  exact congrArg (_ * x3 ·) (eq_ix2 _)

/-- The recurrence's projection. -/
theorem result3 (u : Fin 1792) : val_main_v33 (F := Ideal) x0 x1 x2 x3 (ix3 b t u) = colOf x0 x1 x2 x3 b t ⟨2328 + u.val, by omega⟩ := by
  rw [val_main_v33_apply]
  refine Finset.sum_congr rfl fun k _ => ?_
  rw [show lidx_main_v33 (ix3 b t u) k = ix3 b t k from eq_ix3 _, pre_apply, val_main_v27_apply]
  exact congrArg (_ * x3 ·) (eq_ix2 _)

end Cert.Proj.Ref

end
-- ==== Proof.ProjArray.lean ====
/- The mixer projections' kernel: after the run three of its result arrays are products of the token rows with columns of the weights. -/
module

public import proofs.«01_k».proof.Proof.ProjBlock
public import proofs.«01_k».proof.Proof.ProjRef
public import proofs.«01_k».proof.Proof.Gen.Kernel5Ideal.Value
public import proofs.«01_k».proof.Defs
public import Idealize.ShloMosaic.Lib.Pipeline.ValueKit

@[expose] public section

set_option maxRecDepth 16384

noncomputable section

namespace Cert.Proj.Array

open Cert.Kernel5Ideal Cert.Kernel5Ideal.Gen Cert.Proj
open Idealize.ShloMosaic hiding ix1 ix2 ix3 eq_ix3 eq_ix2
open Idealize.ShloMosaic.TcCoe Idealize.SL.Sem Idealize.ShloMosaic.ValueIdx
open Idealize.ShloMosaic.Pipeline (Dat)

/-- A token's row against one column of the weights, from the call's arrays. -/
def entry (x0 : FVec Ideal S8x4096x1024 .f32) (x1 : FVec Ideal S8x3x1024 .f32) (x2 : FVec Ideal S1024 .f32) (x3 : FVec Ideal S1024x7192 .f32)
    (b : Fin 8) (t : Fin 4096) (o : Fin 7192) : EReal :=
  col (fun k => x0 (ix3 b t k)) (fun k => x2 (ix1 k)) (fun k => x1 (ix3 b 1 k)) (fun k => x1 (ix3 b 0 k)) (fun k => x3 (ix2 k o))

/-- The three results, whole. -/
def whole1 (x0 : FVec Ideal S8x4096x1024 .f32) (x1 : FVec Ideal S8x3x1024 .f32) (x2 : FVec Ideal S1024 .f32) (x3 : FVec Ideal S1024x7192 .f32) :
    FVec Ideal S8x4096x256 .bf16 := fun i => entry x0 x1 x2 x3 (i 0) (i 1) ⟨512 + (i 2).val, by have h : (i 2).val < 256 := (i 2).isLt; omega⟩
def whole2 (x0 : FVec Ideal S8x4096x1024 .f32) (x1 : FVec Ideal S8x3x1024 .f32) (x2 : FVec Ideal S1024 .f32) (x3 : FVec Ideal S1024x7192 .f32) :
    FVec Ideal S8x4096x1024 .f32 := fun i => entry x0 x1 x2 x3 (i 0) (i 1) ⟨1304 + (i 2).val, by have h : (i 2).val < 1024 := (i 2).isLt; omega⟩
def whole3 (x0 : FVec Ideal S8x4096x1024 .f32) (x1 : FVec Ideal S8x3x1024 .f32) (x2 : FVec Ideal S1024 .f32) (x3 : FVec Ideal S1024x7192 .f32) :
    FVec Ideal S8x4096x1792 .f32 := fun i => entry x0 x1 x2 x3 (i 0) (i 1) ⟨2328 + (i 2).val, by have h : (i 2).val < 1792 := (i 2).isLt; omega⟩

/-- Which block each window holds at a grid point. -/
theorem idx : ∀ t : Fin cfg0.N, win0_0.index t = ![t.val / 8, t.val % 8, 0] ∧ win0_1.index t = ![t.val / 8, 0, 0] ∧ win0_2.index t = ![0, 0]
    ∧ win0_3.index t = ![0, 0] ∧ win0_8.index t = ![t.val / 8, t.val % 8, 0] ∧ win0_12.index t = ![t.val / 8, t.val % 8, 0]
    ∧ win0_13.index t = ![t.val / 8, t.val % 8, 0] ∧ t.val / 8 < 8 :=
  (by decide +kernel : ∀ t : Fin grid0.N, _)

section Beside
variable (X0 : FVec Ideal S1024x1024 .f32) (X1 X2 : FVec Ideal S1024x128 .f32) (X3 X4 X5 : FVec Ideal S1024x256 .f32) (X6 : FVec Ideal S1024x2816 .f32)
  (h : Shape.Concatenates [S1024x1024, S1024x128, S1024x128, S1024x256, S1024x256, S1024x256, S1024x2816] S1024x4864 1) (k : Fin 1024)

/-- The arrays in order. -/
abbrev parts : List ((s : Shape) × (s.Idx → EReal)) :=
  [⟨S1024x1024, X0⟩, ⟨S1024x128, X1⟩, ⟨S1024x128, X2⟩, ⟨S1024x256, X3⟩, ⟨S1024x256, X4⟩, ⟨S1024x256, X5⟩, ⟨S1024x2816, X6⟩]

/-- Seven arrays side by side: the second, the third and the last. -/
theorem second (u : Fin 128) (p : Fin 4864) (hp : 1024 + u.val = p.val) :
    concatenate S1024x4864 1 (parts X0 X1 X2 X3 X4 X5 X6) h (ix2 k p) = X1 (ix2 k u) :=
  concatenate_apply_piece 1 (parts X0 X1 X2 X3 X4 X5 X6) h (ix2 k p) 1 (by show 1 < 7; omega) S1024x128 X1 rfl rfl 1024 rfl (ix2 k u)
    (fun b hb => by
      match b with
      | ⟨0, _⟩ => rfl
      | ⟨1, _⟩ => exact absurd rfl hb) hp
theorem third (u : Fin 128) (p : Fin 4864) (hp : 1152 + u.val = p.val) :
    concatenate S1024x4864 1 (parts X0 X1 X2 X3 X4 X5 X6) h (ix2 k p) = X2 (ix2 k u) :=
  concatenate_apply_piece 1 (parts X0 X1 X2 X3 X4 X5 X6) h (ix2 k p) 2 (by show 2 < 7; omega) S1024x128 X2 rfl rfl 1152 rfl (ix2 k u)
    (fun b hb => by
      match b with
      | ⟨0, _⟩ => rfl
      | ⟨1, _⟩ => exact absurd rfl hb) hp
theorem last (u : Fin 2816) (p : Fin 4864) (hp : 2048 + u.val = p.val) :
    concatenate S1024x4864 1 (parts X0 X1 X2 X3 X4 X5 X6) h (ix2 k p) = X6 (ix2 k u) :=
  concatenate_apply_piece 1 (parts X0 X1 X2 X3 X4 X5 X6) h (ix2 k p) 6 (by show 6 < 7; omega) S1024x2816 X6 rfl rfl 2048 rfl (ix2 k u)
    (fun b hb => by
      match b with
      | ⟨0, _⟩ => rfl
      | ⟨1, _⟩ => exact absurd rfl hb) hp
end Beside

/-- Columns cut out of the weights. -/
theorem cut {n : Nat} (w : FVec Ideal S1024x7192 .f32) (o : Nat) (h : S1024x7192.Slices ![0, o] ⟨2, ![1024, n]⟩) (k : Fin 1024) (u : Fin n)
    (q : Fin 7192) (hq : q.val = o + u.val) :
    extractStridedSlice ⟨2, ![1024, n]⟩ ![0, o] w h (ix2 k u) = w (ix2 k q) :=
  extractStridedSlice_apply _ _ h _ (ix2 k q) (fun a => by
    match a with
    | ⟨0, _⟩ => exact (Nat.zero_add _).symm
    | ⟨1, _⟩ => exact hq)

variable (m : (ℓ : Loc nD τ sig) → Buf (Elt Ideal) ℓ) (c : Dev nD)

/-- The gains and the weights the host hands to the call. -/
theorem host2 (k : Fin 1024) : V m c main_v32 (ix2 0 k) = m ((c : Thread nD τ).loc main_arg2) (ix1 k) := by
  show StableHlo.after (List.flatten [hostOps0, hostOps0_1, hostOps0_2, hostOps0_3, hostOps0_4, hostOps0_5, hostOps0_6, hostOps0_7, hostOps0_8,
    hostOps0_9, hostOps0_10, hostOps0_11, hostOps0_12]) _ _ _ = _
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results
  exact Ops.as_row (a := 1024) _ shapeCasts_S1024_S1x1024 0 k

/-- The weights' columns that the three results read. -/
theorem host3 : ∃ (X0 : FVec Ideal S1024x1024 .f32) (X3 X4 X5 : FVec Ideal S1024x256 .f32),
    V m c main_v22 = concatenate S1024x4864 1 (parts X0
      (extractStridedSlice S1024x128 ![0, 512] (m ((c : Thread nD τ).loc main_arg3)) slices_S1024x7192_S1024x128_0_512)
      (extractStridedSlice S1024x128 ![0, 640] (m ((c : Thread nD τ).loc main_arg3)) slices_S1024x7192_S1024x128_0_640) X3 X4 X5
      (extractStridedSlice S1024x2816 ![0, 1304] (m ((c : Thread nD τ).loc main_arg3)) slices_S1024x7192_S1024x2816_0_1304))
      concatenates_S1024x1024_S1024x128_S1024x128_S1024x256_S1024x256_S1024x256_S1024x2816_S1024x4864_d1 := by
  refine ⟨?_, ?_, ?_, ?_, ?_⟩
  rotate_left 4
  · show StableHlo.after (List.flatten [hostOps0, hostOps0_1, hostOps0_2, hostOps0_3, hostOps0_4, hostOps0_5, hostOps0_6, hostOps0_7, hostOps0_8,
      hostOps0_9, hostOps0_10, hostOps0_11, hostOps0_12]) _ _ = _
    simp only [hostOps0, hostOps0_1, hostOps0_2, hostOps0_3, hostOps0_4, hostOps0_5, hostOps0_6, hostOps0_7, hostOps0_8, hostOps0_9, hostOps0_10,
      hostOps0_11, hostOps0_12, List.flatten_cons, List.flatten_nil, List.append_nil, List.cons_append, List.nil_append]
    after_results
    rfl

theorem kv_at (k : Fin 1024) (u : Fin 256) :
    V m c main_v22 (ix2 k (⟨1024 + u.val, by omega⟩ : Fin 4864)) = m ((c : Thread nD τ).loc main_arg3) (ix2 k (⟨512 + u.val, by omega⟩ : Fin 7192)) := by
  obtain ⟨X0, X3, X4, X5, e⟩ := host3 m c
  rw [e]
  by_cases hu : u.val < 128
  · refine (second X0 _ _ X3 X4 X5 _ _ k ⟨u.val, hu⟩ _ rfl).trans ?_
    exact cut _ 512 _ k _ _ rfl
  · refine (third X0 _ _ X3 X4 X5 _ _ k ⟨u.val - 128, by omega⟩ _ (by show 1152 + (u.val - 128) = 1024 + u.val; omega)).trans ?_
    exact cut _ 640 _ k _ _ (by show 512 + u.val = 640 + (u.val - 128); omega)

theorem tail_at (k : Fin 1024) (u : Fin 2816) (p : Fin 4864) (q : Fin 7192) (hp : 2048 + u.val = p.val) (hq : q.val = 1304 + u.val) :
    V m c main_v22 (ix2 k p) = m ((c : Thread nD τ).loc main_arg3) (ix2 k q) := by
  obtain ⟨X0, X3, X4, X5, e⟩ := host3 m c
  rw [e]
  refine (last X0 _ _ X3 X4 X5 _ _ k u _ hp).trans ?_
  exact cut _ 1304 _ k _ _ hq

/-- The batch element of a grid point, and the token of a row of its block. -/
def bat (t : Fin cfg0.N) : Fin 8 := ⟨t.val / 8, (idx t).2.2.2.2.2.2.2⟩
def tok (t : Fin cfg0.N) (r : Fin 512) : Fin 4096 := ⟨t.val % 8 * 512 + r.val, by omega⟩

/-- What each window's block holds. -/
theorem blk0 (t : Fin cfg0.N) (r : Fin 512) (k : Fin 1024) : iblk m c 0 t (ix3 0 r k) = m ((c : Thread nD τ).loc main_arg0) (ix3 (bat t) (tok t r) k) := by
  blk_ext [iblk, V_main_arg0 m c, idx t, bat, tok]
theorem blk1 (t : Fin cfg0.N) (q : Fin 3) (k : Fin 1024) : iblk m c 1 t (ix3 0 q k) = m ((c : Thread nD τ).loc main_arg1) (ix3 (bat t) q k) := by
  blk_ext [iblk, V_main_arg1 m c, idx t, bat]
theorem blk2 (t : Fin cfg0.N) (k : Fin 1024) : iblk m c 2 t (ix2 0 k) = m ((c : Thread nD τ).loc main_arg2) (ix1 k) := by
  refine Eq.trans ?_ (host2 m c k); blk_ext [iblk, idx t]
theorem blk3 (t : Fin cfg0.N) (k : Fin 1024) (p : Fin 4864) : iblk m c 3 t (ix2 k p) = V m c main_v22 (ix2 k p) := by
  blk_ext [iblk, idx t]

/-- Where an index of an output's block stands in the result. -/
theorem blk8 (t : Fin cfg0.N) (o : Fin 1) (r : Fin 512) (j : Fin 256) : ((cfg0.win 8).blk t).view.emb (ix3 o r j) = ix3 (bat t) (tok t r) j := by
  have ho : o.val = 0 := by omega
  funext d
  refine Fin.ext ?_
  match d with
  | ⟨0, _⟩ => blk_simp [idx t, bat]
  | ⟨1, _⟩ => blk_simp [idx t, tok]
  | ⟨2, _⟩ => blk_simp [idx t]
theorem blk12 (t : Fin cfg0.N) (o : Fin 1) (r : Fin 512) (j : Fin 1024) : ((cfg0.win 12).blk t).view.emb (ix3 o r j) = ix3 (bat t) (tok t r) j := by
  have ho : o.val = 0 := by omega
  funext d
  refine Fin.ext ?_
  match d with
  | ⟨0, _⟩ => blk_simp [idx t, bat]
  | ⟨1, _⟩ => blk_simp [idx t, tok]
  | ⟨2, _⟩ => blk_simp [idx t]
theorem blk13 (t : Fin cfg0.N) (o : Fin 1) (r : Fin 512) (j : Fin 1792) : ((cfg0.win 13).blk t).view.emb (ix3 o r j) = ix3 (bat t) (tok t r) j := by
  have ho : o.val = 0 := by omega
  funext d
  refine Fin.ext ?_
  match d with
  | ⟨0, _⟩ => blk_simp [idx t, bat]
  | ⟨1, _⟩ => blk_simp [idx t, tok]
  | ⟨2, _⟩ => blk_simp [idx t]

/-- A staged row against a staged column is the token's row against the column of the weights it was taken from. -/
theorem col_at (t : Fin cfg0.N) (r : Fin 512) (p : Fin 4864) (q : Fin 7192)
    (h : ∀ k : Fin 1024, V m c main_v22 (ix2 k p) = m ((c : Thread nD τ).loc main_arg3) (ix2 k q)) :
    Block.colOf (iblk m c 0 t) (iblk m c 1 t) (iblk m c 2 t) (iblk m c 3 t) r p
      = entry (m ((c : Thread nD τ).loc main_arg0)) (m ((c : Thread nD τ).loc main_arg1)) (m ((c : Thread nD τ).loc main_arg2))
        (m ((c : Thread nD τ).loc main_arg3)) (bat t) (tok t r) q := by
  unfold Block.colOf entry
  congr 1
  · exact funext (blk0 m c t r)
  · exact funext (blk2 m c t)
  · exact funext (blk1 m c t 1)
  · exact funext (blk1 m c t 0)
  · exact funext fun k => (blk3 m c t k p).trans (h k)

/-- What a grid point leaves at a row and a channel of an output block. -/
theorem point1 (t : Fin cfg0.N) (o : Fin 1) (r : Fin 512) (j : Fin 256) :
    out0_8 (grid0.coords t) (iblk m c 0 t) (iblk m c 1 t) (iblk m c 2 t) (iblk m c 3 t) (iblk m c 4 t) (iblk m c 5 t) (iblk m c 6 t) (ix3 o r j)
      = whole1 (m ((c : Thread nD τ).loc main_arg0)) (m ((c : Thread nD τ).loc main_arg1)) (m ((c : Thread nD τ).loc main_arg2))
        (m ((c : Thread nD τ).loc main_arg3)) (((cfg0.win 8).blk t).view.emb (ix3 o r j)) := by
  refine (Block.out8 _ _ _ _ _ _ _ _ o r j).trans ?_
  rw [blk8]
  exact col_at m c t r _ _ fun k => kv_at m c k j
theorem point2 (t : Fin cfg0.N) (o : Fin 1) (r : Fin 512) (j : Fin 1024) :
    out0_12 (grid0.coords t) (iblk m c 0 t) (iblk m c 1 t) (iblk m c 2 t) (iblk m c 3 t) (iblk m c 4 t) (iblk m c 5 t) (iblk m c 6 t) (ix3 o r j)
      = whole2 (m ((c : Thread nD τ).loc main_arg0)) (m ((c : Thread nD τ).loc main_arg1)) (m ((c : Thread nD τ).loc main_arg2))
        (m ((c : Thread nD τ).loc main_arg3)) (((cfg0.win 12).blk t).view.emb (ix3 o r j)) := by
  refine (Block.out12 _ _ _ _ _ _ _ _ o r j).trans ?_
  rw [blk12]
  exact col_at m c t r _ _ fun k => tail_at m c k ⟨j.val, by omega⟩ _ _ rfl rfl
theorem point3 (t : Fin cfg0.N) (o : Fin 1) (r : Fin 512) (j : Fin 1792) :
    out0_13 (grid0.coords t) (iblk m c 0 t) (iblk m c 1 t) (iblk m c 2 t) (iblk m c 3 t) (iblk m c 4 t) (iblk m c 5 t) (iblk m c 6 t) (ix3 o r j)
      = whole3 (m ((c : Thread nD τ).loc main_arg0)) (m ((c : Thread nD τ).loc main_arg1)) (m ((c : Thread nD τ).loc main_arg2))
        (m ((c : Thread nD τ).loc main_arg3)) (((cfg0.win 13).blk t).view.emb (ix3 o r j)) := by
  refine (Block.out13 _ _ _ _ _ _ _ _ o r j).trans ?_
  rw [blk13]
  exact col_at m c t r _ _ fun k => tail_at m c k ⟨1024 + j.val, by omega⟩ _ _
    (by show 2048 + (1024 + j.val) = 3072 + j.val; omega) (by show 2328 + j.val = 1304 + (1024 + j.val); omega)

/-- The result arrays after the run. -/
theorem final1 : (dats m 0 c).arrAt 8 cfg0.N = whole1 (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8, eq_ix3 y]
  exact point1 m c t (y 0) (y 1) (y 2)
theorem final2 : (dats m 0 c).arrAt 12 cfg0.N = whole2 (m ((c : Thread nD τ).loc main_arg0)) (m ((c : Thread nD τ).loc main_arg1)) (m ((c : Thread nD τ).loc main_arg2))
        (m ((c : Thread nD τ).loc main_arg3)) := by
  refine (dats m 0 c).arrAt_eq_of_covers 12 _ (by decide +kernel) fun t _ y => ?_
  blk_simp
  rw [after0_12, eq_ix3 y]
  exact point2 m c t (y 0) (y 1) (y 2)
theorem final3 : (dats m 0 c).arrAt 13 cfg0.N = whole3 (m ((c : Thread nD τ).loc main_arg0)) (m ((c : Thread nD τ).loc main_arg1)) (m ((c : Thread nD τ).loc main_arg2))
        (m ((c : Thread nD τ).loc main_arg3)) := by
  refine (dats m 0 c).arrAt_eq_of_covers 13 _ (by decide +kernel) fun t _ y => ?_
  blk_simp
  rw [after0_13, eq_ix3 y]
  exact point3 m c t (y 0) (y 1) (y 2)

/-- The reference's results, whole. -/
theorem reference1 (x0 : FVec Ideal S8x4096x1024 .f32) (x1 : FVec Ideal S8x3x1024 .f32) (x2 : FVec Ideal S1024 .f32) (x3 : FVec Ideal S1024x7192 .f32) :
    Cert.Reference5Ideal.Read.val_main_v31 (F := Ideal) x0 x1 x2 x3 = whole1 x0 x1 x2 x3 :=
  funext fun i => by
    rw [eq_ix3 i]
    exact Ref.result1 x0 x1 x2 x3 (i 0) (i 1) (i 2)
theorem reference2 (x0 : FVec Ideal S8x4096x1024 .f32) (x1 : FVec Ideal S8x3x1024 .f32) (x2 : FVec Ideal S1024 .f32) (x3 : FVec Ideal S1024x7192 .f32) :
    Cert.Reference5Ideal.Read.val_main_v32 (F := Ideal) x0 x1 x2 x3 = whole2 x0 x1 x2 x3 :=
  funext fun i => by
    rw [eq_ix3 i]
    exact Ref.result2 x0 x1 x2 x3 (i 0) (i 1) (i 2)
theorem reference3 (x0 : FVec Ideal S8x4096x1024 .f32) (x1 : FVec Ideal S8x3x1024 .f32) (x2 : FVec Ideal S1024 .f32) (x3 : FVec Ideal S1024x7192 .f32) :
    Cert.Reference5Ideal.Read.val_main_v33 (F := Ideal) x0 x1 x2 x3 = whole3 x0 x1 x2 x3 :=
  funext fun i => by
    rw [eq_ix3 i]
    exact Ref.result3 x0 x1 x2 x3 (i 0) (i 1) (i 2)

/-- Kernel and reference compute the same three projections. -/
theorem algebraic : Cert.algebraic_Kernel5Ideal_Reference5Ideal := by
  intro m ρ m' ρ' _ hagree
  refine ⟨fun c => whole1 (m ((c : Thread nD τ).loc main_arg0)) (m ((c : Thread nD τ).loc main_arg1)) (m ((c : Thread nD τ).loc main_arg2))
      (m ((c : Thread nD τ).loc main_arg3)),
    fun c => whole2 (m ((c : Thread nD τ).loc main_arg0)) (m ((c : Thread nD τ).loc main_arg1)) (m ((c : Thread nD τ).loc main_arg2))
      (m ((c : Thread nD τ).loc main_arg3)),
    fun c => whole3 (m ((c : Thread nD τ).loc main_arg0)) (m ((c : Thread nD τ).loc main_arg1)) (m ((c : Thread nD τ).loc main_arg2))
      (m ((c : Thread nD τ).loc main_arg3)), ?_, ?_⟩
  · exact (θ_run Cert.Kernel5Ideal.defs _ _).mono (fun _ h c => ⟨(h c).2.1.trans (final1 m c), (h c).2.2.2.2.2.1.trans (final2 m c),
      (h c).2.2.2.2.2.2.1.trans (final3 m c), (h c).2.2.2.2.2.2.2.2.2⟩)
      (Cert.Kernel5Ideal.Value.run_blocks (F := Ideal) m ρ)
  · refine (θ_run Cert.Reference5Ideal.defs _ _).mono (fun _ h c => ?_) (Cert.Reference5Ideal.Value.run (F := Ideal) m' ρ')
    obtain ⟨h0, h1, h2, h3⟩ := hagree c
    refine ⟨(h c).1.trans ?_, (h c).2.1.trans ?_, (h c).2.2.1.trans ?_, (h c).2.2.2⟩
    · refine (Cert.Reference5Ideal.Read.val_main_v31_eq _ _ _ _).trans ?_
      rw [reference1, h0, h1, h2, h3]
    · refine (Cert.Reference5Ideal.Read.val_main_v32_eq _ _ _ _).trans ?_
      rw [reference2, h0, h1, h2, h3]
    · refine (Cert.Reference5Ideal.Read.val_main_v33_eq _ _ _ _).trans ?_
      rw [reference3, h0, h1, h2, h3]

end Cert.Proj.Array

end
-- ==== Proof.FfnRef.lean ====
/- The feed-forward reference: its result array is the row function of each token row. -/
module

public import proofs.«01_k».proof.Proof.FfnSpec
public import proofs.«01_k».proof.Proof.Gen.Reference2Ideal.Read

@[expose] public section

noncomputable section

namespace Cert.Ffn.Ref

open Cert.Reference2Ideal Cert.Reference2Ideal.Read Cert.Ops Cert.Ffn
open Idealize.ShloMosaic Idealize.ShloMosaic.ValueIdx

variable (x0 : (⟨S8x4096x1024, .f32⟩ : BufTy).Contents (Elt Ideal)) (x1 : (⟨S8x3x1024, .f32⟩ : BufTy).Contents (Elt Ideal))
  (x2 x3 : (⟨S1024, .f32⟩ : BufTy).Contents (Elt Ideal)) (x4 : (⟨S1024x5632, .f32⟩ : BufTy).Contents (Elt Ideal))
  (x5 : (⟨S2816x1024, .f32⟩ : BufTy).Contents (Elt Ideal)) (b : Fin 8) (t : Fin 4096)

/-- The three modulation rows of a batch element. -/
theorem scale (k : Fin 1024) : val_main_v15 (F := Ideal) x1 (ix3 b 0 k) = x1 (ix3 b 1 k) := by
  rw [val_main_v15_apply, val_main_v14_apply, val_main_v13_apply]
  refine congrArg x1 (funext fun a => Fin.ext ?_)
  match a with
  | ⟨0, _⟩ => show (b.val * 1024 + k.val) / 1024 = b.val; omega
  | ⟨1, _⟩ => rfl
  | ⟨2, _⟩ => show (b.val * 1024 + k.val) % 1024 = k.val; omega
theorem shift (k : Fin 1024) : val_main_v22 (F := Ideal) x1 (ix3 b 0 k) = x1 (ix3 b 0 k) := by
  rw [val_main_v22_apply, val_main_v21_apply, val_main_v20_apply]
  refine congrArg x1 (funext fun a => Fin.ext ?_)
  match a with
  | ⟨0, _⟩ => show (b.val * 1024 + k.val) / 1024 = b.val; omega
  | ⟨1, _⟩ => rfl
  | ⟨2, _⟩ => show (b.val * 1024 + k.val) % 1024 = k.val; omega
theorem gate (k : Fin 1024) : val_main_v34 (F := Ideal) x1 (ix3 b 0 k) = x1 (ix3 b 2 k) := by
  rw [val_main_v34_apply, val_main_v33_apply, val_main_v32_apply]
  refine congrArg x1 (funext fun a => Fin.ext ?_)
  match a with
  | ⟨0, _⟩ => show (b.val * 1024 + k.val) / 1024 = b.val; omega
  | ⟨1, _⟩ => rfl
  | ⟨2, _⟩ => show (b.val * 1024 + k.val) % 1024 = k.val; omega

/-- The reductions' starting value is zero. -/
theorem start1 (i : S_.Idx) : val_main_cst (F := Ideal) i = 0 := Ideal.ofBits_zero_f32
theorem start2 (i : S_.Idx) : val_main_cst_4 (F := Ideal) i = 0 := Ideal.ofBits_zero_f32

/-- The row's sum of squares, before and after the hidden layer. -/
theorem sq1 : val_main_v1 (F := Ideal) x0 (ix2 b t) = ∑ k, x0 (ix3 b t k) * x0 (ix3 b t k) := by
  rw [val_main_v1_apply, start1, zero_add]
  refine Finset.sum_congr rfl fun k _ => ?_
  rw [show idx_main_v1 (ix2 b t) k = ix3 b t k from eq_ix3 _, val_main_v0_apply]
  rfl

/-- The normalised, modulated row. -/
theorem pre_apply (k : Fin 1024) :
    val_main_v24 (F := Ideal) x0 x1 x2 (ix3 b t k)
      = pre (fun k => x0 (ix3 b t k)) (fun k => x2 (ix1 k)) (fun k => x1 (ix3 b 1 k)) (fun k => x1 (ix3 b 0 k)) k := by
  rw [val_main_v24_apply, val_main_v19_apply, val_main_v12_apply, val_main_v9_apply, val_main_v8_apply, val_main_v7_apply,
    val_main_v6_apply, val_main_v4_apply, val_main_v2_apply, val_main_v11_apply, val_main_v10_apply, val_main_v18_apply,
    val_main_v17_apply, val_main_v23_apply]
  rw [show idx_main_v2 (idx_main_v8 (ix3 b t k)) = ix2 b t from eq_ix2 _, sq1,
    show idx_main_v18 (ix3 b t k) = ix3 b 0 k from eq_ix3 _, show idx_main_v23 (ix3 b t k) = ix3 b 0 k from eq_ix3 _,
    scale, shift, show idx_main_v10 (idx_main_v11 (ix3 b t k)) = ix1 k from eq_ix1 _]
  rfl

/-- A hidden unit before the gate. -/
theorem hid_gate (u : Fin 2816) :
    val_main_v27 (F := Ideal) x0 x1 x2 x4 (ix3 b t u)
      = hid (pre (fun k => x0 (ix3 b t k)) (fun k => x2 (ix1 k)) (fun k => x1 (ix3 b 1 k)) (fun k => x1 (ix3 b 0 k)))
          (fun k u => x4 (ix2 k u)) ⟨u.val, by omega⟩ := by
  rw [val_main_v27_apply, hid]
  refine Finset.sum_congr rfl fun k _ => ?_
  rw [show lidx_main_v27 (ix3 b t u) k = ix3 b t k from eq_ix3 _, pre_apply, val_main_v25_apply]
  refine congrArg (_ * ·) (congrArg x4 ((eq_ix2 _).trans ?_))
  refine congrArg₂ ix2 (Fin.ext ?_) (Fin.ext ?_)
  · rfl
  · rfl
theorem hid_value (u : Fin 2816) :
    val_main_v29 (F := Ideal) x0 x1 x2 x4 (ix3 b t u)
      = hid (pre (fun k => x0 (ix3 b t k)) (fun k => x2 (ix1 k)) (fun k => x1 (ix3 b 1 k)) (fun k => x1 (ix3 b 0 k)))
          (fun k u => x4 (ix2 k u)) ⟨2816 + u.val, by omega⟩ := by
  rw [val_main_v29_apply, hid]
  refine Finset.sum_congr rfl fun k _ => ?_
  rw [show lidx_main_v29 (ix3 b t u) k = ix3 b t k from eq_ix3 _, pre_apply, val_main_v26_apply]
  refine congrArg (_ * ·) (congrArg x4 ((eq_ix2 _).trans ?_))
  refine congrArg₂ ix2 (Fin.ext ?_) (Fin.ext ?_)
  · rfl
  · rfl

/-- A gated hidden unit. -/
theorem act_apply (u : Fin 2816) :
    val_main_v30 (F := Ideal) x0 x1 x2 x4 (ix3 b t u)
      = act (pre (fun k => x0 (ix3 b t k)) (fun k => x2 (ix1 k)) (fun k => x1 (ix3 b 1 k)) (fun k => x1 (ix3 b 0 k)))
          (fun k u => x4 (ix2 k u)) u := by
  rw [val_main_v30_apply, val_main_v28_apply, val_main_call0_v5_apply, val_main_call0_v3_apply, val_main_call0_v1_apply,
    val_main_call0_v0_apply, hid_gate, hid_value, act, silu]
  rw [show zero = 0 from Ideal.ofBits_zero_f32, zero_sub]
  rfl

/-- The hidden layer's output. -/
theorem down_apply (j : Fin 1024) :
    val_main_v31 (F := Ideal) x0 x1 x2 x4 x5 (ix3 b t j)
      = down (pre (fun k => x0 (ix3 b t k)) (fun k => x2 (ix1 k)) (fun k => x1 (ix3 b 1 k)) (fun k => x1 (ix3 b 0 k)))
          (fun k u => x4 (ix2 k u)) (fun u k => x5 (ix2 u k)) j := by
  rw [val_main_v31_apply, down]
  refine Finset.sum_congr rfl fun u _ => ?_
  rw [show lidx_main_v31 (ix3 b t j) u = ix3 b t u from eq_ix3 _, act_apply,
    show ridx_main_v31 (ix3 b t j) u = ix2 u j from eq_ix2 _]

theorem sq2 : val_main_v38 (F := Ideal) x0 x1 x2 x4 x5 (ix2 b t)
    = ∑ k, val_main_v31 (F := Ideal) x0 x1 x2 x4 x5 (ix3 b t k) * val_main_v31 (F := Ideal) x0 x1 x2 x4 x5 (ix3 b t k) := by
  rw [val_main_v38_apply, start2, zero_add]
  refine Finset.sum_congr rfl fun k _ => ?_
  rw [show idx_main_v38 (ix2 b t) k = ix3 b t k from eq_ix3 _, val_main_v37_apply]
  rfl

/-- The result at a token and a channel. -/
theorem result (j : Fin 1024) :
    val_main_v52 (F := Ideal) x0 x1 x2 x3 x4 x5 (ix3 b t j)
      = row (fun k => x0 (ix3 b t k)) (fun k => x1 (ix3 b 0 k)) (fun k => x1 (ix3 b 1 k)) (fun k => x1 (ix3 b 2 k))
          (fun k => x2 (ix1 k)) (fun k => x3 (ix1 k)) (fun k u => x4 (ix2 k u)) (fun u k => x5 (ix2 u k)) j := by
  rw [val_main_v52_apply, val_main_v51_apply, val_main_v50_apply, val_main_v36_apply, val_main_v49_apply, val_main_v46_apply,
    val_main_v45_apply, val_main_v44_apply, val_main_v43_apply, val_main_v41_apply, val_main_v39_apply, val_main_v48_apply, val_main_v47_apply]
  rw [show idx_main_v39 (idx_main_v45 (ix3 b t j)) = ix2 b t from eq_ix2 _, sq2,
    show idx_main_v50 (ix3 b t j) = ix3 b 0 j from eq_ix3 _, gate, show idx_main_v47 (idx_main_v48 (ix3 b t j)) = ix1 j from eq_ix1 _]
  simp only [down_apply]
  rfl

end Cert.Ffn.Ref

end
-- ==== Proof.FfnArray.lean ====
/- The feed-forward kernel: after the run its result array is the row function of each token row. -/
module

public import proofs.«01_k».proof.Proof.FfnBlock
public import proofs.«01_k».proof.Proof.FfnRef
public import proofs.«01_k».proof.Proof.Gen.Kernel2Ideal.Value
public import proofs.«01_k».proof.Defs
public import Idealize.ShloMosaic.Lib.Pipeline.ValueKit

@[expose] public section

set_option maxRecDepth 16384

noncomputable section

namespace Cert.Ffn.Array

open Cert.Kernel2Ideal Cert.Kernel2Ideal.Gen Cert.Ffn
open Idealize.ShloMosaic hiding ix1 ix2 ix3 eq_ix3 eq_ix2
open Idealize.ShloMosaic.TcCoe Idealize.SL.Sem Idealize.ShloMosaic.ValueIdx
open Idealize.ShloMosaic.Pipeline (Dat)

variable (m : (ℓ : Loc nD τ sig) → Buf (Elt Ideal) ℓ)

/-- The arrays of the call, whole: the row function of each token row. -/
def whole (x0 : FVec Ideal S8x4096x1024 .f32) (x1 : FVec Ideal S8x3x1024 .f32) (x2 x3 : FVec Ideal S1024 .f32)
    (x4 : FVec Ideal S1024x5632 .f32) (x5 : FVec Ideal S2816x1024 .f32) : FVec Ideal S8x4096x1024 .f32 := fun i =>
  row (fun k => x0 (ix3 (i 0) (i 1) k)) (fun k => x1 (ix3 (i 0) 0 k)) (fun k => x1 (ix3 (i 0) 1 k)) (fun k => x1 (ix3 (i 0) 2 k))
    (fun k => x2 (ix1 k)) (fun k => x3 (ix1 k)) (fun k u => x4 (ix2 k u)) (fun u k => x5 (ix2 u k)) (i 2)

/-- Which block each window holds at a grid point. -/
theorem idx : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![t.val / 8, t.val % 8, 0] ∧ t.val / 8 < 8 :=
  (by decide +kernel : ∀ t : Fin grid0.N, _)

variable (c : Dev nD)

/-- The weights and gains the host hands to the call. -/
theorem host4 : V m c main_v0 = m ((c : Thread nD τ).loc main_arg4) := by
  show StableHlo.after hostOps0 _ _ = _
  after_results
  rfl
theorem host5 : V m c main_v1 = m ((c : Thread nD τ).loc main_arg5) := by
  show StableHlo.after hostOps0 _ _ = _
  after_results
  rfl
theorem host2 (k : Fin 1024) : V m c main_v2 (ix2 0 k) = m ((c : Thread nD τ).loc main_arg2) (ix1 k) := by
  show StableHlo.after hostOps0 _ _ _ = _
  after_results
  exact Ops.as_row (a := 1024) _ shapeCasts_S1024_S1x1024 0 k
theorem host3 (k : Fin 1024) : V m c main_v3 (ix2 0 k) = m ((c : Thread nD τ).loc main_arg3) (ix1 k) := by
  show StableHlo.after hostOps0 _ _ _ = _
  after_results
  exact Ops.as_row (a := 1024) _ shapeCasts_S1024_S1x1024 0 k

/-- What a grid point leaves at a row and a channel of its block. -/
theorem point (t : Fin cfg0.N) (o : Fin 1) (r : Fin 512) (j : Fin 1024) :
    out0_6 (iblk m c 0 t) (iblk m c 1 t) (iblk m c 2 t) (iblk m c 3 t) (iblk m c 4 t) (iblk m c 5 t) (ix3 o r j)
      = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb (ix3 o r j)) := by
  refine (Block.out _ _ _ _ _ _ o r j).trans ?_
  unfold whole
  have ho : o.val = 0 := by omega
  have h0 : ((((cfg0.win 6).blk t).view.emb (ix3 o r j)) 0).val = t.val / 8 := by
    blk_simp [idx t]
  have h1 : ((((cfg0.win 6).blk t).view.emb (ix3 o r j)) 1).val = t.val % 8 * 512 + r.val := by
    blk_simp [idx t]; rfl
  have ej : (((cfg0.win 6).blk t).view.emb (ix3 o r j)) 2 = j := Fin.ext (by
    blk_simp [idx t]; rfl)
  have e0 : ∀ k : Fin 1024, iblk m c 0 t (ix3 0 r k) = m ((c : Thread nD τ).loc main_arg0) (ix3 ((((cfg0.win 6).blk t).view.emb (ix3 o r j)) 0) ((((cfg0.win 6).blk t).view.emb (ix3 o r j)) 1) k) := by
    intro k; blk_ext [iblk, V_main_arg0 m c, idx t]
    · exact h0.symm
    · exact h1.symm
  have e1 : ∀ (q : Fin 3) (k : Fin 1024), iblk m c 1 t (ix3 0 q k) = m ((c : Thread nD τ).loc main_arg1) (ix3 ((((cfg0.win 6).blk t).view.emb (ix3 o r j)) 0) q k) := by
    intro q k; blk_ext [iblk, V_main_arg1 m c, idx t]
    · exact h0.symm
  have e2 : ∀ k : Fin 1024, iblk m c 2 t (ix2 0 k) = m ((c : Thread nD τ).loc main_arg2) (ix1 k) := by
    intro k; refine Eq.trans ?_ (host2 m c k); blk_ext [iblk, idx t]
  have e3 : ∀ k : Fin 1024, iblk m c 3 t (ix2 0 k) = m ((c : Thread nD τ).loc main_arg3) (ix1 k) := by
    intro k; refine Eq.trans ?_ (host3 m c k); blk_ext [iblk, idx t]
  have e4 : ∀ (k : Fin 1024) (u : Fin 5632), iblk m c 4 t (ix2 k u) = m ((c : Thread nD τ).loc main_arg4) (ix2 k u) := by
    intro k u; refine Eq.trans ?_ (congrFun (host4 m c) _); blk_ext [iblk, idx t]
  have e5 : ∀ (u : Fin 2816) (k : Fin 1024), iblk m c 5 t (ix2 u k) = m ((c : Thread nD τ).loc main_arg5) (ix2 u k) := by
    intro u k; refine Eq.trans ?_ (congrFun (host5 m c) _); blk_ext [iblk, idx t]
  rw [ej]
  congr 1
  · exact funext e0
  · exact funext (e1 0)
  · exact funext (e1 1)
  · exact funext (e1 2)
  · exact funext e2
  · exact funext e3
  · exact funext fun k => funext fun u => e4 k u
  · exact funext fun k => funext fun u => e5 k u

/-- The result array after the run. -/
theorem final : (dats m 0 c).arrAt 6 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, eq_ix3 y]
  exact point m c t (y 0) (y 1) (y 2)

/-- The reference's result, whole. -/
theorem reference (x0 : FVec Ideal S8x4096x1024 .f32) (x1 : FVec Ideal S8x3x1024 .f32) (x2 x3 : FVec Ideal S1024 .f32)
    (x4 : FVec Ideal S1024x5632 .f32) (x5 : FVec Ideal S2816x1024 .f32) :
    Cert.Reference2Ideal.Read.val_main_v52 (F := Ideal) x0 x1 x2 x3 x4 x5 = whole x0 x1 x2 x3 x4 x5 :=
  funext fun i => by
    rw [eq_ix3 i]
    exact Ref.result x0 x1 x2 x3 x4 x5 (i 0) (i 1) (i 2)

/-- Kernel and reference compute the same feed-forward layer. -/
theorem algebraic : Cert.algebraic_Kernel2Ideal_Reference2Ideal := by
  intro m ρ m' ρ' _ hagree
  refine ⟨fun c => whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)), ?_, ?_⟩
  · exact (θ_run Cert.Kernel2Ideal.defs _ _).mono (fun _ h c => ⟨(h c).1.trans (final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4, h5⟩ := hagree c
    refine (Cert.Reference2Ideal.Read.val_main_v52_eq m' c).trans ?_
    rw [reference, h0, h1, h2, h3, h4, h5]

end Cert.Ffn.Array

end
-- ==== Proof.RwkvRefFrame.lean ====
/- The recurrence's reference: what its loop and its stretches of operations leave alone, and its frame. -/
module

public import proofs.«01_k».proof.Proof.Gen.ReferenceIdeal.Run
public import proofs.«01_k».proof.Defs
public import Idealize.ShloMosaic.Lib.Quiescent

@[expose] public section

set_option maxRecDepth 8192

noncomputable section

namespace Cert.Rwkv.RefFrame

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (c : Dev nD)

/-- A buffer that the loop's operations do not write keeps its contents over any number of trips. -/
theorem loop_keep (r : Ref sig .tc)
    (h : r ∉ condOps_W ++ while0Ops0_W ++ while0Ops0_1_W ++ while0Ops0_2_W ++ while0Ops0_3_W ++ while0Ops0_4_W ++ while0Ops0_5_W
      ++ while0Ops0_6_W ++ while0Ops0_7_W ++ while0Ops0_8_W) (k : ℕ) :
    atK m k c (Proc.devRef .tc r) = entryContents preI m c (Proc.devRef .tc r) := by
  simp only [List.mem_append, not_or] at h
  obtain ⟨⟨⟨⟨⟨⟨⟨⟨⟨hc, h0⟩, h1⟩, h2⟩, h3⟩, h4⟩, h5⟩, h6⟩, h7⟩, h8⟩ := h
  induction k with
  | zero => rfl
  | succ k ih =>
    rw [show atK m (k + 1) c = afterL bodyI (after condOps (atK m k c)) from rfl]
    rw [show afterL bodyI (after condOps (atK m k c)) = after while0Ops0_8 (after while0Ops0_7 (after while0Ops0_6 (after while0Ops0_5
      (after while0Ops0_4 (after while0Ops0_3 (after while0Ops0_2 (after while0Ops0_1 (after while0Ops0 (after condOps (atK m k c))))))))))
      from rfl]
    rw [after_of_writes_sub while0Ops0_8 _ while0Ops0_8_writes h8, after_of_writes_sub while0Ops0_7 _ while0Ops0_7_writes h7,
      after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact ih

/-- A buffer that no stretch before the loop writes is at the loop's entry as at launch. -/
theorem entry_keep (r : Ref sig .tc)
    (h : r ∉ hostOps0_W ++ hostOps0_1_W ++ hostOps0_2_W ++ hostOps0_3_W ++ hostOps0_4_W ++ hostOps0_5_W ++ hostOps0_6_W) :
    entryContents preI m c (Proc.devRef .tc r) = m ((c.tc : Thread nD τ).loc r) := by
  simp only [List.mem_append, not_or] at h
  obtain ⟨⟨⟨⟨⟨⟨h0, h1⟩, h2⟩, h3⟩, h4⟩, h5⟩, h6⟩ := h
  rw [show entryContents preI m c = after hostOps0_6 (after hostOps0_5 (after hostOps0_4 (after hostOps0_3 (after hostOps0_2
    (after hostOps0_1 (after hostOps0 (launchContents m c))))))) from rfl]
  rw [after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The references that the operations after the loop write. -/
abbrev postW : List (Ref sig .tc) := [main_v76, main_cst_10, main_v77, main_v78, main_cst_11, main_v79, main_v80, main_v81, main_v82, main_v83, main_cst_12, main_v84, main_v85, main_cst_13, main_v86, main_v87, main_v88, main_v89, main_cst_14, main_v90, main_v91, main_v92, main_v93, main_v94, main_v95, main_v96, main_v97, main_v98, main_v99, main_v100, main_v101, main_v102, main_v103, main_v104, main_v105, main_cst_15, main_v106, main_v107, main_v108, main_v109, main_v110, main_v111, main_v112, main_v113]

/-- These are all of them. -/
theorem post_writes : (hostOps0_7 : List (HloOp τ sig (Elt Ideal))).Forall fun op => op.writes ⊆ (postW.map (Proc.devRef (τ := τ) .tc)).toFinset :=
  StableHlo.forall_writes_sub_of_map rfl

/-- A buffer that nothing writes ends as it began. -/
theorem final_keep (r : Ref sig .tc)
    (h0 : r ∉ hostOps0_W ++ hostOps0_1_W ++ hostOps0_2_W ++ hostOps0_3_W ++ hostOps0_4_W ++ hostOps0_5_W ++ hostOps0_6_W)
    (h1 : r ∉ condOps_W ++ while0Ops0_W ++ while0Ops0_1_W ++ while0Ops0_2_W ++ while0Ops0_3_W ++ while0Ops0_4_W ++ while0Ops0_5_W
      ++ while0Ops0_6_W ++ while0Ops0_7_W ++ while0Ops0_8_W)
    (h2 : r ∉ postW) :
    finalContents condOps preI bodyI postI 4096 m c (Proc.devRef .tc r) = m ((c.tc : Thread nD τ).loc r) := by
  simp only [List.mem_append, not_or] at h1
  have hc := h1.1.1.1.1.1.1.1.1.1
  rw [show finalContents condOps preI bodyI postI 4096 m c = after hostOps0_7 (after condOps (atK m 4096 c)) from rfl,
    after_of_writes_sub hostOps0_7 _ post_writes h2, after_of_writes_sub condOps _ condOps_writes hc,
    loop_keep m c r (by simp only [List.mem_append, not_or]; exact h1), entry_keep m c r h0]

/-- The reference runs to its end, faults nowhere, keeps its arguments and leaves every semaphore at rest. -/
theorem frame : Cert.quiescent_ReferenceIdeal := fun m ρ _ =>
  (θ_run Cert.ReferenceIdeal.defs _ _).mono
    (fun r h => ⟨fun c => ⟨(h c main_arg0 rfl).trans (final_keep m c main_arg0 (by decide) (by decide) (by decide)),
      (h c main_arg1 rfl).trans (final_keep m c main_arg1 (by decide) (by decide) (by decide)),
      (h c main_arg2 rfl).trans (final_keep m c main_arg2 (by decide) (by decide) (by decide)),
      (h c main_arg3 rfl).trans (final_keep m c main_arg3 (by decide) (by decide) (by decide)),
      (h c main_arg4 rfl).trans (final_keep m c main_arg4 (by decide) (by decide) (by decide)),
      (h c main_arg5 rfl).trans (final_keep m c main_arg5 (by decide) (by decide) (by decide)),
      (h c main_arg6 rfl).trans (final_keep m c main_arg6 (by decide) (by decide) (by decide)),
      (h c main_arg7 rfl).trans (final_keep m c main_arg7 (by decide) (by decide) (by decide)),
      (h c main_arg8 rfl).trans (final_keep m c main_arg8 (by decide) (by decide) (by decide)),
      (h c main_arg9 rfl).trans (final_keep m c main_arg9 (by decide) (by decide) (by decide)),
      (h c main_arg10 rfl).trans (final_keep m c main_arg10 (by decide) (by decide) (by decide)),
      (h c main_arg11 rfl).trans (final_keep m c main_arg11 (by decide) (by decide) (by decide))⟩,
      Idealize.ShloMosaic.sem_eq_zero_of_no_sems (by decide) r.2⟩)
    (Cert.ReferenceIdeal.Value.run_fold (F := Ideal) m ρ)

end Cert.Rwkv.RefFrame

end
-- ==== Proof.RwkvSpec.lean ====
/- The recurrence's mixing block over the real numbers: one token's operands, the state, and the output row. -/
module

public import Idealize.ShloMosaic.PureOps.Ideal
public import proofs.«01_k».proof.Proof.RwkvPack

@[expose] public section

noncomputable section

namespace Cert.Rwkv

/-- The block's weights. -/
structure Par where
  mu : Fin 1792 → ℝ
  w0 : Fin 512 → ℝ
  w2 : Fin 128 → Fin 512 → ℝ
  a0 : Fin 512 → ℝ
  a2 : Fin 128 → Fin 512 → ℝ
  g2 : Fin 128 → Fin 512 → ℝ
  kk : Fin 512 → ℝ
  ka : Fin 512 → ℝ
  rk : Fin 512 → ℝ
  lg : Fin 512 → ℝ
  lb : Fin 512 → ℝ

/-- The real number of a 32-bit pattern. -/
def num (b : BitVec 32) : ℝ := (Idealize.ShloMosaic.Ideal.ofBits .f32 b).toReal

/-- The smallest norm divided by. -/
def epsNorm : ℝ := num 0x2B8CBCCC#32
/-- The term that keeps the normalisation's root off zero. -/
def epsVar : ℝ := num 0x3A27C5AC#32

/-- The part of a token's row that starts at a column. -/
def part (o n : ℕ) (h : o + n ≤ 1792) (x : Fin 1792 → ℝ) (j : Fin n) : ℝ := x ⟨o + j.val, by omega⟩

/-- The receptance. -/
def rOf (x : Fin 1792 → ℝ) : Fin 512 → ℝ := part 0 512 (by omega) x
/-- The raw key. -/
def kOf (x : Fin 1792 → ℝ) : Fin 512 → ℝ := part 512 512 (by omega) x
/-- The value. -/
def vOf (x : Fin 1792 → ℝ) : Fin 512 → ℝ := part 1024 512 (by omega) x
/-- The low-rank features of the decay and of the in-context rate. -/
def waOf (x : Fin 1792 → ℝ) : Fin 128 → ℝ := part 1536 128 (by omega) x
/-- The low-rank features of the gate. -/
def gdOf (x : Fin 1792 → ℝ) : Fin 128 → ℝ := part 1664 128 (by omega) x

/-- The sum over the channels of a channel's head. -/
def headSum (f : Fin 512 → ℝ) (j : Fin 512) : ℝ := ∑ i : Fin 512, f i * (if i.val / 64 = j.val / 64 then 1 else 0)

/-- The logistic function. -/
def sigm (z : ℝ) : ℝ := 1 / (1 + Real.exp (-z))
/-- The logarithm of one plus the exponential, in the form that does not overflow. -/
def softp (z : ℝ) : ℝ := max z 0 + Real.log (1 + Real.exp (-|z|))

namespace Par
variable (P : Par)

/-- A token mixed with the one before it. -/
def shift (prev cur : Fin 1792 → ℝ) : Fin 1792 → ℝ := fun c => cur c + (prev c - cur c) * P.mu c

variable (x : Fin 1792 → ℝ)

/-- The decay's logarithm. -/
def ld (j : Fin 512) : ℝ := -Real.exp (-softp (-(P.w0 j + ∑ l, Real.tanh (waOf x l) * P.w2 l j)) - 1 / 2)
/-- The in-context rate. -/
def rate (j : Fin 512) : ℝ := sigm (P.a0 j + ∑ l, waOf x l * P.a2 l j)
/-- The gate. -/
def gate (j : Fin 512) : ℝ := ∑ l, sigm (gdOf x l) * P.g2 l j
/-- The key before its normalisation. -/
def key0 (j : Fin 512) : ℝ := kOf x j * P.kk j
/-- The normalised key. -/
def kn (j : Fin 512) : ℝ := P.key0 x j * (1 / max (Real.sqrt (headSum (fun i => P.key0 x i * P.key0 x i) j)) epsNorm)
/-- The key written to the state. -/
def key (j : Fin 512) : ℝ := kOf x j * (1 + (P.rate x j - 1) * P.ka j)
/-- The row removed from the state. -/
def ba (j : Fin 512) : ℝ := P.kn x j * P.rate x j

/-- The output row, from the state's read-out. -/
def out (y : Fin 512 → ℝ) (j : Fin 512) : ℝ :=
  ((y j - headSum y j * (1 / 64))
      * (Real.sqrt (headSum (fun i => (y i - headSum y i * (1 / 64)) * (y i - headSum y i * (1 / 64))) j * (1 / 64) + epsVar))⁻¹
      * P.lg j + P.lb j
    + headSum (fun i => rOf x i * P.key x i * P.rk i) j * vOf x j) * P.gate x j

end Par

/-- A head's channel among the 512. -/
def chan (h : Fin 8) (l : Fin 64) : Fin 512 := ⟨64 * h.val + l.val, by omega⟩

/-- The state of one head before each token, along a sequence of mixed rows. -/
def stateAt (P : Par) (x : ℕ → Fin 1792 → ℝ) (h : Fin 8) : ℕ → Mat
  | 0 => 0
  | t + 1 => Matrix.of fun p j => stateAt P x h t p j * Real.exp (P.ld (x t) (chan h j))
      + (∑ l, stateAt P x h t p l * -P.kn (x t) (chan h l)) * P.ba (x t) (chan h j)
      + vOf (x t) (chan h p) * P.key (x t) (chan h j)

/-- The read-out of one token, all heads side by side. -/
def readAt (P : Par) (x : ℕ → Fin 1792 → ℝ) (t : ℕ) (j : Fin 512) : ℝ :=
  ∑ l, stateAt P x ⟨j.val / 64, by omega⟩ (t + 1) ⟨j.val % 64, by omega⟩ l * rOf (x t) (chan ⟨j.val / 64, by omega⟩ l)

/-- The rows of a sequence mixed with the rows before them, the first with zero. -/
def mixed (P : Par) (p : ℕ → Fin 1792 → ℝ) : ℕ → Fin 1792 → ℝ
  | 0 => P.shift 0 (p 0)
  | t + 1 => P.shift (p t) (p (t + 1))

/-- The block's output at one token. -/
def mixOut (P : Par) (p : ℕ → Fin 1792 → ℝ) (t : ℕ) : Fin 512 → ℝ := P.out (mixed P p t) (readAt P (mixed P p) t)

end Cert.Rwkv

end
-- ==== Proof.RwkvWhole.lean ====
/- The recurrence's arguments as real numbers, and its two result arrays over them. -/
module

public import proofs.«01_k».proof.Proof.RwkvSpec
public import proofs.«01_k».proof.Proof.RwkvMat

@[expose] public section

noncomputable section

namespace Cert.Rwkv

open Idealize.ShloMosaic Idealize.ShloMosaic.ValueIdx

/-- Every element of an array is a real number. -/
def Fin? {s : Shape} (v : FVec Ideal s .f32) : Prop := ∀ i, v i = (((v i : EReal).toReal : ℝ) : EReal)

/-- The block's weights from its argument arrays. -/
def parOf (x1 : FVec Ideal ⟨1, ![1792]⟩ .f32) (x2 : FVec Ideal ⟨1, ![512]⟩ .f32) (x3 : FVec Ideal ⟨2, ![64, 512]⟩ .f32)
    (x4 : FVec Ideal ⟨1, ![512]⟩ .f32) (x5 : FVec Ideal ⟨2, ![64, 512]⟩ .f32) (x6 : FVec Ideal ⟨2, ![128, 512]⟩ .f32)
    (x7 x8 : FVec Ideal ⟨1, ![512]⟩ .f32) (x9 : FVec Ideal ⟨2, ![8, 64]⟩ .f32) (x10 x11 : FVec Ideal ⟨1, ![512]⟩ .f32) : Par where
  mu j := (x1 (ix1 j) : EReal).toReal
  w0 j := (x2 (ix1 j) : EReal).toReal
  w2 l j := if h : l.val < 64 then (x3 (ix2 ⟨l.val, h⟩ j) : EReal).toReal else 0
  a0 j := (x4 (ix1 j) : EReal).toReal
  a2 l j := if h : l.val < 64 then 0 else (x5 (ix2 ⟨l.val - 64, by omega⟩ j) : EReal).toReal
  g2 l j := (x6 (ix2 l j) : EReal).toReal
  kk j := (x7 (ix1 j) : EReal).toReal
  ka j := (x8 (ix1 j) : EReal).toReal
  rk j := (x9 (ix2 ⟨j.val / 64, by omega⟩ ⟨j.val % 64, by omega⟩) : EReal).toReal
  lg j := (x10 (ix1 j) : EReal).toReal
  lb j := (x11 (ix1 j) : EReal).toReal

section
variable {x1 : FVec Ideal ⟨1, ![1792]⟩ .f32} {x2 : FVec Ideal ⟨1, ![512]⟩ .f32} {x3 : FVec Ideal ⟨2, ![64, 512]⟩ .f32}
    {x4 : FVec Ideal ⟨1, ![512]⟩ .f32} {x5 : FVec Ideal ⟨2, ![64, 512]⟩ .f32} {x6 : FVec Ideal ⟨2, ![128, 512]⟩ .f32}
    {x7 x8 : FVec Ideal ⟨1, ![512]⟩ .f32} {x9 : FVec Ideal ⟨2, ![8, 64]⟩ .f32} {x10 x11 : FVec Ideal ⟨1, ![512]⟩ .f32}

theorem w2_real (h3 : Fin? x3) (l : Fin 128) (j : Fin 512) :
    (if h : l.val < 64 then x3 (ix2 ⟨l.val, h⟩ j) else (0 : EReal)) = (((parOf x1 x2 x3 x4 x5 x6 x7 x8 x9 x10 x11).w2 l j : ℝ) : EReal) := by
  unfold parOf
  by_cases h : l.val < 64
  · simp only [dif_pos h]; exact h3 _
  · simp only [dif_neg h]; rfl

theorem a2_real (h5 : Fin? x5) (l : Fin 128) (j : Fin 512) :
    (if h : l.val < 64 then (0 : EReal) else x5 (ix2 ⟨l.val - 64, by omega⟩ j)) = (((parOf x1 x2 x3 x4 x5 x6 x7 x8 x9 x10 x11).a2 l j : ℝ) : EReal) := by
  unfold parOf
  by_cases h : l.val < 64
  · simp only [dif_pos h]; rfl
  · simp only [dif_neg h]; exact h5 _

end

/-- The token rows of one sequence. -/
def rowsOf (x0 : FVec Ideal ⟨3, ![8, 4096, 1792]⟩ .f32) (b : Fin 8) (n : ℕ) (k : Fin 1792) : ℝ :=
  if h : n < 4096 then (x0 (ix3 b ⟨n, h⟩ k) : EReal).toReal else 0

/-- The block's output, whole. -/
def wholeOut (φ : FTy) (P : Par) (p : Fin 8 → ℕ → Fin 1792 → ℝ) : FVec Ideal ⟨3, ![8, 4096, 512]⟩ φ := fun i =>
  ((mixOut P (p (i 0)) (i 1).val (i 2) : ℝ) : EReal)

/-- The values, whole. -/
def wholeVal (P : Par) (p : Fin 8 → ℕ → Fin 1792 → ℝ) : FVec Ideal ⟨3, ![8, 4096, 512]⟩ .f32 := fun i =>
  ((vOf (mixed P (p (i 0)) (i 1).val) (i 2) : ℝ) : EReal)

end Cert.Rwkv

end
-- ==== Proof.RwkvDots.lean ====
/- The recurrence's products, casts and spreads on vectors that hold real matrices, one lemma per shape it prints. -/
module

public import proofs.«01_k».proof.Proof.RwkvMat
public import proofs.«01_k».proof.Proof.Gen.KernelIdeal
public import Idealize.ShloMosaic.Lib.KernelVsHost

@[expose] public section

noncomputable section

namespace Cert.Rwkv

open Idealize.ShloMosaic Idealize.ShloMosaic.ValueIdx Cert.Ops Matrix Cert.KernelIdeal

/-- A real matrix under a leading axis of one. -/
def mat3 {a b : ℕ} (φ : FTy) (X : Matrix (Fin a) (Fin b) ℝ) : FVec Ideal ⟨3, ![1, a, b]⟩ φ :=
  fun ix => ((X (ix 1) (ix 2) : ℝ) : EReal)

/-- A row as a matrix. -/
def rowM {n : ℕ} (v : Fin n → ℝ) : Matrix (Fin 1) (Fin n) ℝ := Matrix.of fun _ j => v j

/-- A row repeated. -/
def every {m n : ℕ} (v : Fin n → ℝ) : Matrix (Fin m) (Fin n) ℝ := Matrix.of fun _ j => v j

section
variable {a b : ℕ} {φ ψ : FTy}

theorem cast_drop (X : Matrix (Fin a) (Fin b) ℝ) (h : Shape.ShapeCasts ⟨3, ![1, a, b]⟩ ⟨2, ![a, b]⟩) :
    shapeCast ⟨2, ![a, b]⟩ (mat3 φ X) h = mat φ X :=
  ext_mat fun i j => (drop_lead _ h i j).trans rfl

theorem cast_add (X : Matrix (Fin a) (Fin b) ℝ) (h : Shape.ShapeCasts ⟨2, ![a, b]⟩ ⟨3, ![1, a, b]⟩) :
    shapeCast ⟨3, ![1, a, b]⟩ (mat φ X) h = mat3 φ X := by
  funext ix
  rw [eq_ix3 ix, show ix 0 = (0 : Fin 1) from Subsingleton.elim (α := Fin 1) _ _]
  exact (add_lead _ h _ _ _).trans rfl

theorem cast_same (X : Matrix (Fin a) (Fin b) ℝ) (h : Shape.ShapeCasts ⟨2, ![a, b]⟩ ⟨2, ![a, b]⟩) :
    shapeCast ⟨2, ![a, b]⟩ (mat φ X) h = mat φ X := shapeCast_self _ h

theorem spread_mat (v : Fin b → ℝ) (h : Shape.Broadcasts ⟨2, ![1, b]⟩ ⟨2, ![a, b]⟩) :
    broadcastTo ⟨2, ![a, b]⟩ (mat φ (rowM v)) h = mat φ (every v) :=
  ext_mat fun i j => (spread_row _ h i j).trans rfl

end

theorem mm1 (X : Matrix (Fin 256) (Fin 128) ℝ) (Y : Matrix (Fin 128) (Fin 512) ℝ) :
    matmul (φ₁ := .bf16) (φ₂ := .bf16) dot_S256x128_S128x512_S256x512_1_0_0_1_n_n none (mat .bf16 X) (mat .bf16 Y) (constant (F := Ideal) S256x512 .f32 0x00000000#32)
      = mat .f32 (X * Y) := dot_mat _ rfl X Y
theorem mm2 (X : Matrix (Fin 256) (Fin 512) ℝ) (Y : Matrix (Fin 512) (Fin 512) ℝ) :
    matmul (φ₁ := .bf16) (φ₂ := .bf16) dot_S256x512_S512x512_S256x512_1_0_0_1_n_n none (mat .bf16 X) (mat .bf16 Y) (constant (F := Ideal) S256x512 .f32 0x00000000#32)
      = mat .f32 (X * Y) := dot_mat _ rfl X Y
theorem mm3 (X : Matrix (Fin 256) (Fin 256) ℝ) (Y : Matrix (Fin 256) (Fin 512) ℝ) :
    matmul (φ₁ := .bf16) (φ₂ := .bf16) dot_S256x256_S256x512_S256x512_1_0_0_1_n_n none (mat .bf16 X) (mat .bf16 Y) (constant (F := Ideal) S256x512 .f32 0x00000000#32)
      = mat .f32 (X * Y) := dot_mat _ rfl X Y
theorem mm4 (X : Matrix (Fin 128) (Fin 256) ℝ) (Y : Matrix (Fin 512) (Fin 256) ℝ) :
    matmul (φ₁ := .bf16) (φ₂ := .bf16) dot_S128x256_S512x256_S128x512_1_1_0_0_n_n none (mat .bf16 X) (mat .bf16 Y) (constant (F := Ideal) S128x512 .f32 0x00000000#32)
      = mat .f32 (X * Yᵀ) := dot_nt_mat _ rfl X Y
theorem mm5 (X : Matrix (Fin 64) (Fin 256) ℝ) (Y : Matrix (Fin 256) (Fin 256) ℝ) :
    matmul (φ₁ := .bf16) (φ₂ := .bf16) dot_S64x256_S256x256_S64x256_1_0_0_1_n_n none (mat .bf16 X) (mat .bf16 Y) (constant (F := Ideal) S64x256 .f32 0x00000000#32)
      = mat .f32 (X * Y) := dot_mat _ rfl X Y
theorem mm6 (X : Matrix (Fin 128) (Fin 256) ℝ) (Y : Matrix (Fin 256) (Fin 256) ℝ) :
    matmul (φ₁ := .bf16) (φ₂ := .bf16) dot_S128x256_S256x256_S128x256_1_0_0_1_n_n none (mat .bf16 X) (mat .bf16 Y) (constant (F := Ideal) S128x256 .f32 0x00000000#32)
      = mat .f32 (X * Y) := dot_mat _ rfl X Y
theorem mm7 (X : Matrix (Fin 64) (Fin 256) ℝ) (Y : Matrix (Fin 256) (Fin 512) ℝ) :
    matmul (φ₁ := .bf16) (φ₂ := .bf16) dot_S64x256_S256x512_S64x512_1_0_0_1_n_n none (mat .bf16 X) (mat .bf16 Y) (constant (F := Ideal) S64x512 .f32 0x00000000#32)
      = mat .f32 (X * Y) := dot_mat _ rfl X Y
theorem mm8 (X : Matrix (Fin 64) (Fin 512) ℝ) (Y : Matrix (Fin 512) (Fin 256) ℝ) :
    matmul (φ₁ := .bf16) (φ₂ := .bf16) dot_S64x512_S512x256_S64x256_1_0_0_1_n_n none (mat .bf16 X) (mat .bf16 Y) (constant (F := Ideal) S64x256 .f32 0x00000000#32)
      = mat .f32 (X * Y) := dot_mat _ rfl X Y
theorem mm9 (X Y : Matrix (Fin 64) (Fin 256) ℝ) :
    matmul (φ₁ := .bf16) (φ₂ := .bf16) dot_S64x256_S64x256_S256x256_0_0_1_1_n_n none (mat .bf16 X) (mat .bf16 Y) (constant (F := Ideal) S256x256 .f32 0x00000000#32)
      = mat .f32 (Xᵀ * Y) := dot_tn_mat _ rfl X Y
theorem mm10 (X Y : Matrix (Fin 128) (Fin 256) ℝ) :
    matmul (φ₁ := .bf16) (φ₂ := .bf16) dot_S128x256_S128x256_S256x256_0_0_1_1_n_n none (mat .bf16 X) (mat .bf16 Y) (constant (F := Ideal) S256x256 .f32 0x00000000#32)
      = mat .f32 (Xᵀ * Y) := dot_tn_mat _ rfl X Y
theorem mm11 (X : Matrix (Fin 64) (Fin 256) ℝ) (Y : Matrix (Fin 256) (Fin 256) ℝ) :
    matmul (φ₁ := .bf16) (φ₂ := .bf16) dot_S64x256_S256x256_S64x256_1_1_0_0_n_n none (mat .bf16 X) (mat .bf16 Y) (constant (F := Ideal) S64x256 .f32 0x00000000#32)
      = mat .f32 (X * Yᵀ) := dot_nt_mat _ rfl X Y
theorem mm12 (X Y : Matrix (Fin 256) (Fin 256) ℝ) :
    matmul (φ₁ := .bf16) (φ₂ := .bf16) dot_S256x256_S256x256_S256x256_1_0_0_1_n_n none (mat .bf16 X) (mat .bf16 Y) (constant (F := Ideal) S256x256 .f32 0x00000000#32)
      = mat .f32 (X * Y) := dot_mat _ rfl X Y

end Cert.Rwkv

end
-- ==== Proof.RwkvOperands.lean ====
/- The operands of the recurrence, from a tile of 256 rows: each vector the kernel computes before its chunks is the
   real operand of each row. -/
module

public import proofs.«01_k».proof.Proof.RwkvDots
public import proofs.«01_k».proof.Proof.RwkvSpec
public import proofs.«01_k».proof.Proof.RwkvMasks
public import proofs.«01_k».proof.Proof.Gen.KernelIdeal.Skeleton

@[expose] public section

noncomputable section

namespace Cert.Rwkv

open Idealize.ShloMosaic Idealize.ShloMosaic.ValueIdx Cert.Ops Matrix Cert.KernelIdeal Cert.KernelIdeal.Gen

abbrev Rows (n : ℕ) := Matrix (Fin 256) (Fin n) ℝ

/-- A row function on every row of a tile. -/
def tile {m n : ℕ} (f : (Fin m → ℝ) → Fin n → ℝ) (X : Rows m) : Rows n := Matrix.of fun i j => f (X i) j

/-- One where two channels share a head. -/
def bdM : Matrix (Fin 512) (Fin 512) ℝ := Matrix.of fun i j => if i.val / 64 = j.val / 64 then 1 else 0

section Scalars

theorem num_coe (b : BitVec 32) (x : ℝ) (h : Ideal.ofBits .f32 b = ((x : ℝ) : EReal)) : num b = x := by
  rw [num, h, EReal.toReal_coe]

theorem half_f32 : (Scalar.ofBits (F := Ideal) .f32 0x3F000000#32) = ((1 / 2 : ℝ) : EReal) := by
  show Ideal.ofBits .f32 0x3F000000#32 = _
  simp [Ideal.ofBits, Ideal.ieee]
  rw [← EReal.coe_mul, EReal.coe_eq_coe_iff]
  norm_num

theorem mean_f32 : (Scalar.ofBits (F := Ideal) .f32 0x3C800000#32) = ((1 / 64 : ℝ) : EReal) := by
  show Ideal.ofBits .f32 0x3C800000#32 = _
  simp [Ideal.ofBits, Ideal.ieee]
  rw [← EReal.coe_mul, EReal.coe_eq_coe_iff]
  norm_num

theorem epsNorm_pos_coe : (Scalar.ofBits (F := Ideal) .f32 0x2B8CBCCC#32) = ((epsNorm : ℝ) : EReal) ∧ 0 < epsNorm := by
  have h : ∃ x : ℝ, 0 < x ∧ Ideal.ofBits .f32 0x2B8CBCCC#32 = ((x : ℝ) : EReal) := by
    simp [Ideal.ofBits, Ideal.ieee]
    refine ⟨_, ?_, (EReal.coe_mul _ _).symm⟩
    norm_num
  obtain ⟨x, h0, hx⟩ := h
  rw [epsNorm, num_coe _ x hx]
  exact ⟨hx, h0⟩

theorem epsVar_pos_coe : (Scalar.ofBits (F := Ideal) .f32 0x3A27C5AC#32) = ((epsVar : ℝ) : EReal) ∧ 0 < epsVar := by
  have h : ∃ x : ℝ, 0 < x ∧ Ideal.ofBits .f32 0x3A27C5AC#32 = ((x : ℝ) : EReal) := by
    simp [Ideal.ofBits, Ideal.ieee]
    refine ⟨_, ?_, (EReal.coe_mul _ _).symm⟩
    norm_num
  obtain ⟨x, h0, hx⟩ := h
  rw [epsVar, num_coe _ x hx]
  exact ⟨hx, h0⟩

theorem exp_real (r : ℝ) : Ideal.exp ((r : ℝ) : EReal) = ((Real.exp r : ℝ) : EReal) := rfl
theorem log_real (r : ℝ) (h : 0 < r) : Ideal.log ((r : ℝ) : EReal) = ((Real.log r : ℝ) : EReal) := by
  rw [Ideal.log_coe, if_neg (not_le.mpr h)]
theorem sqrt_real (r : ℝ) (h : 0 ≤ r) : Ideal.sqrt ((r : ℝ) : EReal) = ((Real.sqrt r : ℝ) : EReal) := by
  rw [Ideal.sqrt_coe, if_neg (not_lt.mpr h)]
theorem rsqrt_real (r : ℝ) (h : 0 < r) : Ideal.rsqrt ((r : ℝ) : EReal) = (((Real.sqrt r)⁻¹ : ℝ) : EReal) := by
  rw [Ideal.rsqrt_coe, if_neg (not_lt.mpr h.le), if_neg h.ne']
theorem div_real (x y : ℝ) (h : y ≠ 0) : Ideal.div ((x : ℝ) : EReal) ((y : ℝ) : EReal) = ((x / y : ℝ) : EReal) := by
  rw [Ideal.div_coe h, ← EReal.coe_mul]
  congr 1
  ring
theorem max_real (x y : ℝ) : max ((x : ℝ) : EReal) ((y : ℝ) : EReal) = ((max x y : ℝ) : EReal) := (EReal.coe_strictMono.monotone.map_max).symm
theorem abs_real (x : ℝ) : max ((x : ℝ) : EReal) (-((x : ℝ) : EReal)) = ((|x| : ℝ) : EReal) := by
  rw [← EReal.coe_neg, max_real]
  rfl
theorem logistic_real (x : ℝ) : Ideal.div ((1 : ℝ) : EReal) ((1 + Real.exp (-x) : ℝ) : EReal) = ((sigm x : ℝ) : EReal) :=
  div_real _ _ (by positivity)

end Scalars

section At
variable {s : Shape} {φ : FTy} (v w : FVec Ideal s φ) (ix : s.Idx)

theorem add_at : addf v w ix = v ix + w ix := rfl
theorem sub_at : subf v w ix = v ix - w ix := rfl
theorem mul_at : mulf v w ix = v ix * w ix := rfl
theorem div_at : divf v w ix = Ideal.div (v ix) (w ix) := rfl
theorem max_at : maximumf v w ix = max (v ix) (w ix) := rfl
theorem abs_at : absf v ix = max (v ix) (-(v ix)) := rfl
theorem exp_at : exp v ix = Ideal.exp (v ix) := rfl
theorem log_at : log v ix = Ideal.log (v ix) := rfl
theorem sqrt_at : sqrt v ix = Ideal.sqrt (v ix) := rfl
theorem rsqrt_at : rsqrt v ix = Ideal.rsqrt (v ix) := rfl
theorem all_at (z : Ideal φ) : broadcast s z ix = z := rfl

end At

theorem tanh_mat {m n : ℕ} (X : Matrix (Fin m) (Fin n) ℝ) : tanh (mat .f32 X) = mat .f32 (X.map Real.tanh) := rfl
theorem exp_mat {m n : ℕ} (X : Matrix (Fin m) (Fin n) ℝ) : exp (mat .f32 X) = mat .f32 (X.map Real.exp) := rfl

theorem neg_mat {m n : ℕ} (X : Matrix (Fin m) (Fin n) ℝ) :
    subf (broadcast ⟨2, ![m, n]⟩ (Scalar.ofBits (F := Ideal) .f32 0x00000000#32)) (mat .f32 X) = mat .f32 (-X) :=
  ext_mat fun i j => by
    rw [sub_at, all_at, zero_f32, mat_at, mat_at, ← EReal.coe_sub, zero_sub]
    rfl

/-- A product with a matrix split in a rounded part and what the rounding leaves: the second part is zero here. -/
theorem split_mul {m n k : ℕ} (X : Matrix (Fin m) (Fin n) ℝ) (Y : Matrix (Fin n) (Fin k) ℝ) : X * Y + (X - X) * Y = X * Y := by
  rw [sub_self, Matrix.zero_mul, add_zero]

theorem mul_bd (f : Rows 512) (i : Fin 256) (j : Fin 512) : (f * bdM) i j = headSum (f i) j := by
  rw [Matrix.mul_apply]; rfl

/-- The row before each row of a tile, the first taken from the carried row. -/
def before (c : Fin 1792 → ℝ) (p : Rows 1792) : Rows 1792 :=
  Matrix.of fun i j => if h : i.val = 0 then c j else p ⟨i.val - 1, by omega⟩ j

/-- The mixed rows of a tile. -/
def mixTile (P : Par) (c : Fin 1792 → ℝ) (p : Rows 1792) : Rows 1792 := Matrix.of fun i => P.shift (before c p i) (p i)

theorem pay5_mat (P : Par) (c : Fin 1792 → ℝ) (p : Rows 1792) :
    k0_pay5 (F := Ideal) (mat3 .f32 p) (mat .f32 (rowM c)) (mat .f32 (rowM P.mu)) = mat .f32 (mixTile P c p) := by
  have hrow : ∀ (i : Fin 256) (j : Fin 1792),
      select (broadcastTo S256x1792 (shapeCast S256x1 (cmpi .eq (iota .tc S256x1 32 [0] iota_S256x1_d0_w32) (broadcast S256x1 0#32)) shapeCasts_S256x1_S256x1) broadcasts_S256x1_S256x1792)
        (mat .f32 (every c)) (dynamicRotate 0 1#32 none (mat .f32 p) rotates_S256x1792_d0) (ix2 i j) = ((before c p i j : ℝ) : EReal) := by
    intro i j
    have hb : broadcastTo S256x1792 (shapeCast S256x1 (cmpi .eq (iota .tc S256x1 32 [0] iota_S256x1_d0_w32) (broadcast S256x1 0#32)) shapeCasts_S256x1_S256x1) broadcasts_S256x1_S256x1792 (ix2 i j)
        = if i.val = 0 then 1#1 else 0#1 := by
      rw [shapeCast_self]
      refine (spread_col _ broadcasts_S256x1_S256x1792 i j).trans ?_
      revert i; decide
    rw [select_apply, hb]
    by_cases h : i.val = 0
    · rw [if_pos h, select_one, mat_at]
      simp only [before, Matrix.of_apply, every, dif_pos h]
    · rw [if_neg h, select_zero]
      rw [dynamicRotate_apply (0 : Fin 2) 1#32 (mat .f32 p) rotates_S256x1792_d0 (ix2 i j) (ix2 (⟨i.val - 1, by omega⟩ : Fin 256) j) (fun b => by
        match b with
        | ⟨0, _⟩ => show i.val - 1 = (i.val + 256 - 1) % 256; omega
        | ⟨1, _⟩ => rfl), mat_at]
      simp only [before, Matrix.of_apply, dif_neg h]
  refine ext_mat fun i j => ?_
  have h := hrow i j
  simp only [k0_pay5, k0_pay2, cast_drop, cast_same, spread_mat]
  rw [addf_apply, mulf_apply, subf_apply, h]
  simp only [mat_at, Ideal.addf_def, Ideal.mulf_def]
  rw [← EReal.coe_sub, ← EReal.coe_mul, ← EReal.coe_add]
  rfl

section Shifted
variable {v0 : Vec Ideal S1x256x1792 .f32} {v8 v20 : Vec Ideal S1x1792 .f32} {X : Rows 1792}

theorem sub_part {n o : ℕ} (h : o + n ≤ 1792) : sub 256 n 0 o X = tile (part o n h) X := by
  ext i j
  have hj : o + j.val < 1792 := by omega
  simp [sub, tile, part, hj]

theorem pay6_mat (H : k0_pay5 v0 v8 v20 = mat .f32 X) : k0_pay6 v0 v8 v20 = mat .f32 (tile rOf X) := by
  rw [k0_pay6, H]; exact (slice_mat 0 0 X _).trans (congrArg _ (sub_part (by omega)))
theorem pay7_mat (H : k0_pay5 v0 v8 v20 = mat .f32 X) : k0_pay7 v0 v8 v20 = mat .f32 (tile kOf X) := by
  rw [k0_pay7, H]; exact (slice_mat 0 512 X _).trans (congrArg _ (sub_part (by omega)))
theorem pay8_mat (H : k0_pay5 v0 v8 v20 = mat .f32 X) : k0_pay8 v0 v8 v20 = mat .f32 (tile vOf X) := by
  rw [k0_pay8, H]; exact (slice_mat 0 1024 X _).trans (congrArg _ (sub_part (by omega)))
theorem pay9_mat (H : k0_pay5 v0 v8 v20 = mat .f32 X) : k0_pay9 v0 v8 v20 = mat .f32 (tile waOf X) := by
  rw [k0_pay9, H]; exact (slice_mat 0 1536 X _).trans (congrArg _ (sub_part (by omega)))
theorem pay10_mat (H : k0_pay5 v0 v8 v20 = mat .f32 X) : k0_pay10 v0 v8 v20 = mat .f32 (tile gdOf X) := by
  rw [k0_pay10, H]; exact (slice_mat 0 1664 X _).trans (congrArg _ (sub_part (by omega)))

end Shifted

variable (P : Par) (X : Rows 1792)

theorem pay1113_mat {v0 : Vec Ideal S1x256x1792 .f32} {v8 v20 : Vec Ideal S1x1792 .f32} (H : k0_pay5 v0 v8 v20 = mat .f32 X) :
    k0_pay13 (k0_pay11 v0 v8 v20 (mat .bf16 (Matrix.of P.w2))) (k0_pay12 (mat .f32 (rowM P.w0))) = mat .f32 (tile P.ld X) := by
  have e : k0_pay11 v0 v8 v20 (mat .bf16 (Matrix.of P.w2)) = mat .f32 ((tile waOf X).map Real.tanh * Matrix.of P.w2) := by
    simp only [k0_pay11, pay9_mat H, cast_same, tanh_mat, trunc_mat, mm1]
  refine ext_mat fun i j => ?_
  rw [e]
  simp only [k0_pay13, k0_pay12, cast_same, spread_mat, add_mat, neg_mat]
  simp only [sub_at, add_at, exp_at, log_at, abs_at, max_at, all_at, mat_at, zero_f32, one_f32, half_f32, abs_real, max_real, ← EReal.coe_sub,
    exp_real, ← EReal.coe_add]
  rw [log_real _ (by positivity)]
  simp only [← EReal.coe_add, ← EReal.coe_sub, exp_real, zero_sub]
  rw [EReal.coe_eq_coe_iff]
  rfl

theorem pay14_mat : k0_pay14 (mat .f32 (tile waOf X)) (mat .f32 (rowM P.a0)) (mat .bf16 (Matrix.of P.a2)) = mat .f32 (tile P.rate X) := by
  refine ext_mat fun i j => ?_
  simp only [k0_pay14, cast_same, trunc_mat, spread_mat, mm1, add_mat]
  rw [neg_mat, exp_mat]
  simp only [div_at, add_at, all_at, mat_at, one_f32, ← EReal.coe_add]
  rw [div_real _ _ (by simp only [Matrix.map_apply]; positivity)]
  rfl

theorem pay1516_mat : k0_pay16 (k0_pay15 (mat .f32 (tile gdOf X))) (mat .bf16 (Matrix.of P.g2)) = mat .f32 (tile P.gate X) := by
  have e : k0_pay15 (mat .f32 (tile gdOf X)) = mat .f32 ((tile gdOf X).map sigm) := by
    refine ext_mat fun i j => ?_
    simp only [k0_pay15]
    rw [neg_mat, exp_mat]
    simp only [div_at, add_at, all_at, mat_at, one_f32, ← EReal.coe_add]
    rw [div_real _ _ (by simp only [Matrix.map_apply]; positivity)]
    rfl
  rw [e]
  simp only [k0_pay16, cast_same, trunc_mat, mm1]
  rfl

theorem pay17_mat : k0_pay17 (mat .f32 (tile kOf X)) (mat .f32 (rowM P.kk)) (mat .bf16 bdM) = mat .f32 (tile P.kn X) := by
  refine ext_mat fun i j => ?_
  have e : had (tile kOf X) (every P.kk) = tile P.key0 X := rfl
  simp only [k0_pay17, cast_same, trunc_mat, ext_mat_f, spread_mat, mul_mat, sub_mat, mm2, add_mat, split_mul, e]
  simp only [mul_at, div_at, max_at, sqrt_at, all_at, mat_at, mul_bd, one_f32, epsNorm_pos_coe.1]
  have h0 : 0 ≤ headSum (had (tile P.key0 X) (tile P.key0 X) i) j := by
    refine Finset.sum_nonneg fun l _ => mul_nonneg (mul_self_nonneg _) ?_
    split <;> norm_num
  have h1 := lt_of_lt_of_le epsNorm_pos_coe.2 (le_max_right (Real.sqrt (headSum (had (tile P.key0 X) (tile P.key0 X) i) j)) epsNorm)
  rw [sqrt_real _ h0, max_real, div_real _ _ h1.ne', ← EReal.coe_mul]
  rfl

theorem pay18_mat : k0_pay18 (mat .f32 (tile kOf X)) (mat .f32 (tile P.rate X)) (mat .f32 (rowM P.ka)) = mat .f32 (tile P.key X) := by
  refine ext_mat fun i j => ?_
  simp only [k0_pay18, cast_same, spread_mat, mul_at, add_at, sub_at, all_at, mat_at, one_f32, ← EReal.coe_sub, ← EReal.coe_mul, ← EReal.coe_add]
  rfl

theorem pay19_mat : k0_pay19 (mat .f32 (tile kOf X)) (mat .f32 (tile P.rate X)) (mat .f32 (rowM P.kk)) (mat .bf16 bdM) = mat .f32 (tile P.ba X) := by
  simp only [k0_pay19, pay17_mat, mul_mat]
  rfl

theorem pay20_mat : k0_pay20 (mat .f32 (tile vOf X)) = mat3 .f32 (tile vOf X) := by
  simp only [k0_pay20]; exact cast_add _ _

/-- The output stage, from the read-out rows. -/
theorem pay373_mat (Y : Rows 512) :
    k0_pay373 (mat .f32 (tile rOf X)) (mat .f32 (tile vOf X)) (mat .f32 (tile P.gate X)) (mat .f32 (tile P.key X)) (mat .f32 Y)
      (mat .f32 (Y * bdM)) (Scalar.ofBits (F := Ideal) .f32 0x3C800000#32) (mat .bf16 bdM) (mat .f32 (rowM P.lg)) (mat .f32 (rowM P.lb)) (mat .f32 (rowM P.rk)) (mat .bf16 bdM)
      = mat .f32 (Matrix.of fun i j => P.out (X i) (Y i) j) := by
  have e2 : had (had (tile rOf X) (tile P.key X)) (every P.rk) = tile (fun x l => rOf x l * P.key x l * P.rk l) X := rfl
  have e3 : (broadcast S256x512 (Scalar.ofBits (F := Ideal) .f32 0x3C800000#32) : FVec Ideal S256x512 .f32) = mat .f32 (every fun _ => 1 / 64) :=
    ext_mat fun i j => mean_f32
  refine ext_mat fun i j => ?_
  simp only [k0_pay373, cast_same, trunc_mat, ext_mat_f, spread_mat, e3, mul_mat, sub_mat, mm2, add_mat, split_mul, e2]
  set Z : Rows 512 := Y - had (Y * bdM) (every fun _ => 1 / 64) with hZ
  have hz : ∀ l, Z i l = Y i l - headSum (Y i) l * (1 / 64) := fun l => by
    rw [hZ, Matrix.sub_apply]
    show Y i l - (Y * bdM) i l * (1 / 64) = _
    rw [mul_bd]
  have hv : had (had Z Z * bdM) (every fun _ => 1 / 64) i j
      = headSum (fun l => (Y i l - headSum (Y i) l * (1 / 64)) * (Y i l - headSum (Y i) l * (1 / 64))) j * (1 / 64) := by
    show (had Z Z * bdM) i j * (1 / 64) = _
    rw [mul_bd]
    congr 2
  have h0 : 0 ≤ headSum (fun l => (Y i l - headSum (Y i) l * (1 / 64)) * (Y i l - headSum (Y i) l * (1 / 64))) j * (1 / 64) := by
    refine mul_nonneg (Finset.sum_nonneg fun l _ => mul_nonneg (mul_self_nonneg _) ?_) (by norm_num)
    split <;> norm_num
  simp only [mul_at, add_at, rsqrt_at, all_at, mat_at, epsVar_pos_coe.1, hv, hz, ← EReal.coe_add]
  rw [rsqrt_real _ (add_pos_of_nonneg_of_pos h0 epsVar_pos_coe.2)]
  simp only [← EReal.coe_mul, ← EReal.coe_add]
  have hb : (tile (fun x l => rOf x l * P.key x l * P.rk l) X * bdM) i j = headSum (fun l => rOf (X i) l * P.key (X i) l * P.rk l) j := mul_bd _ i j
  show ((((_ + had (tile (fun x l => rOf x l * P.key x l * P.rk l) X * bdM) (tile vOf X) i j) * tile P.gate X i j : ℝ)) : EReal) = _
  rw [show had (tile (fun x l => rOf x l * P.key x l * P.rk l) X * bdM) (tile vOf X) i j = headSum (fun l => rOf (X i) l * P.key (X i) l * P.rk l) j * vOf (X i) j from
    congrArg (· * vOf (X i) j) hb]
  rfl

section Cumulated
variable (L Z : Rows 512)

/-- The decay's logarithms summed along each chunk. -/
def cumM : Rows 512 := trilM * L

theorem pay37_mat : k0_pay37 (mat .f32 L) (mat .bf16 trilM) = mat .f32 (cumM L) := by
  simp only [k0_pay37, trunc_mat, ext_mat_f, sub_mat, mm3, add_mat, sub_self, Matrix.mul_zero, add_zero, cumM]

theorem pay38_mat : k0_pay38 (mat .f32 L) (mat .bf16 trilM) = mat .f32 ((cumM L).map Real.exp) := by
  simp only [k0_pay38, pay37_mat, exp_mat]

theorem pay39_mat : k0_pay39 (mat .f32 L) (mat .bf16 trilM) = mat .f32 ((-cumM L).map Real.exp) := by
  simp only [k0_pay39, pay37_mat, neg_mat, exp_mat]

theorem pay40_mat : k0_pay40 (mat .f32 Z) (mat .f32 L) (mat .bf16 trilM) = mat .f32 (had Z ((cumM L).map Real.exp)) := by
  simp only [k0_pay40, pay38_mat, mul_mat]

theorem pay41_mat : k0_pay41 (mat .f32 L) (mat .f32 Z) (mat .bf16 trilM) = mat .f32 (had Z ((-cumM L).map Real.exp)) := by
  simp only [k0_pay41, pay39_mat, mul_mat]

theorem pay42_mat : k0_pay42 (mat .f32 L) (mat .f32 Z) (mat .bf16 trilM) = mat .f32 (had (-Z) ((cumM L - L).map Real.exp)) := by
  simp only [k0_pay42, pay37_mat, neg_mat, sub_mat, exp_mat, mul_mat]

theorem pay43_mat : k0_pay43 (mat .f32 L) (mat .f32 Z) (mat .bf16 trilM) = mat .f32 (had Z ((-cumM L).map Real.exp)) := by
  simp only [k0_pay43, pay39_mat, mul_mat]

end Cumulated

end Cert.Rwkv

end
-- ==== Proof.RwkvStep.lean ====
/- The pieces the recurrence's body is read through: windows of the state array, joined vectors, and what one block of
   64 tokens does to four heads. -/
module

public import proofs.«01_k».proof.Proof.RwkvOperands
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Rwkv

open Cert.KernelIdeal Cert.KernelIdeal.Gen Cert.Ops Matrix
open Idealize.ShloMosaic hiding ix1 ix2 ix3 eq_ix3 eq_ix2
open Idealize.ShloMosaic.TcCoe Idealize.SL.Sem Idealize.ShloMosaic.ValueIdx
open Idealize.ShloMosaic.Pipeline (Dat)

/-- The state array: two matrices, each four heads down its diagonal. -/
def st (S : Fin 2 → Heads) : FVec Ideal S2x256x256 .f32 := fun ix => ((diag4 (S (ix 0)) (ix 1) (ix 2) : ℝ) : EReal)

section Pieces
variable {sig : RefSig} {κ : Kind} {sp : Space} (v : View sig κ sp S2x256x256 .f32) (L : List (View.Piece (Elt Ideal) S2x256x256 .f32))

theorem cov_last {q : ℕ} (h : ∀ a, (![q, 0, 0] : Fin 3 → ℕ) a + (![1, 256, 256] : Fin 3 → ℕ) a ≤ S2x256x256.size a) (w : (Rect.unit (s := S2x256x256) ![q, 0, 0] ![1, 256, 256] h).shape.Idx → Elt Ideal .f32) :
    v.readCov (⟨Rect.unit ![q, 0, 0] ![1, 256, 256] h, w⟩ :: L) (Rect.unit ![q, 0, 0] ![1, 256, 256] h).toLoadRect = w :=
  View.readCov_cons_toLoadRect v _ w L

theorem cov_skip (h : ∀ a, (![1, 0, 0] : Fin 3 → ℕ) a + (![1, 256, 256] : Fin 3 → ℕ) a ≤ S2x256x256.size a)
    (h' : ∀ a, (![0, 0, 0] : Fin 3 → ℕ) a + (![1, 256, 256] : Fin 3 → ℕ) a ≤ S2x256x256.size a) (w : (Rect.unit (s := S2x256x256) ![1, 0, 0] ![1, 256, 256] h).shape.Idx → Elt Ideal .f32) :
    v.readCov (⟨Rect.unit ![1, 0, 0] ![1, 256, 256] h, w⟩ :: L) (Rect.unit ![0, 0, 0] ![1, 256, 256] h').toLoadRect
      = v.readCov L (Rect.unit ![0, 0, 0] ![1, 256, 256] h').toLoadRect :=
  View.readCov_skip v _ w L _ (by simp [LoadRect.disj]; decide)

theorem ld_st (S : Fin 2 → Heads) (q : Fin 2) (h : ∀ a, (![q.val, 0, 0] : Fin 3 → ℕ) a + (![1, 256, 256] : Fin 3 → ℕ) a ≤ S2x256x256.size a) :
    View.ld (Val := Elt Ideal) (e' := .f32) (st S) (Rect.unit ![q.val, 0, 0] ![1, 256, 256] h) = mat3 .f32 (diag4 (S q)) := by
  funext x
  show ((diag4 (S _) _ _ : ℝ) : EReal) = ((diag4 (S q) (x 1) (x 2) : ℝ) : EReal)
  have x0 : (x 0).val = 0 := by have : (x 0).val < 1 := (x 0).isLt; omega
  congr 2
  · congr 2
    exact Fin.ext (by show q.val + 1 * (x 0).val = q.val; omega)
  · exact Fin.ext (by show 0 + 1 * (x 1).val = (x 1).val; omega)
  · exact Fin.ext (by show 0 + 1 * (x 2).val = (x 2).val; omega)

theorem ld_st0 (S : Fin 2 → Heads) (h : ∀ a, (![0, 0, 0] : Fin 3 → ℕ) a + (![1, 256, 256] : Fin 3 → ℕ) a ≤ S2x256x256.size a) :
    View.ld (Val := Elt Ideal) (e' := .f32) (st S) (Rect.unit ![0, 0, 0] ![1, 256, 256] h) = mat3 .f32 (diag4 (S 0)) := ld_st S 0 h
theorem ld_st1 (S : Fin 2 → Heads) (h : ∀ a, (![1, 0, 0] : Fin 3 → ℕ) a + (![1, 256, 256] : Fin 3 → ℕ) a ≤ S2x256x256.size a) :
    View.ld (Val := Elt Ideal) (e' := .f32) (st S) (Rect.unit ![1, 0, 0] ![1, 256, 256] h) = mat3 .f32 (diag4 (S 1)) := ld_st S 1 h

/-- The two windows written last are the state. -/
theorem canon_st (M0 M1 : Heads) (h0 : ∀ a, (![0, 0, 0] : Fin 3 → ℕ) a + (![1, 256, 256] : Fin 3 → ℕ) a ≤ S2x256x256.size a)
    (h1 : ∀ a, (![1, 0, 0] : Fin 3 → ℕ) a + (![1, 256, 256] : Fin 3 → ℕ) a ≤ S2x256x256.size a) :
    View.canon (⟨Rect.unit ![1, 0, 0] ![1, 256, 256] h1, mat3 .f32 (diag4 M1)⟩ :: ⟨Rect.unit ![0, 0, 0] ![1, 256, 256] h0, mat3 .f32 (diag4 M0)⟩ :: L)
      = st (fun q => if q = 0 then M0 else M1) := by
  funext y
  have emb : ∀ (q : ℕ) (h : ∀ a, (![q, 0, 0] : Fin 3 → ℕ) a + (![1, 256, 256] : Fin 3 → ℕ) a ≤ S2x256x256.size a), (y 0).val = q →
      (Rect.unit (s := S2x256x256) ![q, 0, 0] ![1, 256, 256] h).emb (ix3 (0 : Fin 1) (y 1 : Fin 256) (y 2 : Fin 256)) = y := by
    intro q h hq
    funext a
    match a with
    | ⟨0, _⟩ => exact Fin.ext (by show q + 1 * 0 = (y 0).val; omega)
    | ⟨1, _⟩ => exact Fin.ext (by show 0 + 1 * (y 1).val = (y 1).val; omega)
    | ⟨2, _⟩ => exact Fin.ext (by show 0 + 1 * (y 2).val = (y 2).val; omega)
  have h2 : (y 0).val < 2 := (y 0).isLt
  show _ = ((diag4 ((fun q : Fin 2 => if q = 0 then M0 else M1) ⟨(y 0).val, h2⟩) (y 1) (y 2) : ℝ) : EReal)
  by_cases hq : (y 0).val = 0
  · have hn : y ∉ (Rect.unit (s := S2x256x256) ![1, 0, 0] ![1, 256, 256] h1).set := by
      rw [Rect.mem_set_unit]
      intro h
      have := (h 0).1
      change 1 ≤ (y 0).val at this
      omega
    refine (View.canon_cons_of_not_mem (⟨Rect.unit (s := S2x256x256) ![1, 0, 0] ![1, 256, 256] h1, mat3 .f32 (diag4 M1)⟩ : View.Piece (Elt Ideal) S2x256x256 .f32) (⟨Rect.unit ![0, 0, 0] ![1, 256, 256] h0, mat3 .f32 (diag4 M0)⟩ :: L) hn).trans ?_
    have h := View.canon_cons_emb (Rect.unit (s := S2x256x256) ![0, 0, 0] ![1, 256, 256] h0) (mat3 .f32 (diag4 M0)) L
      (ix3 (0 : Fin 1) (y 1 : Fin 256) (y 2 : Fin 256))
    rw [emb 0 h0 hq] at h
    refine h.trans ?_
    rw [show (⟨(y 0).val, h2⟩ : Fin 2) = 0 from Fin.ext hq]
    rfl
  · have hy : (y 0).val = 1 := by omega
    have h := View.canon_cons_emb (Rect.unit (s := S2x256x256) ![1, 0, 0] ![1, 256, 256] h1) (mat3 .f32 (diag4 M1))
      (⟨Rect.unit ![0, 0, 0] ![1, 256, 256] h0, mat3 .f32 (diag4 M0)⟩ :: L) (ix3 (0 : Fin 1) (y 1 : Fin 256) (y 2 : Fin 256))
    rw [emb 1 h1 hy] at h
    refine h.trans ?_
    rw [show (⟨(y 0).val, h2⟩ : Fin 2) = 1 from Fin.ext hy]
    rfl

end Pieces

/-- What the first grid point of a batch fills the state with. -/
theorem fill_st : (k0_pay21 (F := Ideal)) = st 0 := by
  simp only [k0_pay21, shapeCast_self]
  funext ix
  rw [broadcast_apply, zero_f32]
  show _ = ((diag4 0 (ix 1) (ix 2) : ℝ) : EReal)
  rw [diag4_zero]
  rfl

/-- What it fills the carried rows with. -/
theorem fill_row : (k0_pay3 (F := Ideal)) = mat .f32 0 := by
  simp only [k0_pay3, shapeCast_self]
  exact ext_mat fun i j => zero_f32

theorem ld_row0 (h : ∀ a, (![0, 0] : Fin 2 → ℕ) a + (![1, 1792] : Fin 2 → ℕ) a ≤ S8x1792.size a) :
    View.ld (Val := Elt Ideal) (e' := .f32) (mat .f32 (0 : Matrix (Fin 8) (Fin 1792) ℝ)) (Rect.unit (s := S8x1792) ![0, 0] ![1, 1792] h) = mat .f32 (rowM 0) := rfl

section Fills
variable {sig : RefSig} {κ : Kind} {sp : Space}

theorem row_fill (v : View sig κ sp S8x1792 .f32) (h : ∀ a, (![0, 0] : Fin 2 → ℕ) a + S8x1792.size a ≤ S8x1792.size a)
    (h' : ∀ a, (![0, 0] : Fin 2 → ℕ) a + (![1, 1792] : Fin 2 → ℕ) a ≤ S8x1792.size a) (L : List (View.Piece (Elt Ideal) S8x1792 .f32)) :
    v.readCov (⟨Rect.unit ![0, 0] (no_index S8x1792.size) h, mat .f32 (0 : Matrix (Fin 8) (Fin 1792) ℝ)⟩ :: L) (Rect.unit (s := S8x1792) ![0, 0] ![1, 1792] h').toLoadRect = mat .f32 (rowM 0) := by
  rw [View.readCov_fill v h _ L _ (by decide)]
  exact ld_row0 h'

variable (v : View sig κ sp S2x256x256 .f32) (h : ∀ a, (![0, 0, 0] : Fin 3 → ℕ) a + S2x256x256.size a ≤ S2x256x256.size a)
  (L : List (View.Piece (Elt Ideal) S2x256x256 .f32)) (S : Fin 2 → Heads)

theorem st_fill0 (h' : ∀ a, (![0, 0, 0] : Fin 3 → ℕ) a + (![1, 256, 256] : Fin 3 → ℕ) a ≤ S2x256x256.size a) :
    v.readCov (⟨Rect.unit ![0, 0, 0] (no_index S2x256x256.size) h, st S⟩ :: L) (Rect.unit ![0, 0, 0] ![1, 256, 256] h').toLoadRect = mat3 .f32 (diag4 (S 0)) := by
  rw [View.readCov_fill v h _ L _ (by decide)]
  exact ld_st0 S h'
theorem st_fill1 (h' : ∀ a, (![1, 0, 0] : Fin 3 → ℕ) a + (![1, 256, 256] : Fin 3 → ℕ) a ≤ S2x256x256.size a) :
    v.readCov (⟨Rect.unit ![0, 0, 0] (no_index S2x256x256.size) h, st S⟩ :: L) (Rect.unit ![1, 0, 0] ![1, 256, 256] h').toLoadRect = mat3 .f32 (diag4 (S 1)) := by
  rw [View.readCov_fill v h _ L _ (by decide)]
  exact ld_st1 S h'

end Fills

/-- Two pieces joined. -/
def cat2 {α : Type} (t s : Shape) (d : Fin t.rank) (h : Shape.Concatenates [s, s] t d) (x y : s.Idx → α) : t.Idx → α :=
  concatenate t d [⟨s, x⟩, ⟨s, y⟩] h
/-- Four pieces joined. -/
def cat4 {α : Type} (t s : Shape) (d : Fin t.rank) (h : Shape.Concatenates [s, s, s, s] t d) (x y z w : s.Idx → α) : t.Idx → α :=
  concatenate t d [⟨s, x⟩, ⟨s, y⟩, ⟨s, z⟩, ⟨s, w⟩] h

theorem cat2_eq {α : Type} (t s : Shape) (d : Fin t.rank) (x y : s.Idx → α) (h : Shape.Concatenates [s, s] t d) :
    concatenate t d [⟨s, x⟩, ⟨s, y⟩] h = cat2 t s d h x y := rfl
theorem cat4_eq {α : Type} (t s : Shape) (d : Fin t.rank) (x y z w : s.Idx → α) (h : Shape.Concatenates [s, s, s, s] t d) :
    concatenate t d [⟨s, x⟩, ⟨s, y⟩, ⟨s, z⟩, ⟨s, w⟩] h = cat4 t s d h x y z w := rfl

section Cats
variable {a n c : ℕ} {φ : FTy}

theorem cat2_rows (X Y : Matrix (Fin a) (Fin n) ℝ) (h : Shape.Concatenates [(⟨2, ![a, n]⟩ : Shape), ⟨2, ![a, n]⟩] ⟨2, ![c, n]⟩ 0) (hc : c = a + a) :
    cat2 ⟨2, ![c, n]⟩ ⟨2, ![a, n]⟩ 0 h (mat φ X) (mat φ Y) = mat φ (rows c X Y) := cat_rows X Y h hc
theorem cat2_cols (X Y : Matrix (Fin n) (Fin a) ℝ) (h : Shape.Concatenates [(⟨2, ![n, a]⟩ : Shape), ⟨2, ![n, a]⟩] ⟨2, ![n, c]⟩ 1) (hc : c = a + a) :
    cat2 ⟨2, ![n, c]⟩ ⟨2, ![n, a]⟩ 1 h (mat φ X) (mat φ Y) = mat φ (cols c X Y) := cat_cols X Y h hc

/-- Four blocks of 64 rows, one above the other. -/
def tower (X : Fin 4 → Matrix (Fin 64) (Fin 512) ℝ) : Rows 512 := Matrix.of fun i j => X (blk i) (lane i) j

theorem cat4_rows (X0 X1 X2 X3 : Matrix (Fin 64) (Fin 512) ℝ) (h : Shape.Concatenates [S64x512, S64x512, S64x512, S64x512] S256x512 0) :
    cat4 S256x512 S64x512 0 h (mat φ X0) (mat φ X1) (mat φ X2) (mat φ X3) = mat φ (tower ![X0, X1, X2, X3]) := by
  refine ext_mat fun i j => ?_
  have hb : (blk i).val = i.val / 64 := rfl
  have hp : ∀ k : Fin 4, blk i = k → (64 * k.val + (lane i).val = i.val) := fun k hk => by
    rw [← hk]; show 64 * (i.val / 64) + i.val % 64 = i.val; omega
  have hi : ∀ b : Fin S64x512.rank, b.cast (rfl : S64x512.rank = S256x512.rank) ≠ 0
      → ((ix2 (lane i) j : S64x512.Idx) b).val = ((ix2 i j : S256x512.Idx) (b.cast rfl)).val := fun b hb' => by
    match b with
    | ⟨0, _⟩ => exact absurd rfl hb'
    | ⟨1, _⟩ => rfl
  let xs : List ((s : Shape) × (s.Idx → EReal)) := [⟨S64x512, mat φ X0⟩, ⟨S64x512, mat φ X1⟩, ⟨S64x512, mat φ X2⟩, ⟨S64x512, mat φ X3⟩]
  show concatenate S256x512 0 xs h (ix2 i j) = _
  match hk : blk i with
  | ⟨0, _⟩ =>
    rw [concatenate_apply_piece 0 xs h (ix2 i j) 0 (by show 0 < 4; omega) S64x512 (mat φ X0) rfl rfl 0 rfl (ix2 (lane i) j) hi (hp 0 hk)]
    show _ = ((![X0, X1, X2, X3] (blk i) (lane i) j : ℝ) : EReal)
    rw [hk]
    rfl
  | ⟨1, _⟩ =>
    rw [concatenate_apply_piece 0 xs h (ix2 i j) 1 (by show 1 < 4; omega) S64x512 (mat φ X1) rfl rfl 64 rfl (ix2 (lane i) j) hi (hp 1 hk)]
    show _ = ((![X0, X1, X2, X3] (blk i) (lane i) j : ℝ) : EReal)
    rw [hk]
    rfl
  | ⟨2, _⟩ =>
    rw [concatenate_apply_piece 0 xs h (ix2 i j) 2 (by show 2 < 4; omega) S64x512 (mat φ X2) rfl rfl 128 rfl (ix2 (lane i) j) hi (hp 2 hk)]
    show _ = ((![X0, X1, X2, X3] (blk i) (lane i) j : ℝ) : EReal)
    rw [hk]
    rfl
  | ⟨3, _⟩ =>
    rw [concatenate_apply_piece 0 xs h (ix2 i j) 3 (by show 3 < 4; omega) S64x512 (mat φ X3) rfl rfl 192 rfl (ix2 (lane i) j) hi (hp 3 hk)]
    show _ = ((![X0, X1, X2, X3] (blk i) (lane i) j : ℝ) : EReal)
    rw [hk]
    rfl

end Cats

theorem stacked4 (M : Heads) (h : Shape.Concatenates [S64x256, S64x256, S64x256, S64x256] S256x256 0) :
    select ownMask (cat4 S256x256 S64x256 0 h (mat .bf16 (pack M)) (mat .bf16 (pack M)) (mat .bf16 (pack M)) (mat .bf16 (pack M)))
      (broadcast S256x256 (Scalar.ofBits (F := Ideal) .bf16 0x0000#16)) = mat .bf16 (diag4 M) := stacked M h

theorem own_mask2 (h) : k0_pay31 k0_pay28 (iota Kind.tc S256x256 32 ([(1 : Fin 2)] : List (Fin 2)) h) (64#32) k0_pay29 k0_pay30 = ownMask := own_mask

theorem sub_full {a b : ℕ} (X : Matrix (Fin a) (Fin b) ℝ) : sub a b 0 0 X = X := by
  ext i j
  simp [sub]

theorem rows_diag (X Y : Matrix (Fin 64) (Fin 256) ℝ) (M : Heads) : rows 128 X Y * diag4 M = rows 128 (X * diag4 M) (Y * diag4 M) := rows_mul X Y _

theorem gram (X Y : Matrix (Fin 64) (Fin 256) ℝ) (U V : Matrix (Fin 256) (Fin 256) ℝ) :
    rows 128 X Y * (rows 512 U V)ᵀ = rows 128 (cols 512 (X * Uᵀ) (X * Vᵀ)) (cols 512 (Y * Uᵀ) (Y * Vᵀ)) := by
  rw [rows_mul, mul_rows_tr, mul_rows_tr]

theorem spread_last {φ : FTy} (X : Matrix (Fin 1) (Fin 256) ℝ) (h : Shape.Broadcasts S1x256 S256x256) :
    broadcastTo S256x256 (mat φ X : FVec Ideal S1x256 φ) h = mat φ (spread X) :=
  ext_mat fun i j => (spread_row _ h i j).trans rfl

section Block
variable (P : Par) (X : Rows 1792)

/-- The running sums of the decay's logarithm, block by block. -/
def cumD : Rows 512 := cumM (tile P.ld X)
/-- The rows removed, scaled forward. -/
def colA : Rows 512 := had (-tile P.kn X) ((cumD P X - tile P.ld X).map Real.exp)
/-- The receptances, scaled forward. -/
def colR : Rows 512 := had (tile rOf X) ((cumD P X).map Real.exp)
/-- The rows put back, scaled back. -/
def colB : Rows 512 := had (tile P.ba X) ((-cumD P X).map Real.exp)
/-- The keys, scaled back. -/
def colK : Rows 512 := had (tile P.key X) ((-cumD P X).map Real.exp)

variable (o q : ℕ)

/-- The decay over a whole block. -/
def lastW : Matrix (Fin 1) (Fin 256) ℝ := sub 1 256 (o + 63) q ((cumD P X).map Real.exp)
/-- A block's in-context rows, all heads. -/
def ahat4 : Heads := dbl (strict4 (heads o q (colA P X) * tr (heads o q (colB P X)))) * heads o q (colA P X)
/-- A block's own inner products, all heads. -/
def uhat4 : Heads := dbl (strict4 (heads o q (colA P X) * tr (heads o q (colB P X))))
  * (strict4 (heads o q (colA P X) * tr (heads o q (colK P X))) * heads o q (tile vOf X))

/-- The state after a block. -/
def nextS (S : Heads) : Heads :=
  S * scale4 (1 + tr (ahat4 P X o q) * heads o q (colB P X)) (lastW P X o q)
    + scale4 (tr (uhat4 P X o q) * heads o q (colB P X) + tr (heads o q (tile vOf X)) * heads o q (colK P X)) (lastW P X o q)

/-- A block's read-outs. -/
def readS (S : Heads) : Heads :=
  (heads o q (colR P X) + incl4 (heads o q (colR P X) * tr (heads o q (colB P X))) * ahat4 P X o q) * tr S
    + (incl4 (heads o q (colR P X) * tr (heads o q (colB P X))) * uhat4 P X o q
      + incl4 (heads o q (colR P X) * tr (heads o q (colK P X))) * heads o q (tile vOf X))

/-- The state before each of a tile's blocks, and after the last. -/
def runS (S : Heads) : ℕ → Heads
  | 0 => S
  | k + 1 => nextS P X (64 * k) q (runS S k)

/-- A tile's read-outs. -/
def readY (S : Fin 2 → Heads) : Rows 512 :=
  tower ![cols 512 (pack (readS P X 0 0 (runS P X 0 (S 0) 0))) (pack (readS P X 0 256 (runS P X 256 (S 1) 0))),
    cols 512 (pack (readS P X 64 0 (runS P X 0 (S 0) 1))) (pack (readS P X 64 256 (runS P X 256 (S 1) 1))),
    cols 512 (pack (readS P X 128 0 (runS P X 0 (S 0) 2))) (pack (readS P X 128 256 (runS P X 256 (S 1) 2))),
    cols 512 (pack (readS P X 192 0 (runS P X 0 (S 0) 3))) (pack (readS P X 192 256 (runS P X 256 (S 1) 3)))]

end Block

end Cert.Rwkv

end
-- ==== Proof.RwkvBody.lean ====
/- What one grid point of the recurrence's kernel does to its state, over the real numbers. -/
module

public import proofs.«01_k».proof.Proof.RwkvStep

@[expose] public section

set_option maxRecDepth 16384

noncomputable section

namespace Cert.Rwkv

open Cert.KernelIdeal Cert.KernelIdeal.Gen Cert.Ops Matrix
open Idealize.ShloMosaic hiding ix1 ix2 ix3 eq_ix3 eq_ix2
open Idealize.ShloMosaic.TcCoe Idealize.SL.Sem Idealize.ShloMosaic.ValueIdx
open Idealize.ShloMosaic.Pipeline (Dat)

/-- The blocks one grid point reads, as real matrices. -/
structure Leaves (m : (ℓ : Loc nD τ sig) → Buf (Elt Ideal) ℓ) (c : Dev nD) (t : Fin cfg0.N) (P : Par) (p : Rows 1792) : Prop where
  i0 : iblk m c 0 t = mat3 .f32 p
  i1 : iblk m c 1 t = mat .f32 (rowM P.mu)
  i2 : iblk m c 2 t = mat .f32 (rowM P.w0)
  i3 : iblk m c 3 t = mat .bf16 (Matrix.of P.w2)
  i4 : iblk m c 4 t = mat .f32 (rowM P.a0)
  i5 : iblk m c 5 t = mat .bf16 (Matrix.of P.a2)
  i6 : iblk m c 6 t = mat .bf16 (Matrix.of P.g2)
  i7 : iblk m c 7 t = mat .f32 (rowM P.kk)
  i8 : iblk m c 8 t = mat .f32 (rowM P.ka)
  i9 : iblk m c 9 t = mat .f32 (rowM P.rk)
  i10 : iblk m c 10 t = mat .f32 (rowM P.lg)
  i11 : iblk m c 11 t = mat .f32 (rowM P.lb)
  i12 : iblk m c 12 t = mat .bf16 bdM

/-- What a grid point leaves: its output rows, its value rows, the state and the carried row. -/
structure Leaves.Done (m : (ℓ : Loc nD τ sig) → Buf (Elt Ideal) ℓ) (c : Dev nD) (t : Fin cfg0.N) (P : Par) (p : Rows 1792) (cr : Fin 1792 → ℝ)
    (S : Fin 2 → Heads) : Prop where
  out : (outsAt0 m c t.val t.isLt).1 = mat3 .bf16 (Matrix.of fun i j => P.out (mixTile P cr p i) (readY P (mixTile P cr p) S i) j)
  val : (outsAt0 m c t.val t.isLt).2.1 = mat3 .f32 (tile vOf (mixTile P cr p))
  state : (outsAt0 m c t.val t.isLt).2.2.1 = st (fun q => if q = 0 then runS P (mixTile P cr p) 0 (S 0) 4 else runS P (mixTile P cr p) 256 (S 1) 4)
  carry : View.ld (outsAt0 m c t.val t.isLt).2.2.2 (Rect.unit (s := S8x1792) ![0, 0] ![1, 1792] (by decide)) = mat .f32 (rowM (p 255))

variable {m : (ℓ : Loc nD τ sig) → Buf (Elt Ideal) ℓ} {c : Dev nD} {t : Fin cfg0.N} {P : Par} {p : Rows 1792} {cr : Fin 1792 → ℝ} {S : Fin 2 → Heads}

theorem last_row (X : Rows 1792) : k0_pay4 (F := Ideal) (mat3 .f32 X) = mat .f32 (rowM (X 255)) := by
  simp only [k0_pay4, k0_pay2, cast_drop, slice_mat, cast_same]
  refine congrArg (mat FTy.f32) ?_
  ext i j
  have : i = 0 := Subsingleton.elim _ _
  subst this
  simp [sub, rowM]

/-- A later grid point of a batch. -/
theorem done_B (l : Leaves m c t P p) (h0 : ¬ t.val % 16 = 0)
    (hc : View.ld (outsAt0 m c (t.val - 1) (Nat.lt_of_le_of_lt (Nat.sub_le _ _) t.isLt)).2.2.2 (Rect.unit ![0, 0] ![1, 1792] (by decide)) = mat .f32 (rowM cr))
    (hs : (outsAt0 m c (t.val - 1) (Nat.lt_of_le_of_lt (Nat.sub_le _ _) t.isLt)).2.2.1 = st S) : Leaves.Done m c t P p cr S := by
  have H := pay5_mat P cr p
  constructor
  · funext y
    rw [outsAt0_B m c t h0 h0]
    frame_out
    simp only [l.i0, l.i1, l.i2, l.i3, l.i4, l.i5, l.i6, l.i7, l.i8, l.i9, l.i10, l.i11, l.i12, read_unread_whole, hc, hs, ld_st0, ld_st1, own_mask2, strict_mask, incl_mask, eye_tok, eye_ch, ↓tril_ones,
      pay6_mat H, pay7_mat H, pay8_mat H, pay9_mat H, pay10_mat H, pay1113_mat _ _ H, pay14_mat, pay1516_mat, pay17_mat, pay18_mat, pay19_mat,
      pay37_mat, pay38_mat, pay39_mat, pay40_mat, pay41_mat, pay42_mat, pay43_mat,
      k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay1, mm2, sub_mat, split_mul, cat4_rows, pay373_mat,
      cast_drop, cast_same, cast_add, trunc_mat, ext_mat_f, slice_mat, sub_heads, ↓cat2_eq, ↓cat4_eq, cat2_rows, cat2_cols, mm4, mm5, mm6, mm7, mm8, mm9, mm10, mm11, mm12,
      add_mat, mul_mat, select_strict, select_incl, select_own, stacked4, spread_last, gram, rows_diag, mul_cols, cols_mul_rows, rows_tr_mul_rows,
      sub_rows_top, sub_rows_bot, sub_cols_left, sub_cols_right, sub_rows_in, sub_rows_in', sub_full, pack_mul, pack_mul_tr, diag4_mul, pack_add, diag4_add, own_tn, own_add, own_one,
      diag4_scale, cov_last, cov_skip]
    rfl
  · funext y
    rw [outsAt0_B m c t h0 h0]
    frame_out
    simp only [l.i0, l.i1, read_unread_whole, hc, pay8_mat H, pay20_mat]
  · funext y
    rw [outsAt0_B m c t h0 h0]
    frame_out
    simp only [l.i0, l.i1, l.i2, l.i3, l.i4, l.i5, l.i6, l.i7, l.i8, l.i9, l.i10, l.i11, l.i12, read_unread_whole, hc, hs, ld_st0, ld_st1, own_mask2, strict_mask, incl_mask, eye_tok, eye_ch, ↓tril_ones,
      pay6_mat H, pay7_mat H, pay8_mat H, pay9_mat H, pay10_mat H, pay1113_mat _ _ H, pay14_mat, pay1516_mat, pay17_mat, pay18_mat, pay19_mat,
      pay37_mat, pay38_mat, pay39_mat, pay40_mat, pay41_mat, pay42_mat, pay43_mat,
      k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370,
      cast_drop, cast_same, cast_add, trunc_mat, ext_mat_f, slice_mat, sub_heads, ↓cat2_eq, ↓cat4_eq, cat2_rows, cat2_cols, mm4, mm5, mm6, mm7, mm8, mm9, mm10, mm11, mm12,
      add_mat, mul_mat, select_strict, select_incl, select_own, stacked4, spread_last, gram, rows_diag, mul_cols, cols_mul_rows, rows_tr_mul_rows,
      sub_rows_top, sub_rows_bot, sub_cols_left, sub_cols_right, sub_rows_in, sub_rows_in', sub_full, pack_mul, pack_mul_tr, diag4_mul, pack_add, diag4_add, own_tn, own_add, own_one,
      diag4_scale, cov_last, cov_skip]
    rw [canon_st]
    rfl
  · funext x
    show (outsAt0 m c t.val t.isLt).2.2.2 ((Rect.unit (s := S8x1792) ![0, 0] ![1, 1792] (by decide)).emb x) = _
    rw [outsAt0_B m c t h0 h0]
    frame_out
    rw [l.i0, last_row]
    exact View.read_writes_cons_emb _ _ _ _ _ _

/-- The first grid point of a batch. -/
theorem done_A (l : Leaves m c t P p) (h0 : t.val % 16 = 0) : Leaves.Done m c t P p 0 0 := by
  have H := pay5_mat P 0 p
  constructor
  · funext y
    rw [outsAt0_A m c t h0 h0]
    frame_out
    simp only [l.i0, l.i1, l.i2, l.i3, l.i4, l.i5, l.i6, l.i7, l.i8, l.i9, l.i10, l.i11, l.i12, fill_st, fill_row, row_fill, st_fill0, st_fill1, own_mask2, strict_mask, incl_mask, eye_tok, eye_ch, ↓tril_ones,
      pay6_mat H, pay7_mat H, pay8_mat H, pay9_mat H, pay10_mat H, pay1113_mat _ _ H, pay14_mat, pay1516_mat, pay17_mat, pay18_mat, pay19_mat,
      pay37_mat, pay38_mat, pay39_mat, pay40_mat, pay41_mat, pay42_mat, pay43_mat,
      k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay1, mm2, sub_mat, split_mul, cat4_rows, pay373_mat,
      cast_drop, cast_same, cast_add, trunc_mat, ext_mat_f, slice_mat, sub_heads, ↓cat2_eq, ↓cat4_eq, cat2_rows, cat2_cols, mm4, mm5, mm6, mm7, mm8, mm9, mm10, mm11, mm12,
      add_mat, mul_mat, select_strict, select_incl, select_own, stacked4, spread_last, gram, rows_diag, mul_cols, cols_mul_rows, rows_tr_mul_rows,
      sub_rows_top, sub_rows_bot, sub_cols_left, sub_cols_right, sub_rows_in, sub_rows_in', sub_full, pack_mul, pack_mul_tr, diag4_mul, pack_add, diag4_add, own_tn, own_add, own_one,
      diag4_scale, cov_last, cov_skip]
    rfl
  · funext y
    rw [outsAt0_A m c t h0 h0]
    frame_out
    simp only [l.i0, l.i1, fill_row, row_fill, pay8_mat H, pay20_mat]
  · funext y
    rw [outsAt0_A m c t h0 h0]
    frame_out
    simp only [l.i0, l.i1, l.i2, l.i3, l.i4, l.i5, l.i6, l.i7, l.i8, l.i9, l.i10, l.i11, l.i12, fill_st, fill_row, row_fill, st_fill0, st_fill1, own_mask2, strict_mask, incl_mask, eye_tok, eye_ch, ↓tril_ones,
      pay6_mat H, pay7_mat H, pay8_mat H, pay9_mat H, pay10_mat H, pay1113_mat _ _ H, pay14_mat, pay1516_mat, pay17_mat, pay18_mat, pay19_mat,
      pay37_mat, pay38_mat, pay39_mat, pay40_mat, pay41_mat, pay42_mat, pay43_mat,
      k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370,
      cast_drop, cast_same, cast_add, trunc_mat, ext_mat_f, slice_mat, sub_heads, ↓cat2_eq, ↓cat4_eq, cat2_rows, cat2_cols, mm4, mm5, mm6, mm7, mm8, mm9, mm10, mm11, mm12,
      add_mat, mul_mat, select_strict, select_incl, select_own, stacked4, spread_last, gram, rows_diag, mul_cols, cols_mul_rows, rows_tr_mul_rows,
      sub_rows_top, sub_rows_bot, sub_cols_left, sub_cols_right, sub_rows_in, sub_rows_in', sub_full, pack_mul, pack_mul_tr, diag4_mul, pack_add, diag4_add, own_tn, own_add, own_one,
      diag4_scale, cov_last, cov_skip]
    rw [canon_st]
    rfl
  · funext x
    show (outsAt0 m c t.val t.isLt).2.2.2 ((Rect.unit (s := S8x1792) ![0, 0] ![1, 1792] (by decide)).emb x) = _
    rw [outsAt0_A m c t h0 h0]
    frame_out
    rw [l.i0, last_row]
    exact View.canon_cons_emb _ _ _ _

end Cert.Rwkv

end
-- ==== Proof.RwkvHost.lean ====
/- What the host hands to the recurrence's kernel: the weights as rows, the padded low-rank weights, the heads' mask. -/
module

public import proofs.«01_k».proof.Proof.RwkvWhole
public import proofs.«01_k».proof.Proof.RwkvBody
public import proofs.«01_k».proof.Proof.Gen.KernelIdeal.Value
public import Idealize.ShloMosaic.Lib.Pipeline.ValueKit
public import Idealize.ShloMosaic.Lib.Routing.OpsSet
public import Idealize.ShloMosaic.Lib.Routing.OpsPair
public import Idealize.ShloMosaic.Lib.Routing.Words

@[expose] public section

set_option maxRecDepth 16384

noncomputable section

namespace Cert.Rwkv

open Cert.KernelIdeal Cert.KernelIdeal.Gen Cert.Ops Matrix
open Idealize.ShloMosaic hiding ix1 ix2 ix3 eq_ix3 eq_ix2
open Idealize.ShloMosaic.TcCoe Idealize.SL.Sem Idealize.ShloMosaic.ValueIdx
open Idealize.ShloMosaic.Pipeline (Dat)

/-- Where an update row lands: below the row the start word names. -/
theorem lands (idx : IVec S1 32) (a : Fin 64) (b : Fin 512) (r : Fin 128) (c : Fin 512) :
    scatter_S128x512_S1_S64x512_01_n_0_0.resultIdx? (ix2 a b) idx = some (ix2 r c)
      ↔ (idx (ix1 0)).toInt + (a.val : ℤ) = r.val ∧ b.val = c.val := by
  have s0 : scatter_S128x512_S1_S64x512_01_n_0_0.start (ix2 a b) idx 0 = (idx (ix1 0)).toInt := by
    unfold ScatterDims.start
    rw [dif_pos (by decide)]
    exact congrArg (fun k => (idx k).toInt) (funext fun d => Fin.ext (by match d with | ⟨0, _⟩ => rfl))
  have s1 : scatter_S128x512_S1_S64x512_01_n_0_0.start (ix2 a b) idx 1 = 0 := by
    unfold ScatterDims.start
    exact dif_neg (by decide)
  have w0 : scatter_S128x512_S1_S64x512_01_n_0_0.window (ix2 a b) 0 = a.val := rfl
  have w1 : scatter_S128x512_S1_S64x512_01_n_0_0.window (ix2 a b) 1 = b.val := rfl
  refine (Routing.resultIdx?_ix2 _ _ _ r c).trans ?_
  rw [s0, s1, w0, w1]
  omega

/-- 64 rows written into 128 from a row on. -/
theorem scatter_at {α : Type} (x : S128x512.Idx → α) (idx : IVec S1 32) (u : S64x512.Idx → α) (o : ℕ) (ho : (idx (ix1 0)).toInt = o)
    (r : Fin 128) (c : Fin 512) :
    Host.scatter scatter_S128x512_S1_S64x512_01_n_0_0 (fun _ b => b) x idx u (ix2 r c)
      = if h : o ≤ r.val ∧ r.val < o + 64 then u (ix2 ⟨r.val - o, by omega⟩ c) else x (ix2 r c) := by
  by_cases h : o ≤ r.val ∧ r.val < o + 64
  · rw [dif_pos h]
    refine Routing.scatter_set_hit _ x idx u _ _ (fun k hk => ?_) (ix2 ⟨r.val - o, by omega⟩ c) ((lands idx _ _ r c).2 ⟨?_, rfl⟩)
    · rw [eq_ix2 k] at hk ⊢
      have q := (lands idx _ _ r c).1 hk
      refine congrArg₂ (fun a b => u (ix2 a b)) (Fin.ext ?_) (Fin.ext q.2)
      show (k 0).val = r.val - o
      omega
    · rw [ho]
      show (o : ℤ) + ((r.val - o : ℕ) : ℤ) = r.val
      omega
  · rw [dif_neg h]
    refine Routing.scatter_set_miss _ x idx u _ fun k hk => h ?_
    rw [eq_ix2 k] at hk
    have q := (lands idx _ _ r c).1 hk
    have hlt : (k 0).val < 64 := (k 0).isLt
    omega

/-- The head of each channel, as a word. -/
def headWord : IVec S512 32 := Routing.pyDiv bcast_S_S512 (iotaInDim S512 32 0) (constantI S_ 32 64#32)
/-- The heads down the rows. -/
def headCol : IVec S512x512 32 := broadcastInDim S512x512 ![0, 1] bcast_S512x1_S512x512_0_1 (broadcastInDim S512x1 ![0] bcast_S512_S512x1_0 headWord)
/-- The heads along the columns. -/
def headRow : IVec S512x512 32 := broadcastInDim S512x512 ![0, 1] bcast_S1x512_S512x512_0_1 (broadcastInDim S1x512 ![1] bcast_S512_S1x512_1 headWord)

theorem headWord_at (i : Fin 512) : headWord (ix1 i) = BitVec.ofNat 32 (i.val / 64) :=
  Routing.pyDiv_ap bcast_S_S512 _ _ (ix1 i) (a := i.val) (b := 64) rfl rfl (by omega) (by omega) (by omega)
theorem headCol_at (i j : Fin 512) : headCol (ix2 i j) = BitVec.ofNat 32 (i.val / 64) := by
  refine Eq.trans (congrArg headWord ?_) (headWord_at i)
  exact funext fun a => Fin.ext (by match a with | ⟨0, _⟩ => rfl)
theorem headRow_at (i j : Fin 512) : headRow (ix2 i j) = BitVec.ofNat 32 (j.val / 64) := by
  refine Eq.trans (congrArg headWord ?_) (headWord_at j)
  exact funext fun a => Fin.ext (by match a with | ⟨0, _⟩ => rfl)
theorem uitofp_ofBool (b : Bool) : (((BitVec.ofBool b).toNat : ℝ) : EReal) = if b then 1 else 0 := by
  cases b <;> simp

theorem trunc_at {s : Shape} {φ ψ : FTy} (v : FVec Ideal s φ) (h : ψ.bits < φ.bits) (ix : s.Idx) :
    (truncf ψ v h : FVec Ideal s ψ) ix = v ix := rfl

variable (m : (ℓ : Loc nD τ sig) → Buf (Elt Ideal) ℓ) (c : Dev nD)

/-- The weights of the arguments. -/
abbrev parM : Par := parOf (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10)) (m ((c : Thread nD τ).loc main_arg11))

/-- The token rows of the arguments. -/
abbrev rowsM : Fin 8 → ℕ → Fin 1792 → ℝ := rowsOf (m ((c : Thread nD τ).loc main_arg0))

theorem host1 (k : Fin 1792) : V m c main_v8 (ix2 0 k) = m ((c : Thread nD τ).loc main_arg1) (ix1 k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact Ops.as_row (a := 1792) _ shapeCasts_S1792_S1x1792 0 k
theorem host2 (k : Fin 512) : V m c main_v9 (ix2 0 k) = m ((c : Thread nD τ).loc main_arg2) (ix1 k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact Ops.as_row (a := 512) _ shapeCasts_S512_S1x512 0 k
theorem host4 (k : Fin 512) : V m c main_v10 (ix2 0 k) = m ((c : Thread nD τ).loc main_arg4) (ix1 k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact Ops.as_row (a := 512) _ shapeCasts_S512_S1x512 0 k
theorem host7 (k : Fin 512) : V m c main_v12 (ix2 0 k) = m ((c : Thread nD τ).loc main_arg7) (ix1 k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact Ops.as_row (a := 512) _ shapeCasts_S512_S1x512 0 k
theorem host8 (k : Fin 512) : V m c main_v13 (ix2 0 k) = m ((c : Thread nD τ).loc main_arg8) (ix1 k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact Ops.as_row (a := 512) _ shapeCasts_S512_S1x512 0 k
theorem host10 (k : Fin 512) : V m c main_v15 (ix2 0 k) = m ((c : Thread nD τ).loc main_arg10) (ix1 k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact Ops.as_row (a := 512) _ shapeCasts_S512_S1x512 0 k
theorem host11 (k : Fin 512) : V m c main_v16 (ix2 0 k) = m ((c : Thread nD τ).loc main_arg11) (ix1 k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  exact Ops.as_row (a := 512) _ shapeCasts_S512_S1x512 0 k
theorem host9 (k : Fin 512) : V m c main_v14 (ix2 0 k) = m ((c : Thread nD τ).loc main_arg9) (ix2 ⟨k.val / 64, by omega⟩ ⟨k.val % 64, by omega⟩) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  refine shapeCast_apply _ shapeCasts_S8x64_S1x512 (ix2 0 k) _ ?_
  rw [Shape.rowMajor_val_two, Shape.rowMajor_val_two]
  show k.val / 64 * 64 + k.val % 64 = 0 * 512 + k.val
  omega
theorem host6 (r : Fin 128) (k : Fin 512) : V m c main_v11 (ix2 r k) = m ((c : Thread nD τ).loc main_arg6) (ix2 r k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  rfl
theorem host3 (r : Fin 128) (k : Fin 512) : V m c main_v3 (ix2 r k)
    = if h : r.val < 64 then m ((c : Thread nD τ).loc main_arg3) (ix2 ⟨r.val, h⟩ k) else (0 : EReal) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  rw [trunc_at, scatter_at _ _ _ 0 rfl]
  by_cases h : r.val < 64
  · rw [dif_pos h, dif_pos ⟨Nat.zero_le _, by omega⟩]; rfl
  · rw [dif_neg h, dif_neg fun q => h (by omega)]
    exact Ideal.ofBits_zero_f32
theorem host5 (r : Fin 128) (k : Fin 512) : V m c main_v7 (ix2 r k)
    = if h : r.val < 64 then (0 : EReal) else m ((c : Thread nD τ).loc main_arg5) (ix2 ⟨r.val - 64, by omega⟩ k) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  rw [trunc_at, scatter_at _ _ _ 64 rfl]
  by_cases h : r.val < 64
  · rw [dif_pos h, dif_neg fun q => by omega]
    exact Ideal.ofBits_zero_f32
  · rw [dif_neg h, dif_pos ⟨by omega, by omega⟩]
theorem host12 (i j : Fin 512) : V m c main_v24 (ix2 i j) = if i.val / 64 = j.val / 64 then (1 : EReal) else 0 := by
  show StableHlo.after (List.flatten [hostOps0, hostOps0_1, hostOps0_2]) _ _ _ = _
  simp only [hostOps0, hostOps0_1, hostOps0_2, List.flatten_cons, List.flatten_nil, List.append_nil, List.cons_append, List.nil_append]
  after_results
  change (uitofp .bf16 (cmpi .eq (headCol) (headRow)) : FVec Ideal S512x512 .bf16) (ix2 i j) = _
  show (((IntOp.cmpi .eq (headCol (ix2 i j)) (headRow (ix2 i j))).toNat : ℝ) : EReal) = _
  rw [headCol_at, headRow_at, WordCmp.cmpi_eq_ofNat (by omega) (by omega), uitofp_ofBool]
  by_cases h : i.val / 64 = j.val / 64 <;> simp [h]

end Cert.Rwkv

end
-- ==== Proof.RwkvTile.lean ====
/- One tile of 256 tokens over the real numbers: the kernel's blocks leave the state the token recurrence leaves, and read
   what it reads. -/
module

public import proofs.«01_k».proof.Proof.RwkvStep

@[expose] public section

set_option maxRecDepth 16384

noncomputable section

namespace Cert.Rwkv

open Matrix

/-- The head of a packed head. -/
def hd (q : Fin 2) (h : Fin 4) : Fin 8 := ⟨4 * q.val + h.val, by omega⟩

theorem heads_at (k : Fin 4) (q : Fin 2) (M : Rows 512) (h : Fin 4) (t l : Fin 64) :
    heads (64 * k.val) (256 * q.val) M h t l = M (at4 k t) (chan (hd q h) l) := by
  have hc : 64 * k.val + t.val < 256 ∧ 256 * q.val + (at4 h l).val < 512 := by
    have : (at4 h l).val < 256 := (at4 h l).isLt
    omega
  simp only [heads, sub, Matrix.of_apply, dif_pos hc]
  refine congrArg₂ M (Fin.ext rfl) (Fin.ext ?_)
  show 256 * q.val + (64 * h.val + l.val) = 64 * (4 * q.val + h.val) + l.val
  omega

/-- A sum over the first tokens of a block. -/
theorem sum_first (f : ℕ → ℝ) (t : Fin 64) :
    ∑ l : Fin 64, (if l ≤ t then f l.val else 0) = ∑ s ∈ Finset.range (t.val + 1), f s := by
  have e : ∀ l : Fin 64, (if l ≤ t then f l.val else 0) = (fun n => if n < t.val + 1 then f n else 0) l.val := fun l => by
    by_cases h : l ≤ t
    · have h' : l.val < t.val + 1 := Nat.lt_succ_of_le h
      simp only [if_pos h, if_pos h']
    · have h' : ¬ l.val < t.val + 1 := fun h' => h (Nat.le_of_lt_succ h')
      simp only [if_neg h, if_neg h']
  rw [Finset.sum_congr rfl fun l _ => e l, Fin.sum_univ_eq_sum_range (fun n => if n < t.val + 1 then f n else 0) 64]
  rw [← Finset.sum_subset (Finset.range_subset_range.mpr (show t.val + 1 ≤ 64 from t.isLt))]
  · exact Finset.sum_congr rfl fun n hn => if_pos (Finset.mem_range.mp hn)
  · intro n _ hn
    exact if_neg fun h => hn (Finset.mem_range.mpr h)

section Tile
variable (P : Par) (x : ℕ → Fin 1792 → ℝ)

/-- The decay's logarithm summed over the tokens of a block before a token. -/
def lsum (n i : ℕ) (j : Fin 512) : ℝ := ∑ s ∈ Finset.range i, P.ld (x (n + s)) j

theorem lsum_succ (n i : ℕ) (j : Fin 512) : lsum P x n (i + 1) j = lsum P x n i j + P.ld (x (n + i)) j := Finset.sum_range_succ _ _

/-- The state with the block's decay taken out. -/
def scaled (H : Fin 8) (n i : ℕ) : Mat := Matrix.of fun p j => stateAt P x H (n + i) p j * Real.exp (-lsum P x n i (chan H j))

/-- The scaled in-context rows. -/
def rowA (H : Fin 8) (n : ℕ) : Mat := Matrix.of fun i l => -P.kn (x (n + i.val)) (chan H l) * Real.exp (lsum P x n i.val (chan H l))
/-- The scaled receptances. -/
def rowR (H : Fin 8) (n : ℕ) : Mat := Matrix.of fun i l => rOf (x (n + i.val)) (chan H l) * Real.exp (lsum P x n (i.val + 1) (chan H l))
/-- The scaled rows put back. -/
def rowB (H : Fin 8) (n : ℕ) : Mat := Matrix.of fun i l => P.ba (x (n + i.val)) (chan H l) * Real.exp (-lsum P x n (i.val + 1) (chan H l))
/-- The scaled keys. -/
def rowK (H : Fin 8) (n : ℕ) : Mat := Matrix.of fun i l => P.key (x (n + i.val)) (chan H l) * Real.exp (-lsum P x n (i.val + 1) (chan H l))
/-- The values. -/
def rowV (H : Fin 8) (n : ℕ) : Mat := Matrix.of fun i l => vOf (x (n + i.val)) (chan H l)

/-- The scaled state follows the undecayed recurrence. -/
theorem scaled_steps (H : Fin 8) (n : ℕ) : Steps (scaled P x H n) (rowA P x H n) (rowB P x H n) (rowK P x H n) (rowV x H n) := by
  intro i p j
  have e : ∀ l, scaled P x H n i.val p l * rowA P x H n i l = stateAt P x H (n + i.val) p l * -P.kn (x (n + i.val)) (chan H l) := fun l => by
    simp only [scaled, rowA, Matrix.of_apply]
    have := Real.exp_add (-lsum P x n i.val (chan H l)) (lsum P x n i.val (chan H l))
    rw [neg_add_cancel, Real.exp_zero] at this
    linear_combination -(stateAt P x H (n + i.val) p l * -P.kn (x (n + i.val)) (chan H l)) * this
  rw [Finset.sum_congr rfl fun l _ => e l]
  simp only [scaled, rowB, rowK, rowV, Matrix.of_apply, ← add_assoc n, stateAt]
  have h1 : Real.exp (P.ld (x (n + i.val)) (chan H j)) * Real.exp (-lsum P x n (i.val + 1) (chan H j)) = Real.exp (-lsum P x n i.val (chan H j)) := by
    rw [← Real.exp_add, lsum_succ]
    congr 1
    ring
  linear_combination (stateAt P x H (n + i.val) p j) * h1

theorem scaled_zero (H : Fin 8) (n : ℕ) : scaled P x H n 0 = stateAt P x H n := by
  ext p j
  simp [scaled, lsum]

variable {X : Rows 1792} {n0 : ℕ} (hX : ∀ i : Fin 256, X i = x (n0 + i.val)) (k : Fin 4) (q : Fin 2) (h : Fin 4)
include hX

theorem row_at (t : Fin 64) : X (at4 k t) = x (n0 + 64 * k.val + t.val) := by
  rw [hX, add_assoc]
  rfl

theorem cum_at (t : Fin 64) (j : Fin 512) : cumD P X (at4 k t) j = lsum P x (n0 + 64 * k.val) (t.val + 1) j := by
  simp only [cumD, cumM, Matrix.mul_apply, sum_cols, trilM, Matrix.of_apply, blk_at4]
  rw [Finset.sum_eq_single k]
  · rw [lsum, ← sum_first (fun s => P.ld (x (n0 + 64 * k.val + s)) j) t]
    refine Finset.sum_congr rfl fun l _ => ?_
    have hle : at4 k l ≤ at4 k t ↔ l ≤ t := by
      show 64 * k.val + l.val ≤ 64 * k.val + t.val ↔ l.val ≤ t.val
      omega
    simp only [hle, and_true, ite_mul, one_mul, zero_mul, tile, Matrix.of_apply, row_at x hX k l]
  · intro b _ hb
    refine Finset.sum_eq_zero fun l _ => ?_
    rw [if_neg fun h => hb h.2.symm, zero_mul]
  · intro hk; exact absurd (Finset.mem_univ k) hk

theorem blockA : heads (64 * k.val) (256 * q.val) (colA P X) h = rowA P x (hd q h) (n0 + 64 * k.val) := by
  ext t l
  rw [heads_at]
  simp only [colA, had, Matrix.of_apply, Matrix.map_apply, Matrix.sub_apply, Matrix.neg_apply, rowA, cum_at P x hX k, tile, row_at x hX k, lsum_succ]
  congr 2
  ring
theorem blockR : heads (64 * k.val) (256 * q.val) (colR P X) h = rowR P x (hd q h) (n0 + 64 * k.val) := by
  ext t l
  rw [heads_at]
  simp only [colR, had, Matrix.of_apply, Matrix.map_apply, rowR, cum_at P x hX k, tile, row_at x hX k]
theorem blockB : heads (64 * k.val) (256 * q.val) (colB P X) h = rowB P x (hd q h) (n0 + 64 * k.val) := by
  ext t l
  rw [heads_at]
  simp only [colB, had, Matrix.of_apply, Matrix.map_apply, Matrix.neg_apply, rowB, cum_at P x hX k, tile, row_at x hX k]
theorem blockK : heads (64 * k.val) (256 * q.val) (colK P X) h = rowK P x (hd q h) (n0 + 64 * k.val) := by
  ext t l
  rw [heads_at]
  simp only [colK, had, Matrix.of_apply, Matrix.map_apply, Matrix.neg_apply, rowK, cum_at P x hX k, tile, row_at x hX k]
theorem blockV : heads (64 * k.val) (256 * q.val) (tile vOf X) h = rowV x (hd q h) (n0 + 64 * k.val) := by
  ext t l
  rw [heads_at]
  simp only [rowV, Matrix.of_apply, tile, row_at x hX k]

theorem lastW_at (j : Fin 64) : lastW P X (64 * k.val) (256 * q.val) 0 (at4 h j) = Real.exp (lsum P x (n0 + 64 * k.val) 64 (chan (hd q h) j)) := by
  have hc : 64 * k.val + 63 + (0 : Fin 1).val < 256 ∧ 256 * q.val + (at4 h j).val < 512 := by
    have : (at4 h j).val < 256 := (at4 h j).isLt
    have : (0 : Fin 1).val = 0 := rfl
    omega
  simp only [lastW, sub, Matrix.of_apply, dif_pos hc, Matrix.map_apply]
  refine (congrArg Real.exp (congrArg₂ (cumD P X) (Fin.ext rfl) (Fin.ext ?_))).trans (congrArg Real.exp (cum_at P x hX k 63 (chan (hd q h) j)))
  show 256 * q.val + (64 * h.val + j.val) = 64 * (4 * q.val + h.val) + j.val
  omega

/-- A block of the kernel is 64 tokens of the recurrence. -/
theorem next_at (S : Heads) (hS : S h = stateAt P x (hd q h) (n0 + 64 * k.val)) :
    nextS P X (64 * k.val) (256 * q.val) S h = stateAt P x (hd q h) (n0 + 64 * k.val + 64) := by
  set n := n0 + 64 * k.val with hn
  have hl := block_last (scaled_steps P x (hd q h) n)
  rw [scaled_zero] at hl
  have e : nextS P X (64 * k.val) (256 * q.val) S h
      = Matrix.of fun p j => (stateAt P x (hd q h) n * pmat (rowA P x (hd q h) n) (rowB P x (hd q h) n)
        + qmat (rowA P x (hd q h) n) (rowB P x (hd q h) n) (rowK P x (hd q h) n) (rowV x (hd q h) n)) p j * Real.exp (lsum P x n 64 (chan (hd q h) j)) := by
    show S h * Matrix.of (fun i j => pmat (heads (64 * k.val) (256 * q.val) (colA P X) h) (heads (64 * k.val) (256 * q.val) (colB P X) h) i j * lastW P X (64 * k.val) (256 * q.val) 0 (at4 h j))
        + Matrix.of (fun i j => qmat (heads (64 * k.val) (256 * q.val) (colA P X) h) (heads (64 * k.val) (256 * q.val) (colB P X) h) (heads (64 * k.val) (256 * q.val) (colK P X) h)
          (heads (64 * k.val) (256 * q.val) (tile vOf X) h) i j * lastW P X (64 * k.val) (256 * q.val) 0 (at4 h j)) = _
    rw [blockA P x hX, blockB P x hX, blockK P x hX, blockV x hX, hS]
    ext p j
    simp only [Matrix.add_apply, Matrix.mul_apply, Matrix.of_apply, lastW_at P x hX, add_mul, Finset.sum_mul, mul_assoc]
    rfl
  rw [e, ← hl]
  ext p j
  simp only [Matrix.of_apply, scaled]
  rw [mul_assoc, ← Real.exp_add, neg_add_cancel, Real.exp_zero, mul_one]

/-- A block's read-outs are the recurrence's. -/
theorem read_at (S : Heads) (hS : S h = stateAt P x (hd q h) (n0 + 64 * k.val)) (i p : Fin 64) :
    readS P X (64 * k.val) (256 * q.val) S h i p
      = ∑ l, stateAt P x (hd q h) (n0 + 64 * k.val + i.val + 1) p l * rOf (x (n0 + 64 * k.val + i.val)) (chan (hd q h) l) := by
  set n := n0 + 64 * k.val with hn
  have hl := block_read (rowR P x (hd q h) n) (scaled_steps P x (hd q h) n) i p
  rw [scaled_zero] at hl
  have e : readS P X (64 * k.val) (256 * q.val) S h
      = rhat (rowA P x (hd q h) n) (rowR P x (hd q h) n) (rowB P x (hd q h) n) * (stateAt P x (hd q h) n)ᵀ
        + yown (rowA P x (hd q h) n) (rowR P x (hd q h) n) (rowB P x (hd q h) n) (rowK P x (hd q h) n) (rowV x (hd q h) n) := by
    rw [← blockA P x hX, ← blockB P x hX, ← blockK P x hX, ← blockV x hX, ← blockR P x hX, ← hS]
    rfl
  rw [e, ← hl]
  refine Finset.sum_congr rfl fun l _ => ?_
  simp only [scaled, rowR, Matrix.of_apply, ← add_assoc n]
  have := Real.exp_add (-lsum P x n (i.val + 1) (chan (hd q h) l)) (lsum P x n (i.val + 1) (chan (hd q h) l))
  rw [neg_add_cancel, Real.exp_zero] at this
  linear_combination -(stateAt P x (hd q h) (n + i.val + 1) p l * rOf (x (n + i.val)) (chan (hd q h) l)) * this

/-- The state along a tile's blocks. -/
theorem run_at (S : Heads) (hS : ∀ h, S h = stateAt P x (hd q h) n0) : ∀ b : ℕ, b ≤ 4 → ∀ h,
    runS P X (256 * q.val) S b h = stateAt P x (hd q h) (n0 + 64 * b)
  | 0, _, h => hS h
  | b + 1, hb, h => by
    have e := next_at P x hX ⟨b, hb⟩ q h (runS P X (256 * q.val) S b) (run_at S hS b (by omega) h)
    exact e.trans (by rw [mul_add, mul_one, add_assoc])

/-- A tile's read-outs are the recurrence's. -/
theorem readY_at (S : Fin 2 → Heads) (hS : ∀ q h, S q h = stateAt P x (hd q h) n0) (i : Fin 256) (j : Fin 512) :
    readY P X S i j = readAt P x (n0 + i.val) j := by
  have hi : n0 + i.val = n0 + 64 * (blk i).val + (lane i).val := by
    show n0 + i.val = n0 + 64 * (i.val / 64) + i.val % 64
    omega
  have part : ∀ (k : Fin 4), blk i = k → cols 512 (pack (readS P X (64 * k.val) 0 (runS P X 0 (S 0) k.val)))
      (pack (readS P X (64 * k.val) 256 (runS P X 256 (S 1) k.val))) (lane i) j = readAt P x (n0 + i.val) j := by
    intro k hk
    have e : ∀ (q : Fin 2) (b : Fin 256), 256 * q.val + b.val = j.val →
        pack (readS P X (64 * k.val) (256 * q.val) (runS P X (256 * q.val) (S q) k.val)) (lane i) b = readAt P x (n0 + i.val) j := by
      intro q b hb
      have hh : (⟨j.val / 64, by omega⟩ : Fin 8) = hd q (blk b) := Fin.ext (by
        show j.val / 64 = 4 * q.val + b.val / 64
        omega)
      have hl : (⟨j.val % 64, by omega⟩ : Fin 64) = lane b := Fin.ext (by
        show j.val % 64 = b.val % 64
        omega)
      have r := read_at P x hX k q (blk b) (runS P X (256 * q.val) (S q) k.val)
        (run_at P x hX q (S q) (hS q) k.val (by omega) (blk b)) (lane i) (lane b)
      refine r.trans ?_
      rw [readAt, hh, hl, hi, hk]
    by_cases hj : j.val < 256
    · have r := e 0 ⟨j.val, hj⟩ (by show 256 * 0 + j.val = j.val; omega)
      simp only [cols, Matrix.of_apply, dif_pos hj]
      exact r
    · have hj' : j.val - 256 < 256 := by omega
      have r := e 1 ⟨j.val - 256, hj'⟩ (by show 256 * 1 + (j.val - 256) = j.val; omega)
      simp only [cols, Matrix.of_apply, dif_neg hj, dif_pos hj']
      exact r
  unfold readY tower
  rw [Matrix.of_apply]
  match hk : blk i with
  | ⟨0, _⟩ => exact part 0 hk
  | ⟨1, _⟩ => exact part 1 hk
  | ⟨2, _⟩ => exact part 2 hk
  | ⟨3, _⟩ => exact part 3 hk

end Tile

end Cert.Rwkv

end
-- ==== Proof.RwkvArray.lean ====
/- The recurrence's kernel: after the run its two result arrays are the block's output and values of every token row. -/
module

public import proofs.«01_k».proof.Proof.RwkvHost
public import proofs.«01_k».proof.Proof.RwkvTile

@[expose] public section

set_option maxRecDepth 16384

noncomputable section

namespace Cert.Rwkv

open Cert.KernelIdeal Cert.KernelIdeal.Gen Cert.Ops Matrix
open Idealize.ShloMosaic hiding ix1 ix2 ix3 eq_ix3 eq_ix2
open Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- Every argument holds real numbers. -/
structure RealArgs : Prop where
  h0 : Fin? (s := S8x4096x1792) (m ((c : Thread nD τ).loc main_arg0))
  h1 : Fin? (s := S1792) (m ((c : Thread nD τ).loc main_arg1))
  h2 : Fin? (s := S512) (m ((c : Thread nD τ).loc main_arg2))
  h3 : Fin? (s := S64x512) (m ((c : Thread nD τ).loc main_arg3))
  h4 : Fin? (s := S512) (m ((c : Thread nD τ).loc main_arg4))
  h5 : Fin? (s := S64x512) (m ((c : Thread nD τ).loc main_arg5))
  h6 : Fin? (s := S128x512) (m ((c : Thread nD τ).loc main_arg6))
  h7 : Fin? (s := S512) (m ((c : Thread nD τ).loc main_arg7))
  h8 : Fin? (s := S512) (m ((c : Thread nD τ).loc main_arg8))
  h9 : Fin? (s := S8x64) (m ((c : Thread nD τ).loc main_arg9))
  h10 : Fin? (s := S512) (m ((c : Thread nD τ).loc main_arg10))
  h11 : Fin? (s := S512) (m ((c : Thread nD τ).loc main_arg11))

/-- Which block each window holds at a grid point. -/
theorem idx : ∀ t : Fin cfg0.N, win0_0.index t = ![t.val / 16, t.val % 16, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0]
    ∧ win0_13.index t = ![t.val / 16, t.val % 16, 0] ∧ win0_14.index t = ![t.val / 16, t.val % 16, 0] ∧ t.val / 16 < 8 :=
  (by decide +kernel : ∀ t : Fin grid0.N, _)

/-- The sequence of a grid point. -/
def seqAt (t : Fin cfg0.N) : Fin 8 := ⟨t.val / 16, by have := idx t; omega⟩

/-- The token rows of a grid point. -/
def pAt (t : Fin cfg0.N) : Rows 1792 := Matrix.of fun i => rowsM m c (seqAt t) (256 * (t.val % 16) + i.val)

/-- The token row before a grid point's. -/
def cAt (t : Fin cfg0.N) : Fin 1792 → ℝ := if t.val % 16 = 0 then 0 else rowsM m c (seqAt t) (256 * (t.val % 16) - 1)

/-- The mixed rows of a grid point's sequence. -/
def xAt (t : Fin cfg0.N) : ℕ → Fin 1792 → ℝ := mixed (parM m c) (rowsM m c (seqAt t))

/-- The state before a grid point. -/
def sAt (t : Fin cfg0.N) : Fin 2 → Heads := fun q h => stateAt (parM m c) (xAt m c t) (hd q h) (256 * (t.val % 16))

/-- The token rows' block. -/
theorem leaf0 (r : RealArgs m c) (t : Fin cfg0.N) : iblk m c 0 t = mat3 .f32 (pAt m c t) := by
  funext ix
  rw [eq_ix3 ix]
  have e : iblk m c 0 t (ix3 (ix 0) (ix 1) (ix 2)) = m ((c : Thread nD τ).loc main_arg0)
      (ix3 (seqAt t) ⟨256 * (t.val % 16) + (ix 1).val, by have : (ix 1).val < 256 := (ix 1).isLt; omega⟩ (ix 2)) := by
    have : (ix 0).val = 0 := by have : (ix 0).val < 1 := (ix 0).isLt; omega
    blk_ext [iblk, V_main_arg0 m c, idx t]
    · rfl
    · show t.val % 16 * 256 + (ix 1).val = 256 * (t.val % 16) + (ix 1).val
      omega
  refine e.trans ((r.h0 _).trans ?_)
  have h : 256 * (t.val % 16) + (ix 1).val < 4096 := by have : (ix 1).val < 256 := (ix 1).isLt; omega
  show _ = ((rowsM m c (seqAt t) (256 * (t.val % 16) + (ix 1).val) (ix 2) : ℝ) : EReal)
  unfold rowsM rowsOf
  rw [dif_pos h]
theorem leaf1 (r : RealArgs m c) (t : Fin cfg0.N) : iblk m c 1 t = mat .f32 (rowM (parM m c).mu) := ext_mat fun i j => by
  rw [show i = 0 from Subsingleton.elim _ _]
  refine Eq.trans ?_ ((host1 m c j).trans (r.h1 _))
  blk_ext [iblk, idx t]
theorem leaf2 (r : RealArgs m c) (t : Fin cfg0.N) : iblk m c 2 t = mat .f32 (rowM (parM m c).w0) := ext_mat fun i j => by
  rw [show i = 0 from Subsingleton.elim _ _]
  refine Eq.trans ?_ ((host2 m c j).trans (r.h2 _))
  blk_ext [iblk, idx t]
theorem leaf4 (r : RealArgs m c) (t : Fin cfg0.N) : iblk m c 4 t = mat .f32 (rowM (parM m c).a0) := ext_mat fun i j => by
  rw [show i = 0 from Subsingleton.elim _ _]
  refine Eq.trans ?_ ((host4 m c j).trans (r.h4 _))
  blk_ext [iblk, idx t]
theorem leaf7 (r : RealArgs m c) (t : Fin cfg0.N) : iblk m c 7 t = mat .f32 (rowM (parM m c).kk) := ext_mat fun i j => by
  rw [show i = 0 from Subsingleton.elim _ _]
  refine Eq.trans ?_ ((host7 m c j).trans (r.h7 _))
  blk_ext [iblk, idx t]
theorem leaf8 (r : RealArgs m c) (t : Fin cfg0.N) : iblk m c 8 t = mat .f32 (rowM (parM m c).ka) := ext_mat fun i j => by
  rw [show i = 0 from Subsingleton.elim _ _]
  refine Eq.trans ?_ ((host8 m c j).trans (r.h8 _))
  blk_ext [iblk, idx t]
theorem leaf9 (r : RealArgs m c) (t : Fin cfg0.N) : iblk m c 9 t = mat .f32 (rowM (parM m c).rk) := ext_mat fun i j => by
  rw [show i = 0 from Subsingleton.elim _ _]
  refine Eq.trans ?_ ((host9 m c j).trans (r.h9 _))
  blk_ext [iblk, idx t]
theorem leaf10 (r : RealArgs m c) (t : Fin cfg0.N) : iblk m c 10 t = mat .f32 (rowM (parM m c).lg) := ext_mat fun i j => by
  rw [show i = 0 from Subsingleton.elim _ _]
  refine Eq.trans ?_ ((host10 m c j).trans (r.h10 _))
  blk_ext [iblk, idx t]
theorem leaf11 (r : RealArgs m c) (t : Fin cfg0.N) : iblk m c 11 t = mat .f32 (rowM (parM m c).lb) := ext_mat fun i j => by
  rw [show i = 0 from Subsingleton.elim _ _]
  refine Eq.trans ?_ ((host11 m c j).trans (r.h11 _))
  blk_ext [iblk, idx t]
theorem place3 (t : Fin cfg0.N) (i : Fin 128) (j : Fin 512) : (((cfg0.win 3).blk t).view.emb (ix2 i j)) = ix2 i j := by
  funext d
  refine Fin.ext ?_
  match d with
  | ⟨0, _⟩ => blk_simp [idx t]
  | ⟨1, _⟩ => blk_simp [idx t]
theorem leaf3 (r : RealArgs m c) (t : Fin cfg0.N) : iblk m c 3 t = mat .bf16 (Matrix.of (parM m c).w2) := ext_mat fun i j => by
  refine Eq.trans (congrArg (V m c main_v3) (place3 t i j)) ((host3 m c i j).trans ?_)
  exact w2_real (x1 := m ((c : Thread nD τ).loc main_arg1)) (x2 := m ((c : Thread nD τ).loc main_arg2)) (x3 := m ((c : Thread nD τ).loc main_arg3)) (x4 := m ((c : Thread nD τ).loc main_arg4)) (x5 := m ((c : Thread nD τ).loc main_arg5)) (x6 := m ((c : Thread nD τ).loc main_arg6)) (x7 := m ((c : Thread nD τ).loc main_arg7)) (x8 := m ((c : Thread nD τ).loc main_arg8)) (x9 := m ((c : Thread nD τ).loc main_arg9)) (x10 := m ((c : Thread nD τ).loc main_arg10)) (x11 := m ((c : Thread nD τ).loc main_arg11)) r.h3 i j
theorem place5 (t : Fin cfg0.N) (i : Fin 128) (j : Fin 512) : (((cfg0.win 5).blk t).view.emb (ix2 i j)) = ix2 i j := by
  funext d
  refine Fin.ext ?_
  match d with
  | ⟨0, _⟩ => blk_simp [idx t]
  | ⟨1, _⟩ => blk_simp [idx t]
theorem leaf5 (r : RealArgs m c) (t : Fin cfg0.N) : iblk m c 5 t = mat .bf16 (Matrix.of (parM m c).a2) := ext_mat fun i j => by
  refine Eq.trans (congrArg (V m c main_v7) (place5 t i j)) ((host5 m c i j).trans ?_)
  exact a2_real (x1 := m ((c : Thread nD τ).loc main_arg1)) (x2 := m ((c : Thread nD τ).loc main_arg2)) (x3 := m ((c : Thread nD τ).loc main_arg3)) (x4 := m ((c : Thread nD τ).loc main_arg4)) (x5 := m ((c : Thread nD τ).loc main_arg5)) (x6 := m ((c : Thread nD τ).loc main_arg6)) (x7 := m ((c : Thread nD τ).loc main_arg7)) (x8 := m ((c : Thread nD τ).loc main_arg8)) (x9 := m ((c : Thread nD τ).loc main_arg9)) (x10 := m ((c : Thread nD τ).loc main_arg10)) (x11 := m ((c : Thread nD τ).loc main_arg11)) r.h5 i j
theorem leaf6 (r : RealArgs m c) (t : Fin cfg0.N) : iblk m c 6 t = mat .bf16 (Matrix.of (parM m c).g2) := ext_mat fun i j => by
  refine Eq.trans ?_ ((host6 m c i j).trans (r.h6 _))
  blk_ext [iblk, idx t]
theorem leaf12 (t : Fin cfg0.N) : iblk m c 12 t = mat .bf16 bdM := ext_mat fun i j => by
  refine Eq.trans ?_ ((host12 m c i j).trans ?_)
  · blk_ext [iblk, idx t]
  · show _ = (((if i.val / 64 = j.val / 64 then 1 else 0) : ℝ) : EReal)
    split <;> rfl

/-- The blocks every grid point reads. -/
theorem leaves (r : RealArgs m c) (t : Fin cfg0.N) : Leaves m c t (parM m c) (pAt m c t) :=
  ⟨leaf0 m c r t, leaf1 m c r t, leaf2 m c r t, leaf3 m c r t, leaf4 m c r t, leaf5 m c r t, leaf6 m c r t, leaf7 m c r t, leaf8 m c r t,
    leaf9 m c r t, leaf10 m c r t, leaf11 m c r t, leaf12 m c t⟩

/-- The mixed rows of a grid point are the sequence's. -/
theorem mix_at (t : Fin cfg0.N) (i : Fin 256) : mixTile (parM m c) (cAt m c t) (pAt m c t) i = xAt m c t (256 * (t.val % 16) + i.val) := by
  have hp : ∀ n, mixed (parM m c) (rowsM m c (seqAt t)) n
      = (parM m c).shift (if n = 0 then 0 else rowsM m c (seqAt t) (n - 1)) (rowsM m c (seqAt t) n) := fun n => by
    cases n <;> rfl
  rw [xAt, hp]
  refine congrArg₂ (parM m c).shift ?_ rfl
  funext j
  simp only [before, Matrix.of_apply, pAt, cAt]
  by_cases hi : i.val = 0
  · rw [dif_pos hi, hi, Nat.add_zero]
    by_cases h : t.val % 16 = 0
    · rw [if_pos h, if_pos (by omega)]
    · rw [if_neg h, if_neg (by omega)]
  · rw [dif_neg hi, if_neg (by omega)]
    rw [show 256 * (t.val % 16) + (i.val - 1) = 256 * (t.val % 16) + i.val - 1 by omega]

/-- What every grid point leaves. -/
theorem done (r : RealArgs m c) : ∀ (n : ℕ) (hn : n < cfg0.N), Leaves.Done m c ⟨n, hn⟩ (parM m c) (pAt m c ⟨n, hn⟩) (cAt m c ⟨n, hn⟩) (sAt m c ⟨n, hn⟩) := by
  intro n
  induction n with
  | zero =>
    intro hn
    have e : sAt m c ⟨0, hn⟩ = 0 := rfl
    have e' : cAt m c ⟨0, hn⟩ = 0 := rfl
    rw [e, e']
    exact done_A (leaves m c r _) rfl
  | succ n ih =>
    intro hn
    by_cases h : (n + 1) % 16 = 0
    · have e : sAt m c ⟨n + 1, hn⟩ = 0 := by
        funext q k
        show stateAt _ _ _ (256 * ((n + 1) % 16)) = 0
        rw [h]; rfl
      have e' : cAt m c ⟨n + 1, hn⟩ = 0 := if_pos h
      rw [e, e']
      exact done_A (leaves m c r _) h
    · have hn' : n < cfg0.N := Nat.lt_of_succ_lt hn
      have d := ih hn'
      have hs : seqAt ⟨n + 1, hn⟩ = seqAt ⟨n, hn'⟩ := Fin.ext (by
        show (n + 1) / 16 = n / 16
        omega)
      have hm : (n + 1) % 16 = n % 16 + 1 := by omega
      refine done_B (leaves m c r _) h ?_ ?_
      · refine d.carry.trans (congrArg (fun v => mat FTy.f32 (rowM v)) ?_)
        show rowsM m c (seqAt ⟨n, hn'⟩) (256 * (n % 16) + 255) = cAt m c ⟨n + 1, hn⟩
        unfold cAt
        rw [if_neg h, hs]
        show _ = rowsM m c (seqAt ⟨n, hn'⟩) (256 * ((n + 1) % 16) - 1)
        rw [hm, show 256 * (n % 16 + 1) - 1 = 256 * (n % 16) + 255 by omega]
      · refine d.state.trans (congrArg st ?_)
        have hx : xAt m c ⟨n + 1, hn⟩ = xAt m c ⟨n, hn'⟩ := by unfold xAt; rw [hs]
        have key : ∀ (q : Fin 2) (k : Fin 4), runS (parM m c) (mixTile (parM m c) (cAt m c ⟨n, hn'⟩) (pAt m c ⟨n, hn'⟩)) (256 * q.val) (sAt m c ⟨n, hn'⟩ q) 4 k
            = sAt m c ⟨n + 1, hn⟩ q k := by
          intro q k
          refine (run_at _ _ (mix_at m c ⟨n, hn'⟩) q _ (fun _ => rfl) 4 le_rfl k).trans ?_
          unfold sAt
          rw [hx]
          show stateAt _ _ _ (256 * (n % 16) + 64 * 4) = stateAt _ _ _ (256 * ((n + 1) % 16))
          rw [hm, show 256 * (n % 16) + 64 * 4 = 256 * (n % 16 + 1) by omega]
        funext q
        match q with
        | ⟨0, _⟩ => exact funext fun k => key 0 k
        | ⟨1, _⟩ => exact funext fun k => key 1 k

/-- The output rows of a grid point. -/
theorem out_at (r : RealArgs m c) (t : Fin cfg0.N) (i : Fin 256) (j : Fin 512) :
    (outsAt0 m c t.val t.isLt).1 (ix3 0 i j) = ((mixOut (parM m c) (rowsM m c (seqAt t)) (256 * (t.val % 16) + i.val) j : ℝ) : EReal) := by
  rw [(done m c r t.val t.isLt).out]
  show (((parM m c).out (mixTile (parM m c) (cAt m c t) (pAt m c t) i) (readY (parM m c) (mixTile (parM m c) (cAt m c t) (pAt m c t)) (sAt m c t) i) j : ℝ) : EReal) = _
  rw [mix_at, show readY (parM m c) (mixTile (parM m c) (cAt m c t) (pAt m c t)) (sAt m c t) i = readAt (parM m c) (xAt m c t) (256 * (t.val % 16) + i.val) from
    funext fun j => readY_at _ _ (mix_at m c t) _ (fun _ _ => rfl) i j]
  rfl

/-- The values of a grid point. -/
theorem val_at (r : RealArgs m c) (t : Fin cfg0.N) (i : Fin 256) (j : Fin 512) :
    (outsAt0 m c t.val t.isLt).2.1 (ix3 0 i j) = ((vOf (mixed (parM m c) (rowsM m c (seqAt t)) (256 * (t.val % 16) + i.val)) j : ℝ) : EReal) := by
  rw [(done m c r t.val t.isLt).val]
  show ((vOf (mixTile (parM m c) (cAt m c t) (pAt m c t) i) j : ℝ) : EReal) = _
  rw [mix_at]
  rfl

theorem place13 (t : Fin cfg0.N) (o : Fin 1) (i : Fin 256) (j : Fin 512) : (((cfg0.win 13).blk t).view.emb (ix3 o i j))
    = ix3 (seqAt t) ⟨256 * (t.val % 16) + i.val, by omega⟩ j := by
  have : o.val = 0 := by omega
  funext d
  refine Fin.ext ?_
  match d with
  | ⟨0, _⟩ => blk_simp [idx t]; rfl
  | ⟨1, _⟩ =>
    have e : ((((cfg0.win 13).blk t).view.emb (ix3 o i j)) 1).val = t.val % 16 * 256 + i.val := by blk_simp [idx t]; rfl
    refine e.trans ?_
    show t.val % 16 * 256 + i.val = 256 * (t.val % 16) + i.val
    omega
  | ⟨2, _⟩ => blk_simp [idx t]

/-- The output array after the run. -/
theorem final_out (r : RealArgs m c) : (dats m 0 c).arrAt 13 cfg0.N = wholeOut .bf16 (parM m c) (rowsM m c) := by
  refine (dats m 0 c).arrAt_eq_of_covers 13 _ (by decide +kernel) fun t _ y => ?_
  blk_simp
  rw [after0_13, eq_ix3 y]
  have hp := congrArg (wholeOut .bf16 (parM m c) (rowsM m c)) (place13 t (y 0) (y 1) (y 2))
  refine Eq.trans (Eq.trans ?_ (out_at m c r t (y 1) (y 2))) hp.symm
  exact congrArg (outsAt0 m c t.val t.isLt).1 (congrArg (fun o => ix3 o (y 1) (y 2)) (Subsingleton.elim (α := Fin 1) _ _))

theorem place14 (t : Fin cfg0.N) (o : Fin 1) (i : Fin 256) (j : Fin 512) : (((cfg0.win 14).blk t).view.emb (ix3 o i j))
    = ix3 (seqAt t) ⟨256 * (t.val % 16) + i.val, by omega⟩ j := by
  have : o.val = 0 := by omega
  funext d
  refine Fin.ext ?_
  match d with
  | ⟨0, _⟩ => blk_simp [idx t]; rfl
  | ⟨1, _⟩ =>
    have e : ((((cfg0.win 14).blk t).view.emb (ix3 o i j)) 1).val = t.val % 16 * 256 + i.val := by blk_simp [idx t]; rfl
    refine e.trans ?_
    show t.val % 16 * 256 + i.val = 256 * (t.val % 16) + i.val
    omega
  | ⟨2, _⟩ => blk_simp [idx t]

/-- The value array after the run. -/
theorem final_val (r : RealArgs m c) : (dats m 0 c).arrAt 14 cfg0.N = wholeVal (parM m c) (rowsM m c) := by
  refine (dats m 0 c).arrAt_eq_of_covers 14 _ (by decide +kernel) fun t _ y => ?_
  blk_simp
  rw [after0_14, eq_ix3 y]
  have hp := congrArg (wholeVal (parM m c) (rowsM m c)) (place14 t (y 0) (y 1) (y 2))
  refine Eq.trans (Eq.trans ?_ (val_at m c r t (y 1) (y 2))) hp.symm
  exact congrArg (outsAt0 m c t.val t.isLt).2.1 (congrArg (fun o => ix3 o (y 1) (y 2)) (Subsingleton.elim (α := Fin 1) _ _))

end Cert.Rwkv

end
-- ==== Proof.RwkvFinite.lean ====
/- Finite arguments are real everywhere. -/
module

public import proofs.«01_k».proof.Pre_finite
public import proofs.«01_k».proof.Defs
public import proofs.«01_k».proof.Proof.RwkvArray

@[expose] public section

set_option maxRecDepth 16384

noncomputable section

namespace Cert.Rwkv

open Idealize.ShloMosaic Idealize.SL.Sem Idealize.ShloMosaic.TcCoe

/-- The precondition's broadcasts are well formed. -/
instance finiteFacts : Cert.Pre_finite.Facts where
  bcast_S_S8x4096x1792 := by decide
  bcast_S_S1792 := by decide
  bcast_S_S512 := by decide
  bcast_S_S64x512 := by decide
  bcast_S_S128x512 := by decide
  bcast_S_S8x64 := by decide

theorem inf_f32 : Ideal.ofBits .f32 0x7F800000#32 = (⊤ : EReal) := by
  simp [Ideal.ofBits, Ideal.ieee]

theorem real_of_lt (x : EReal) (h : max x (-x) < ⊤) : x = ((x.toReal : ℝ) : EReal) := by
  refine (EReal.coe_toReal ?_ ?_).symm
  · rintro rfl
    exact absurd h (by simp)
  · rintro rfl
    exact absurd h (by simp)

/-- Where the comparison with infinity says yes, the array is real. -/
theorem fin_of {s : Shape} (x : FVec Ideal s .f32) (h : Cert.Pre_finite.S_.BroadcastsInDim s ![])
    (hx : cmpf .olt (Host.absf x) (broadcastInDim s ![] h (constant Cert.Pre_finite.S_ .f32 0x7F800000#32)) = fun _ => 1#1) : Fin? x := fun i => by
  have e : Ideal.cmp .olt (max (x i) (-(x i))) (Ideal.ofBits .f32 0x7F800000#32) = 1#1 := congrFun hx i
  rw [inf_f32] at e
  refine real_of_lt (x i) ?_
  by_contra hn
  simp [Ideal.cmp, hn] at e

/-- The precondition gives real arguments. -/
theorem realArgs (m : (ℓ : Loc Cert.KernelIdeal.nD Cert.KernelIdeal.τ Cert.KernelIdeal.sig) → Buf (Elt Ideal) ℓ)
    (h : Cert.Pre_KernelIdeal_finite m) (c : Dev Cert.KernelIdeal.nD) : RealArgs m c := by
  obtain ⟨h0, h1, h2, h3, h4, h5, h6, h7, h8, h9, h10, h11⟩ := h c
  exact ⟨fin_of _ _ h0, fin_of _ _ h1, fin_of _ _ h2, fin_of _ _ h3, fin_of _ _ h4, fin_of _ _ h5, fin_of _ _ h6, fin_of _ _ h7,
    fin_of _ _ h8, fin_of _ _ h9, fin_of _ _ h10, fin_of _ _ h11⟩

end Cert.Rwkv

end
-- ==== Proof.RwkvRefOps.lean ====
/- The array operations of the recurrence's reference, each read at an index, and its arrays over the real numbers. -/
module

public import proofs.«01_k».proof.Proof.RwkvWhole
public import proofs.«01_k».proof.Proof.RwkvOperands
public import proofs.«01_k».proof.Proof.Gen.ReferenceIdeal.Run
public import Idealize.ShloMosaic.Lib.Pipeline.Value
public import Idealize.ShloMosaic.Lib.ValueIdx
public import Idealize.ShloMosaic.PureOps.Ideal.Laws

@[expose] public section

noncomputable section

namespace Cert.Rwkv.Ref

open Cert.ReferenceIdeal Cert.ReferenceIdeal.Gen
open Idealize.ShloMosaic Idealize.ShloMosaic.ValueIdx

/-- An array over sequences, tokens and channels. -/
abbrev T3 (n : ℕ) := Fin 8 → Fin 4096 → Fin n → ℝ
/-- An array over sequences, tokens, heads and a head's channels. -/
abbrev T4 := Fin 8 → Fin 4096 → Fin 8 → Fin 64 → ℝ

def arr3 {n : ℕ} (f : T3 n) : FVec Ideal ⟨3, ![8, 4096, n]⟩ .f32 := fun i => ((f (i 0) (i 1) (i 2) : ℝ) : EReal)
def arr4 (f : T4) : FVec Ideal S8x4096x8x64 .f32 := fun i => ((f (i 0) (i 1) (i 2) (i 3) : ℝ) : EReal)
/-- The same with the tokens first, as the loop takes it. -/
def arrS (f : T4) : FVec Ideal S4096x8x8x64 .f32 := fun i => ((f (i 1) (i 0) (i 2) (i 3) : ℝ) : EReal)

theorem arr3_at {n : ℕ} (f : T3 n) (b : Fin 8) (t : Fin 4096) (j : Fin n) : arr3 f (ix3 b t j) = ((f b t j : ℝ) : EReal) := rfl
theorem arr4_at (f : T4) (b : Fin 8) (t : Fin 4096) (h : Fin 8) (l : Fin 64) : arr4 f (ix4 b t h l) = ((f b t h l : ℝ) : EReal) := rfl
theorem arrS_at (f : T4) (b : Fin 8) (t : Fin 4096) (h : Fin 8) (l : Fin 64) : arrS f (ix4 t b h l) = ((f b t h l : ℝ) : EReal) := rfl

theorem ext3 {n : ℕ} {v : FVec Ideal ⟨3, ![8, 4096, n]⟩ .f32} {f : T3 n} (h : ∀ b t j, v (ix3 b t j) = ((f b t j : ℝ) : EReal)) : v = arr3 f :=
  funext fun i => by rw [eq_ix3 i]; exact h _ _ _
theorem ext4 {v : FVec Ideal S8x4096x8x64 .f32} {f : T4} (h : ∀ b t g l, v (ix4 b t g l) = ((f b t g l : ℝ) : EReal)) : v = arr4 f :=
  funext fun i => by rw [eq_ix4 i]; exact h _ _ _ _

section Layout
variable {α : Type}

theorem swap_in (x : FVec Ideal S8x4096x8x64 .f32) (f : T4) (h : S8x4096x8x64.Transposes [1, 0, 2, 3] S4096x8x8x64) (hx : x = arr4 f) :
    transpose S4096x8x8x64 [1, 0, 2, 3] x h = arrS f := by
  subst hx
  funext i
  exact transpose_apply [1, 0, 2, 3] (arr4 f) h i (ix4 (i 1) (i 0) (i 2) (i 3)) (fun b => by
    match b with | ⟨0, _⟩ => rfl | ⟨1, _⟩ => rfl | ⟨2, _⟩ => rfl | ⟨3, _⟩ => rfl)
theorem swap_out (f : T4) (h : S4096x8x8x64.Transposes [1, 0, 2, 3] S8x4096x8x64) :
    transpose S8x4096x8x64 [1, 0, 2, 3] (arrS f) h = arr4 f := by
  funext i
  exact transpose_apply [1, 0, 2, 3] (arrS f) h i (ix4 (i 1) (i 0) (i 2) (i 3)) (fun b => by
    match b with | ⟨0, _⟩ => rfl | ⟨1, _⟩ => rfl | ⟨2, _⟩ => rfl | ⟨3, _⟩ => rfl)

theorem slice_at {n : ℕ} (o : ℕ) (x : FVec Ideal S8x4096x1792 .f32) (h : S8x4096x1792.Slices ![0, 0, o] ⟨3, ![8, 4096, n]⟩)
    (b : Fin 8) (t : Fin 4096) (j : Fin n) (ho : o + j.val < 1792) :
    extractStridedSlice ⟨3, ![8, 4096, n]⟩ ![0, 0, o] x h (ix3 b t j) = x (ix3 b t ⟨o + j.val, ho⟩) :=
  extractStridedSlice_apply _ x h _ _ (fun a => by
    match a with
    | ⟨0, _⟩ => exact (Nat.zero_add _).symm
    | ⟨1, _⟩ => exact (Nat.zero_add _).symm
    | ⟨2, _⟩ => rfl)

theorem row_at {n : ℕ} (v : FVec Ideal ⟨1, ![n]⟩ .f32) (h1 : Shape.BroadcastsInDim ⟨1, ![n]⟩ ⟨3, ![1, 1, n]⟩ ![2])
    (h2 : Shape.BroadcastsInDim ⟨3, ![1, 1, n]⟩ ⟨3, ![8, 4096, n]⟩ ![0, 1, 2]) (hn : n ≠ 1) (b : Fin 8) (t : Fin 4096) (j : Fin n) :
    broadcastInDim ⟨3, ![8, 4096, n]⟩ ![0, 1, 2] h2 (broadcastInDim ⟨3, ![1, 1, n]⟩ ![2] h1 v) (ix3 b t j) = v (ix1 j) := by
  rw [broadcastInDim_apply _ h2 _ _ (ix3 (0 : Fin 1) (0 : Fin 1) j) (fun a => by
    match a with
    | ⟨0, _⟩ => rfl
    | ⟨1, _⟩ => rfl
    | ⟨2, _⟩ => exact (if_neg hn).symm)]
  exact broadcastInDim_apply _ h1 v _ (ix1 j) (fun a => by
    match a with
    | ⟨0, _⟩ => exact (if_neg hn).symm)

theorem rows_at (v : FVec Ideal S8x64 .f32) (h1 : S8x64.BroadcastsInDim S1x1x8x64 ![2, 3])
    (h2 : S1x1x8x64.BroadcastsInDim S8x4096x8x64 ![0, 1, 2, 3]) (b : Fin 8) (t : Fin 4096) (g : Fin 8) (l : Fin 64) :
    broadcastInDim S8x4096x8x64 ![0, 1, 2, 3] h2 (broadcastInDim S1x1x8x64 ![2, 3] h1 v) (ix4 b t g l) = v (ix2 g l) := by
  rw [broadcastInDim_apply _ h2 _ _ (ix4 (0 : Fin 1) (0 : Fin 1) g l) (fun a => by
    match a with
    | ⟨0, _⟩ => rfl
    | ⟨1, _⟩ => rfl
    | ⟨2, _⟩ => rfl
    | ⟨3, _⟩ => rfl)]
  exact broadcastInDim_apply _ h1 v _ (ix2 g l) (fun a => by
    match a with
    | ⟨0, _⟩ => rfl
    | ⟨1, _⟩ => rfl)

theorem keep_at (v : FVec Ideal S8x4096x8 .f32) (h : S8x4096x8.BroadcastsInDim S8x4096x8x1 ![0, 1, 2]) (b : Fin 8) (t : Fin 4096) (g : Fin 8) :
    broadcastInDim S8x4096x8x1 ![0, 1, 2] h v (ix4 b t g 0) = v (ix3 b t g) :=
  broadcastInDim_apply _ h v _ (ix3 b t g) (fun a => by
    match a with
    | ⟨0, _⟩ => rfl
    | ⟨1, _⟩ => rfl
    | ⟨2, _⟩ => rfl)
theorem spread_at (v : FVec Ideal S8x4096x8x1 .f32) (h : S8x4096x8x1.BroadcastsInDim S8x4096x8x64 ![0, 1, 2, 3]) (b : Fin 8) (t : Fin 4096)
    (g : Fin 8) (l : Fin 64) : broadcastInDim S8x4096x8x64 ![0, 1, 2, 3] h v (ix4 b t g l) = v (ix4 b t g 0) :=
  broadcastInDim_apply _ h v _ (ix4 b t g 0) (fun a => by
    match a with
    | ⟨0, _⟩ => rfl
    | ⟨1, _⟩ => rfl
    | ⟨2, _⟩ => rfl
    | ⟨3, _⟩ => rfl)
theorem all_of {s : Shape} (v : S_.Idx → α) (h : S_.BroadcastsInDim s ![]) (i : s.Idx) : broadcastInDim s ![] h v i = v (Shape.Idx.first h_S_) :=
  congrArg v (funext fun a => a.elim0)

theorem heads_at (x : FVec Ideal S8x4096x512 .f32) (h : S8x4096x512.ShapeCasts S8x4096x8x64) (b : Fin 8) (t : Fin 4096) (g : Fin 8) (l : Fin 64) :
    shapeCast S8x4096x8x64 x h (ix4 b t g l) = x (ix3 b t (chan g l)) :=
  shapeCast_apply x h _ _ (by
    rw [Shape.rowMajor_val_four, Shape.rowMajor_val_three]
    show (b.val * 4096 + t.val) * 512 + (64 * g.val + l.val) = ((b.val * 4096 + t.val) * 8 + g.val) * 64 + l.val
    omega)
theorem flat_at (x : FVec Ideal S8x4096x8x64 .f32) (h : S8x4096x8x64.ShapeCasts S8x4096x512) (b : Fin 8) (t : Fin 4096) (j : Fin 512) :
    shapeCast S8x4096x512 x h (ix3 b t j) = x (ix4 b t ⟨j.val / 64, by omega⟩ ⟨j.val % 64, by omega⟩) :=
  shapeCast_apply x h _ _ (by
    rw [Shape.rowMajor_val_four, Shape.rowMajor_val_three]
    show ((b.val * 4096 + t.val) * 8 + j.val / 64) * 64 + j.val % 64 = (b.val * 4096 + t.val) * 512 + j.val
    omega)

end Layout

section Sums

theorem dot64_at (x : FVec Ideal S8x4096x64 .f32) (w : FVec Ideal S64x512 .f32) (b : Fin 8) (t : Fin 4096) (j : Fin 512) :
    Host.dotGeneral dot_S8x4096x64_S64x512_S8x4096x512_2_0_01_1_n_n none x w (ix3 b t j) = ∑ k, x (ix3 b t k) * w (ix2 k j) := by
  simp only [Host.dotGeneral]
  rw [Ideal.dotGeneral_apply, ← Equiv.sum_comp (ValueIdx.contrEquiv1 dot_S8x4096x64_S64x512_S8x4096x512_2_0_01_1_n_n 64 rfl rfl).symm]
  refine Finset.sum_congr rfl fun k _ => ?_
  have hk := ValueIdx.contrEquiv1_symm_val dot_S8x4096x64_S64x512_S8x4096x512_2_0_01_1_n_n 64 rfl rfl k
  refine congrArg₂ (fun p q => x p * w q) (funext fun a => Fin.ext ?_) (funext fun a => Fin.ext ?_)
  · match a with
    | ⟨0, _⟩ => rfl
    | ⟨1, _⟩ => rfl
    | ⟨2, _⟩ => exact (DotDims.lhsIdx_val_of_single _ rfl _ _).trans hk
  · match a with
    | ⟨0, _⟩ => exact (DotDims.rhsIdx_val_of_single _ rfl _ _).trans hk
    | ⟨1, _⟩ => rfl

theorem dot128_at (x : FVec Ideal S8x4096x128 .f32) (w : FVec Ideal S128x512 .f32) (b : Fin 8) (t : Fin 4096) (j : Fin 512) :
    Host.dotGeneral dot_S8x4096x128_S128x512_S8x4096x512_2_0_01_1_n_n none x w (ix3 b t j) = ∑ k, x (ix3 b t k) * w (ix2 k j) := by
  simp only [Host.dotGeneral]
  rw [Ideal.dotGeneral_apply, ← Equiv.sum_comp (ValueIdx.contrEquiv1 dot_S8x4096x128_S128x512_S8x4096x512_2_0_01_1_n_n 128 rfl rfl).symm]
  refine Finset.sum_congr rfl fun k _ => ?_
  have hk := ValueIdx.contrEquiv1_symm_val dot_S8x4096x128_S128x512_S8x4096x512_2_0_01_1_n_n 128 rfl rfl k
  refine congrArg₂ (fun p q => x p * w q) (funext fun a => Fin.ext ?_) (funext fun a => Fin.ext ?_)
  · match a with
    | ⟨0, _⟩ => rfl
    | ⟨1, _⟩ => rfl
    | ⟨2, _⟩ => exact (DotDims.lhsIdx_val_of_single _ rfl _ _).trans hk
  · match a with
    | ⟨0, _⟩ => exact (DotDims.rhsIdx_val_of_single _ rfl _ _).trans hk
    | ⟨1, _⟩ => rfl

/-- The state against a row, one head of one sequence at a time. -/
theorem dotS_at (x : FVec Ideal S8x8x64x64 .f32) (w : FVec Ideal S8x8x64 .f32) (b g : Fin 8) (p : Fin 64) :
    Host.dotGeneral dot_S8x8x64x64_S8x8x64_S8x8x64_3_2_2_n_01_01 none x w (ix3 b g p) = ∑ k, x (ix4 b g p k) * w (ix3 b g k) := by
  simp only [Host.dotGeneral]
  rw [Ideal.dotGeneral_apply, ← Equiv.sum_comp (ValueIdx.contrEquiv1 dot_S8x8x64x64_S8x8x64_S8x8x64_3_2_2_n_01_01 64 rfl rfl).symm]
  refine Finset.sum_congr rfl fun k _ => ?_
  have hk := ValueIdx.contrEquiv1_symm_val dot_S8x8x64x64_S8x8x64_S8x8x64_3_2_2_n_01_01 64 rfl rfl k
  refine congrArg₂ (fun p q => x p * w q) (funext fun a => Fin.ext ?_) (funext fun a => Fin.ext ?_)
  · match a with
    | ⟨0, _⟩ => rfl
    | ⟨1, _⟩ => rfl
    | ⟨2, _⟩ => rfl
    | ⟨3, _⟩ => exact (DotDims.lhsIdx_val_of_single _ rfl _ _).trans hk
  · match a with
    | ⟨0, _⟩ => rfl
    | ⟨1, _⟩ => rfl
    | ⟨2, _⟩ => exact (DotDims.rhsIdx_val_of_single _ rfl _ _).trans hk

/-- The sum over a head's channels, from zero. -/
theorem reduce_at (f : T4) (h : S8x4096x8x64.ReducesTo [3] S8x4096x8) (b : Fin 8) (t : Fin 4096) (g : Fin 8) :
    Host.reduceAdd (arr4 f) (constant S_ .f32 0x00000000#32) h h_S_ (ix3 b t g) = ((∑ l, f b t g l : ℝ) : EReal) := by
  generalize hy : arr4 f = y
  simp only [Host.reduceAdd, Ideal.hostReduceAdd_def]
  rw [Ideal.hostReduceAdd_single h (by decide), coe_sum]
  refine Eq.trans (congrArg₂ (· + ·) Ideal.ofBits_zero_f32 (Finset.sum_congr rfl fun k _ => ?_)) (zero_add _)
  subst hy
  rfl

end Sums

/-- The sum over a channel's head, among all channels, is the sum over that head's channels. -/
theorem headSum_chan (f : Fin 512 → ℝ) (j : Fin 512) : headSum f j = ∑ l, f (chan ⟨j.val / 64, by omega⟩ l) := by
  unfold headSum
  simp only [mul_ite, mul_one, mul_zero]
  rw [← Finset.sum_filter]
  symm
  refine Finset.sum_bij (fun l _ => chan ⟨j.val / 64, by omega⟩ l) (fun l _ => ?_) (fun a _ b _ e => ?_) (fun i hi => ?_) (fun l _ => rfl)
  · rw [Finset.mem_filter]
    refine ⟨Finset.mem_univ _, ?_⟩
    show (64 * (j.val / 64) + l.val) / 64 = j.val / 64
    omega
  · have := congrArg Fin.val e
    simp only [chan] at this
    exact Fin.ext (by omega)
  · rw [Finset.mem_filter] at hi
    refine ⟨⟨i.val % 64, by omega⟩, Finset.mem_univ _, Fin.ext ?_⟩
    show 64 * (j.val / 64) + i.val % 64 = i.val
    have := hi.2
    omega

theorem chan_div (g : Fin 8) (l : Fin 64) : (⟨(chan g l).val / 64, by omega⟩ : Fin 8) = g := Fin.ext (by
  show (64 * g.val + l.val) / 64 = g.val
  omega)
theorem chan_mod (g : Fin 8) (l : Fin 64) : (⟨(chan g l).val % 64, by omega⟩ : Fin 64) = l := Fin.ext (by
  show (64 * g.val + l.val) % 64 = l.val
  omega)
theorem chan_eta (j : Fin 512) : chan ⟨j.val / 64, by omega⟩ ⟨j.val % 64, by omega⟩ = j := Fin.ext (by
  show 64 * (j.val / 64) + j.val % 64 = j.val
  omega)

theorem headSum_head (f : Fin 512 → ℝ) (g : Fin 8) (l : Fin 64) : headSum f (chan g l) = ∑ k, f (chan g k) := by
  rw [headSum_chan]
  refine Finset.sum_congr rfl fun k _ => congrArg f (Fin.ext ?_)
  show 64 * ((64 * g.val + l.val) / 64) + k.val = 64 * g.val + k.val
  omega

end Cert.Rwkv.Ref

end
-- ==== Proof.RwkvRefLine.lean ====
/- What the reference's stretches of operations compute, from any contents. -/
module

public import proofs.«01_k».proof.Proof.RwkvRefOps
public import Idealize.ShloMosaic.Lib.StableHlo.RunRead

@[expose] public section

set_option maxRecDepth 16384

noncomputable section

namespace Cert.Rwkv.Ref

open Cert.ReferenceIdeal Cert.ReferenceIdeal.Gen Cert.ReferenceIdeal.Value
open Idealize.ShloMosaic Idealize.ShloMosaic.TcCoe Idealize.SL.Sem Idealize.ShloMosaic.StableHlo

abbrev Val := Valuation τ sig (Elt Ideal)

/-- One number everywhere. -/
abbrev fill (s : Shape) (h : S_.BroadcastsInDim s ![]) (x : BitVec 32) : FVec Ideal s .f32 := broadcastInDim s ![] h (constant S_ .f32 x)
/-- A row at every token. -/
abbrev row512 (v : FVec Ideal S512 .f32) : FVec Ideal S8x4096x512 .f32 :=
  broadcastInDim S8x4096x512 ![0, 1, 2] bcast_S1x1x512_S8x4096x512_0_1_2 (broadcastInDim S1x1x512 ![2] bcast_S512_S1x1x512_2 v)
abbrev row1792 (v : FVec Ideal S1792 .f32) : FVec Ideal S8x4096x1792 .f32 :=
  broadcastInDim S8x4096x1792 ![0, 1, 2] bcast_S1x1x1792_S8x4096x1792_0_1_2 (broadcastInDim S1x1x1792 ![2] bcast_S1792_S1x1x1792_2 v)

/-- The rows mixed with the rows before them. -/
def mixA (x0 : FVec Ideal S8x4096x1792 .f32) (x1 : FVec Ideal S1792 .f32) (z : IVec S_ 32) : FVec Ideal S8x4096x1792 .f32 :=
  addf x0 (mulf (subf (extractStridedSlice S8x4096x1792 ![0, 0, 0]
    (pad S8x4097x1792 ![0, 1, 0] ![0, 0, 0] ![0, 0, 0] x0 (sitofp .f32 z) pads_S8x4096x1792_S8x4097x1792_000_100_000 h_S_)
    slices_S8x4097x1792_S8x4096x1792_0_0_0) x0) (row1792 x1))

/-- The decay's argument, negated. -/
def decA (x : FVec Ideal S8x4096x64 .f32) (x2 : FVec Ideal S512 .f32) (x3 : FVec Ideal S64x512 .f32) : FVec Ideal S8x4096x512 .f32 :=
  Host.negf (addf (row512 x2) (Host.dotGeneral dot_S8x4096x64_S64x512_S8x4096x512_2_0_01_1_n_n none (Host.tanh x) x3))
/-- The logarithm of one plus the exponential. -/
def softA (x : FVec Ideal S8x4096x512 .f32) : FVec Ideal S8x4096x512 .f32 :=
  select (cmpf .une (subf x (fill S8x4096x512 bcast_S_S8x4096x512 0x00000000#32)) (subf x (fill S8x4096x512 bcast_S_S8x4096x512 0x00000000#32)))
    (addf x (fill S8x4096x512 bcast_S_S8x4096x512 0x00000000#32))
    (addf (maximumf x (fill S8x4096x512 bcast_S_S8x4096x512 0x00000000#32))
      (Host.log1p (Host.exp (Host.negf (Host.absf (subf x (fill S8x4096x512 bcast_S_S8x4096x512 0x00000000#32)))))))
/-- The logistic function. -/
def sigA {s : Shape} (h : S_.BroadcastsInDim s ![]) (x : FVec Ideal s .f32) : FVec Ideal s .f32 :=
  Host.divf (fill s h 0x3F800000#32) (addf (fill s h 0x3F800000#32) (Host.exp (Host.negf x)))
/-- The in-context rate. -/
def rateA (x : FVec Ideal S8x4096x64 .f32) (x4 : FVec Ideal S512 .f32) (x5 : FVec Ideal S64x512 .f32) : FVec Ideal S8x4096x512 .f32 :=
  sigA bcast_S_S8x4096x512 (addf (row512 x4) (Host.dotGeneral dot_S8x4096x64_S64x512_S8x4096x512_2_0_01_1_n_n none x x5))
/-- The gate. -/
def gateA (x : FVec Ideal S8x4096x128 .f32) (x6 : FVec Ideal S128x512 .f32) : FVec Ideal S8x4096x512 .f32 :=
  Host.dotGeneral dot_S8x4096x128_S128x512_S8x4096x512_2_0_01_1_n_n none (sigA bcast_S_S8x4096x128 x) x6
/-- The channels by heads. -/
abbrev heads (x : FVec Ideal S8x4096x512 .f32) : FVec Ideal S8x4096x8x64 .f32 := shapeCast S8x4096x8x64 x shapeCasts_S8x4096x512_S8x4096x8x64
/-- The norm of each head's row. -/
def normA (x : FVec Ideal S8x4096x8x64 .f32) : FVec Ideal S8x4096x8x1 .f32 :=
  Host.sqrt (broadcastInDim S8x4096x8x1 ![0, 1, 2] bcast_S8x4096x8_S8x4096x8x1_0_1_2
    (Host.reduceAdd (mulf x x) (constant S_ .f32 0x00000000#32) reducesTo_S8x4096x8x64_S8x4096x8_d3 h_S_))
/-- The row over its norm. -/
def unitA (x : FVec Ideal S8x4096x8x64 .f32) (n : FVec Ideal S8x4096x8x1 .f32) : FVec Ideal S8x4096x8x64 .f32 :=
  Host.divf x (broadcastInDim S8x4096x8x64 ![0, 1, 2, 3] bcast_S8x4096x8x1_S8x4096x8x64_0_1_2_3
    (maximumf n (fill S8x4096x8x1 bcast_S_S8x4096x8x1 0x2B8CBCCC#32)))
/-- The key that the state takes. -/
def keyA (k a : FVec Ideal S8x4096x512 .f32) (x8 : FVec Ideal S512 .f32) : FVec Ideal S8x4096x512 .f32 :=
  mulf k (addf (fill S8x4096x512 bcast_S_S8x4096x512 0x3F800000#32)
    (mulf (subf a (fill S8x4096x512 bcast_S_S8x4096x512 0x3F800000#32)) (row512 x8)))
/-- Tokens first. -/
abbrev scanned (x : FVec Ideal S8x4096x8x64 .f32) : FVec Ideal S4096x8x8x64 .f32 :=
  transpose S4096x8x8x64 [1, 0, 2, 3] x transposes_S8x4096x8x64_S4096x8x8x64_1_0_2_3

variable (V : Val)

theorem line0 : after hostOps0 V (Proc.devRef .tc main_c) = constantI S_ 32 0#32 := by after_reads_simp
theorem line_v6 : after hostOps0_2 (after hostOps0_1 V) (Proc.devRef .tc main_v6) = mixA (V (Proc.devRef .tc main_arg0)) (V (Proc.devRef .tc main_arg1)) (V (Proc.devRef .tc main_c)) := by
  after_reads_simp
  rfl
theorem line_v7 : after hostOps0_2 (after hostOps0_1 V) (Proc.devRef .tc main_v7) = extractStridedSlice S8x4096x512 ![0, 0, 0] (mixA (V (Proc.devRef .tc main_arg0)) (V (Proc.devRef .tc main_arg1)) (V (Proc.devRef .tc main_c))) slices_S8x4096x1792_S8x4096x512_0_0_0 := by
  after_reads_simp
  rfl
theorem line_v8 : after hostOps0_2 (after hostOps0_1 V) (Proc.devRef .tc main_v8) = extractStridedSlice S8x4096x512 ![0, 0, 512] (mixA (V (Proc.devRef .tc main_arg0)) (V (Proc.devRef .tc main_arg1)) (V (Proc.devRef .tc main_c))) slices_S8x4096x1792_S8x4096x512_0_0_512 := by
  after_reads_simp
  rfl
theorem line_v9 : after hostOps0_2 (after hostOps0_1 V) (Proc.devRef .tc main_v9) = extractStridedSlice S8x4096x512 ![0, 0, 1024] (mixA (V (Proc.devRef .tc main_arg0)) (V (Proc.devRef .tc main_arg1)) (V (Proc.devRef .tc main_c))) slices_S8x4096x1792_S8x4096x512_0_0_1024 := by
  after_reads_simp
  rfl
theorem line_v11 : after hostOps0_2 (after hostOps0_1 V) (Proc.devRef .tc main_v11) = extractStridedSlice S8x4096x64 ![0, 0, 1600] (mixA (V (Proc.devRef .tc main_arg0)) (V (Proc.devRef .tc main_arg1)) (V (Proc.devRef .tc main_c))) slices_S8x4096x1792_S8x4096x64_0_0_1600 := by
  after_reads_simp
  rfl
theorem line_v12 : after hostOps0_2 (after hostOps0_1 V) (Proc.devRef .tc main_v12) = extractStridedSlice S8x4096x128 ![0, 0, 1664] (mixA (V (Proc.devRef .tc main_arg0)) (V (Proc.devRef .tc main_arg1)) (V (Proc.devRef .tc main_c))) slices_S8x4096x1792_S8x4096x128_0_0_1664 := by
  after_reads_simp
  rfl
theorem line_v18 : after hostOps0_2 (after hostOps0_1 V) (Proc.devRef .tc main_v18) = decA (extractStridedSlice S8x4096x64 ![0, 0, 1536] (mixA (V (Proc.devRef .tc main_arg0)) (V (Proc.devRef .tc main_arg1)) (V (Proc.devRef .tc main_c))) slices_S8x4096x1792_S8x4096x64_0_0_1536) (V (Proc.devRef .tc main_arg2)) (V (Proc.devRef .tc main_arg3)) := by
  after_reads_simp
  rfl
theorem line_v19 : after hostOps0_3 V (Proc.devRef .tc main_v19) = softA (V (Proc.devRef .tc main_v18)) := by
  after_reads_simp
  rfl
theorem line_v22 : after hostOps0_4 V (Proc.devRef .tc main_v22) = subf (Host.negf (V (Proc.devRef .tc main_v19))) (fill S8x4096x512 bcast_S_S8x4096x512 0x3F000000#32) := by
  after_reads_simp
theorem line_v32 : after hostOps0_4 V (Proc.devRef .tc main_v32) = rateA (V (Proc.devRef .tc main_v11)) (V (Proc.devRef .tc main_arg4)) (V (Proc.devRef .tc main_arg5)) := by
  after_reads_simp
  rfl
theorem line_v39 : after hostOps0_4 V (Proc.devRef .tc main_v39) = gateA (V (Proc.devRef .tc main_v12)) (V (Proc.devRef .tc main_arg6)) := by
  after_reads_simp
  rfl
theorem line_v43 : after hostOps0_4 V (Proc.devRef .tc main_v43) = heads (mulf (V (Proc.devRef .tc main_v8)) (row512 (V (Proc.devRef .tc main_arg7)))) := by
  after_reads_simp
  rfl
theorem line_v44 : after hostOps0_5 V (Proc.devRef .tc main_v44) = normA (V (Proc.devRef .tc main_v43)) := by
  after_reads_simp
  rfl
theorem line_v57 : after hostOps0_6 V (Proc.devRef .tc main_v57) = heads (V (Proc.devRef .tc main_v7)) := by
  after_reads_simp
  rfl
theorem line_v58 : after hostOps0_6 V (Proc.devRef .tc main_v58) = heads (keyA (V (Proc.devRef .tc main_v8)) (V (Proc.devRef .tc main_v32)) (V (Proc.devRef .tc main_arg8))) := by
  after_reads_simp
  rfl
theorem line_v59 : after hostOps0_6 V (Proc.devRef .tc main_v59) = heads (V (Proc.devRef .tc main_v9)) := by
  after_reads_simp
  rfl
theorem line_r : after hostOps0_6 V (Proc.devRef .tc main_v75_0) = scanned (heads (V (Proc.devRef .tc main_v7))) := by
  after_reads_simp
  rfl
theorem line_d : after hostOps0_6 V (Proc.devRef .tc main_v75_1) = scanned (Host.exp (Host.negf (Host.exp (heads (V (Proc.devRef .tc main_v22)))))) := by
  after_reads_simp
  rfl
theorem line_k : after hostOps0_6 V (Proc.devRef .tc main_v75_2) = scanned (heads (keyA (V (Proc.devRef .tc main_v8)) (V (Proc.devRef .tc main_v32)) (V (Proc.devRef .tc main_arg8)))) := by
  after_reads_simp
  rfl
theorem line_w : after hostOps0_6 V (Proc.devRef .tc main_v75_3) = scanned (heads (V (Proc.devRef .tc main_v9))) := by
  after_reads_simp
  rfl
theorem line_a : after hostOps0_6 V (Proc.devRef .tc main_v75_4) = scanned (Host.negf (unitA (V (Proc.devRef .tc main_v43)) (V (Proc.devRef .tc main_v44)))) := by
  after_reads_simp
  rfl
theorem line_b : after hostOps0_6 V (Proc.devRef .tc main_v75_5) = scanned (mulf (unitA (V (Proc.devRef .tc main_v43)) (V (Proc.devRef .tc main_v44))) (heads (V (Proc.devRef .tc main_v32)))) := by
  after_reads_simp
  rfl
theorem line_s : after hostOps0_6 V (Proc.devRef .tc main_v75_7) = fill S8x8x64x64 bcast_S_S8x8x64x64 0x00000000#32 := by
  after_reads_simp
  rfl
theorem line_y : after hostOps0_6 V (Proc.devRef .tc main_v75_8) = fill S4096x8x8x64 bcast_S_S4096x8x8x64 0x00000000#32 := by
  after_reads_simp
  rfl

end Cert.Rwkv.Ref

end
-- ==== Proof.RwkvRefVals.lean ====
/- The reference's arrays before its loop, over the real numbers. -/
module

public import proofs.«01_k».proof.Proof.RwkvRefLine

@[expose] public section

set_option maxRecDepth 16384

noncomputable section

namespace Cert.Rwkv.Ref

open Cert.ReferenceIdeal Cert.ReferenceIdeal.Gen
open Idealize.ShloMosaic Idealize.ShloMosaic.ValueIdx

section At
variable {s : Shape} (v w : FVec Ideal s .f32) (ix : s.Idx)

theorem hneg_at : Host.negf v ix = -(v ix) := rfl
theorem hexp_at : Host.exp v ix = Ideal.exp (v ix) := rfl
theorem hdiv_at : Host.divf v w ix = Ideal.div (v ix) (w ix) := rfl
theorem htanh_real (r : ℝ) (h : v ix = ((r : ℝ) : EReal)) : Host.tanh v ix = ((Real.tanh r : ℝ) : EReal) := by
  show Ideal.tanh (v ix) = _
  rw [h]; rfl
theorem habs_at : Host.absf v ix = max (v ix) (-(v ix)) := rfl
theorem hlog1p_at : Host.log1p v ix = Ideal.log (1 + v ix) := rfl
theorem hsqrt_at : Host.sqrt v ix = Ideal.sqrt (v ix) := rfl
theorem hrsqrt_at : Host.rsqrt v ix = Ideal.rsqrt (v ix) := rfl
theorem const_at (x : BitVec 32) : constant (F := Ideal) s .f32 x ix = Ideal.ofBits .f32 x := rfl
theorem fill_at (h : S_.BroadcastsInDim s ![]) (x : BitVec 32) : fill s h x ix = Ideal.ofBits .f32 x := rfl

theorem row512_at (v : FVec Ideal S512 .f32) (b : Fin 8) (t : Fin 4096) (j : Fin 512) : row512 v (ix3 b t j) = v (ix1 j) :=
  row_at v _ _ (by decide) b t j
theorem row1792_at (v : FVec Ideal S1792 .f32) (b : Fin 8) (t : Fin 4096) (j : Fin 1792) : row1792 v (ix3 b t j) = v (ix1 j) :=
  row_at v _ _ (by decide) b t j
theorem heads_ap (v : FVec Ideal S8x4096x512 .f32) (b : Fin 8) (t : Fin 4096) (g : Fin 8) (l : Fin 64) :
    heads v (ix4 b t g l) = v (ix3 b t (chan g l)) := heads_at v _ b t g l

theorem zero_num : Ideal.ofBits .f32 0x00000000#32 = ((0 : ℝ) : EReal) := zero_f32
theorem one_num : Ideal.ofBits .f32 0x3F800000#32 = ((1 : ℝ) : EReal) := one_f32
theorem half_num : Ideal.ofBits .f32 0x3F000000#32 = ((1 / 2 : ℝ) : EReal) := half_f32
theorem eps_num : Ideal.ofBits .f32 0x2B8CBCCC#32 = ((epsNorm : ℝ) : EReal) := epsNorm_pos_coe.1

end At

/-- A sum whose second half is zero, and one whose first half is. -/
theorem sum_low (f : Fin 128 → ℝ) (h : ∀ l : Fin 64, f ⟨64 + l.val, by omega⟩ = 0) : ∑ l, f l = ∑ l : Fin 64, f ⟨l.val, by omega⟩ := by
  rw [show (∑ l, f l) = ∑ l : Fin (64 + 64), f l from rfl, Fin.sum_univ_add]
  rw [show (∑ i : Fin 64, f (Fin.natAdd 64 i)) = 0 from Finset.sum_eq_zero fun i _ => h i, add_zero]
  rfl
theorem sum_high (f : Fin 128 → ℝ) (h : ∀ l : Fin 64, f ⟨l.val, by omega⟩ = 0) : ∑ l, f l = ∑ l : Fin 64, f ⟨64 + l.val, by omega⟩ := by
  rw [show (∑ l, f l) = ∑ l : Fin (64 + 64), f l from rfl, Fin.sum_univ_add]
  rw [show (∑ i : Fin 64, f (Fin.castAdd 64 i)) = 0 from Finset.sum_eq_zero fun i _ => h i, zero_add]
  rfl

variable {x0 : FVec Ideal S8x4096x1792 .f32} {x1 : FVec Ideal ⟨1, ![1792]⟩ .f32} {x2 : FVec Ideal ⟨1, ![512]⟩ .f32}
  {x3 : FVec Ideal ⟨2, ![64, 512]⟩ .f32} {x4 : FVec Ideal ⟨1, ![512]⟩ .f32} {x5 : FVec Ideal ⟨2, ![64, 512]⟩ .f32}
  {x6 : FVec Ideal ⟨2, ![128, 512]⟩ .f32} {x7 x8 : FVec Ideal ⟨1, ![512]⟩ .f32} {x9 : FVec Ideal ⟨2, ![8, 64]⟩ .f32}
  {x10 x11 : FVec Ideal ⟨1, ![512]⟩ .f32}

/-- The mixed rows. -/
theorem mix_val (h0 : Fin? x0) (h1 : Fin? x1) :
    mixA x0 x1 (constantI S_ 32 0#32) = arr3 fun b t k => mixed (parOf x1 x2 x3 x4 x5 x6 x7 x8 x9 x10 x11) (rowsOf x0 b) t.val k := by
  refine ext3 fun b t k => ?_
  have hp : extractStridedSlice S8x4096x1792 ![0, 0, 0]
      (pad S8x4097x1792 ![0, 1, 0] ![0, 0, 0] ![0, 0, 0] x0 (sitofp .f32 (constantI S_ 32 0#32)) pads_S8x4096x1792_S8x4097x1792_000_100_000 h_S_)
      slices_S8x4097x1792_S8x4096x1792_0_0_0 (ix3 b t k) = (((if t.val = 0 then 0 else rowsOf x0 b (t.val - 1) k : ℝ)) : EReal) := by
    rw [extractStridedSlice_apply _ _ _ _ (ix3 b (⟨t.val, by omega⟩ : Fin 4097) k) (fun a => by
      match a with
      | ⟨0, _⟩ => exact (Nat.zero_add _).symm
      | ⟨1, _⟩ => exact (Nat.zero_add _).symm
      | ⟨2, _⟩ => exact (Nat.zero_add _).symm)]
    unfold pad
    by_cases ht : t.val = 0
    · rw [dif_neg (fun hin => by
        have := (hin 1).1
        replace this : 1 ≤ t.val := this
        omega), if_pos ht]
      show (((0#32 : BitVec 32).toInt : ℝ) : EReal) = _
      simp
    · rw [dif_pos (fun a => by
        match a with
        | ⟨0, _⟩ => exact ⟨Nat.zero_le _, Nat.mod_one _, by show (b.val - 0) / 1 < 8; omega⟩
        | ⟨1, _⟩ => exact ⟨by show 1 ≤ t.val; omega, Nat.mod_one _, by show (t.val - 1) / 1 < 4096; omega⟩
        | ⟨2, _⟩ => exact ⟨Nat.zero_le _, Nat.mod_one _, by show (k.val - 0) / 1 < 1792; omega⟩), if_neg ht]
      refine Eq.trans (congrArg x0 (a₂ := ix3 b (⟨t.val - 1, by omega⟩ : Fin 4096) k) (funext fun a => Fin.ext ?_)) ?_
      · match a with
        | ⟨0, _⟩ => show (b.val - 0) / 1 = b.val; omega
        | ⟨1, _⟩ => show (t.val - 1) / 1 = t.val - 1; omega
        | ⟨2, _⟩ => show (k.val - 0) / 1 = k.val; omega
      · rw [rowsOf, dif_pos (show t.val - 1 < 4096 by omega)]
        exact h0 _
  have hx : x0 (ix3 b t k) = ((rowsOf x0 b t.val k : ℝ) : EReal) := by
    rw [rowsOf, dif_pos t.isLt]
    exact h0 _
  unfold mixA
  rw [add_at, mul_at, sub_at, hp, hx, row1792_at x1, h1 (ix1 k), ← EReal.coe_sub, ← EReal.coe_mul, ← EReal.coe_add]
  obtain ⟨t, ht⟩ := t
  cases t with
  | zero => rfl
  | succ n => rfl

variable (X : Fin 8 → Fin 4096 → Fin 1792 → ℝ)

theorem part_val {n : ℕ} (o : ℕ) (ho : o + n ≤ 1792) (h : S8x4096x1792.Slices ![0, 0, o] ⟨3, ![8, 4096, n]⟩) :
    extractStridedSlice ⟨3, ![8, 4096, n]⟩ ![0, 0, o] (arr3 X) h = arr3 fun b t j => part o n ho (X b t) j :=
  ext3 fun b t j => (slice_at o (arr3 X) h b t j (by omega)).trans rfl

/-- The decay's argument. -/
theorem dec_val (h2 : Fin? x2) (h3 : Fin? x3) :
    decA (arr3 fun b t j => part 1536 64 (by omega) (X b t) j) x2 x3
      = arr3 fun b t j => -((parOf x1 x2 x3 x4 x5 x6 x7 x8 x9 x10 x11).w0 j + ∑ l, Real.tanh (waOf (X b t) l) * (parOf x1 x2 x3 x4 x5 x6 x7 x8 x9 x10 x11).w2 l j) := by
  refine ext3 fun b t j => ?_
  unfold decA
  rw [hneg_at, add_at, row512_at x2, dot64_at, h2 (ix1 j), sum_low _ (fun l => ?_), EReal.coe_neg, EReal.coe_add, coe_sum]
  · refine congrArg (fun z => -(_ + z)) (Finset.sum_congr rfl fun l _ => ?_)
    rw [htanh_real _ _ _ (arr3_at _ b t l), h3 (ix2 l j), ← EReal.coe_mul]
    refine congrArg (fun z : ℝ => (z : EReal)) ?_
    have e : (parOf x1 x2 x3 x4 x5 x6 x7 x8 x9 x10 x11).w2 ⟨l.val, by omega⟩ j = (x3 (ix2 l j) : EReal).toReal := dif_pos l.isLt
    rw [e]; rfl
  · have e : (parOf x1 x2 x3 x4 x5 x6 x7 x8 x9 x10 x11).w2 ⟨64 + l.val, by omega⟩ j = 0 := dif_neg (by show ¬ (64 + l.val < 64); omega)
    rw [e, mul_zero]

/-- The softplus. -/
theorem soft_val (z : T3 512) : softA (arr3 z) = arr3 fun b t j => softp (z b t j) := by
  refine ext3 fun b t j => ?_
  have hc : cmpf (F := Ideal) .une (subf (arr3 z) (fill S8x4096x512 bcast_S_S8x4096x512 0x00000000#32))
      (subf (arr3 z) (fill S8x4096x512 bcast_S_S8x4096x512 0x00000000#32)) (ix3 b t j) = 0#1 := by
    show Ideal.cmp .une _ _ = _
    simp [Ideal.cmp]
  unfold softA
  rw [select_apply, hc, select_zero]
  simp only [add_at, max_at, hlog1p_at, hexp_at, hneg_at, habs_at, sub_at, fill_at, arr3_at, zero_num, ← EReal.coe_sub, sub_zero, abs_real,
    max_real, ← EReal.coe_neg, exp_real, ← EReal.coe_one, ← EReal.coe_add]
  rw [log_real _ (by positivity), ← EReal.coe_add]
  rfl

/-- The logistic function. -/
theorem sig_val {n : ℕ} (h : S_.BroadcastsInDim ⟨3, ![8, 4096, n]⟩ ![]) (z : T3 n) : sigA h (arr3 z) = arr3 fun b t j => sigm (z b t j) := by
  refine ext3 fun b t j => ?_
  unfold sigA
  simp only [hdiv_at, add_at, hexp_at, hneg_at, fill_at, arr3_at, one_num, ← EReal.coe_neg, exp_real, ← EReal.coe_add]
  exact logistic_real _

/-- The in-context rate. -/
theorem rate_val (h4 : Fin? x4) (h5 : Fin? x5) :
    rateA (arr3 fun b t j => part 1600 64 (by omega) (X b t) j) x4 x5
      = arr3 fun b t j => (parOf x1 x2 x3 x4 x5 x6 x7 x8 x9 x10 x11).rate (X b t) j := by
  have e : addf (row512 x4) (Host.dotGeneral dot_S8x4096x64_S64x512_S8x4096x512_2_0_01_1_n_n none
      (arr3 fun b t j => part 1600 64 (by omega) (X b t) j) x5)
      = arr3 fun b t j => (parOf x1 x2 x3 x4 x5 x6 x7 x8 x9 x10 x11).a0 j + ∑ l, waOf (X b t) l * (parOf x1 x2 x3 x4 x5 x6 x7 x8 x9 x10 x11).a2 l j := by
    refine ext3 fun b t j => ?_
    rw [add_at, row512_at x4, dot64_at, h4 (ix1 j), sum_high _ (fun l => ?_), EReal.coe_add, coe_sum]
    · refine congrArg (_ + ·) (Finset.sum_congr rfl fun l _ => ?_)
      rw [arr3_at, h5 (ix2 l j), ← EReal.coe_mul]
      refine congrArg (fun z : ℝ => (z : EReal)) ?_
      have e : (parOf x1 x2 x3 x4 x5 x6 x7 x8 x9 x10 x11).a2 ⟨64 + l.val, by omega⟩ j = (x5 (ix2 l j) : EReal).toReal := by
        refine (dif_neg (by show ¬ (64 + l.val < 64); omega)).trans ?_
        refine congrArg (fun q => (x5 (ix2 q j) : EReal).toReal) (Fin.ext ?_)
        show 64 + l.val - 64 = l.val
        omega
      rw [e]
      refine congrArg (· * _) (congrArg (X b t) (Fin.ext ?_))
      show 1600 + l.val = 1536 + (64 + l.val)
      omega
    · have e : (parOf x1 x2 x3 x4 x5 x6 x7 x8 x9 x10 x11).a2 ⟨l.val, by omega⟩ j = 0 := dif_pos l.isLt
      rw [e, mul_zero]
  unfold rateA
  rw [e, sig_val]
  rfl

/-- The gate. -/
theorem gate_val (h6 : Fin? x6) :
    gateA (arr3 fun b t j => part 1664 128 (by omega) (X b t) j) x6
      = arr3 fun b t j => (parOf x1 x2 x3 x4 x5 x6 x7 x8 x9 x10 x11).gate (X b t) j := by
  refine ext3 fun b t j => ?_
  unfold gateA
  rw [sig_val, dot128_at, Par.gate, coe_sum]
  refine Finset.sum_congr rfl fun l _ => ?_
  rw [arr3_at, h6 (ix2 l j), ← EReal.coe_mul]
  rfl

theorem heads_val (z : T3 512) : heads (arr3 z) = arr4 fun b t g l => z b t (chan g l) :=
  ext4 fun b t g l => (heads_at (arr3 z) _ b t g l).trans rfl

/-- The key before its normalisation. -/
theorem key0_val (h7 : Fin? x7) :
    mulf (arr3 fun b t j => part 512 512 (by omega) (X b t) j) (row512 x7)
      = arr3 fun b t j => (parOf x1 x2 x3 x4 x5 x6 x7 x8 x9 x10 x11).key0 (X b t) j := by
  refine ext3 fun b t j => ?_
  rw [mul_at, row512_at x7, arr3_at, h7 (ix1 j), ← EReal.coe_mul]
  rfl

theorem norm_val (f : T4) (b : Fin 8) (t : Fin 4096) (g : Fin 8) :
    normA (arr4 f) (ix4 b t g 0) = ((Real.sqrt (∑ l, f b t g l * f b t g l) : ℝ) : EReal) := by
  unfold normA
  rw [hsqrt_at, keep_at, show mulf (arr4 f) (arr4 f) = arr4 (fun b t g l => f b t g l * f b t g l) from
    ext4 fun b t g l => by rw [mul_at, arr4_at, ← EReal.coe_mul], reduce_at, sqrt_real _ (Finset.sum_nonneg fun l _ => mul_self_nonneg _)]

/-- The normalised key. -/
theorem unit_val (P : Par) :
    unitA (arr4 fun b t g l => P.key0 (X b t) (chan g l)) (normA (arr4 fun b t g l => P.key0 (X b t) (chan g l)))
      = arr4 fun b t g l => P.kn (X b t) (chan g l) := by
  refine ext4 fun b t g l => ?_
  unfold unitA
  rw [hdiv_at, spread_at, max_at, norm_val, fill_at, eps_num, arr4_at, max_real]
  rw [div_real _ _ (lt_of_lt_of_le epsNorm_pos_coe.2 (le_max_right _ _)).ne', Par.kn, headSum_head, mul_one_div]

/-- The key that the state takes. -/
theorem key_val (h8 : Fin? x8) :
    keyA (arr3 fun b t j => part 512 512 (by omega) (X b t) j) (arr3 fun b t j => (parOf x1 x2 x3 x4 x5 x6 x7 x8 x9 x10 x11).rate (X b t) j) x8
      = arr3 fun b t j => (parOf x1 x2 x3 x4 x5 x6 x7 x8 x9 x10 x11).key (X b t) j := by
  refine ext3 fun b t j => ?_
  unfold keyA
  rw [mul_at, add_at, mul_at, sub_at, row512_at x8, fill_at, one_num, arr3_at, arr3_at, h8 (ix1 j), ← EReal.coe_sub, ← EReal.coe_mul,
    ← EReal.coe_add, ← EReal.coe_mul]
  rfl

/-- The decay. -/
theorem ld_val (P : Par) :
    Host.exp (Host.negf (Host.exp (heads (subf (Host.negf (arr3 fun b t j => softp (-(P.w0 j + ∑ l, Real.tanh (waOf (X b t) l) * P.w2 l j))))
      (fill S8x4096x512 bcast_S_S8x4096x512 0x3F000000#32)))))
      = arr4 fun b t g l => Real.exp (P.ld (X b t) (chan g l)) := by
  refine ext4 fun b t g l => ?_
  rw [hexp_at, hneg_at, hexp_at, heads_ap, sub_at, hneg_at, fill_at, half_num, arr3_at, ← EReal.coe_neg, ← EReal.coe_sub, exp_real, ← EReal.coe_neg, exp_real]
  rfl

end Cert.Rwkv.Ref

end
-- ==== Proof.RwkvRefEntry.lean ====
/- What the reference's loop starts from, over the real numbers. -/
module

public import proofs.«01_k».proof.Proof.RwkvRefVals
public import proofs.«01_k».proof.Proof.RwkvRefFrame

@[expose] public section

set_option maxRecDepth 16384

noncomputable section

namespace Cert.Rwkv.Ref

open Cert.ReferenceIdeal Cert.ReferenceIdeal.Gen Cert.ReferenceIdeal.Value
open Idealize.ShloMosaic Idealize.ShloMosaic.ValueIdx Idealize.ShloMosaic.TcCoe Idealize.SL.Sem Idealize.ShloMosaic.StableHlo

variable (m : (ℓ : Loc nD τ sig) → Buf (Elt Ideal) ℓ) (c : Dev nD)

/-- Every argument is real everywhere. -/
structure RealArgs : Prop where
  h0 : Fin? (m ((c : Thread nD τ).loc main_arg0))
  h1 : Fin? (m ((c : Thread nD τ).loc main_arg1))
  h2 : Fin? (m ((c : Thread nD τ).loc main_arg2))
  h3 : Fin? (m ((c : Thread nD τ).loc main_arg3))
  h4 : Fin? (m ((c : Thread nD τ).loc main_arg4))
  h5 : Fin? (m ((c : Thread nD τ).loc main_arg5))
  h6 : Fin? (m ((c : Thread nD τ).loc main_arg6))
  h7 : Fin? (m ((c : Thread nD τ).loc main_arg7))
  h8 : Fin? (m ((c : Thread nD τ).loc main_arg8))
  h9 : Fin? (m ((c : Thread nD τ).loc main_arg9))
  h10 : Fin? (m ((c : Thread nD τ).loc main_arg10))
  h11 : Fin? (m ((c : Thread nD τ).loc main_arg11))

/-- The weights of the arguments. -/
abbrev parR : Par := parOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
/-- The token rows of the arguments. -/
abbrev rowsR : Fin 8 → ℕ → Fin 1792 → ℝ := rowsOf (m ((c : Thread nD τ).loc main_arg0))
/-- The mixed rows. -/
abbrev xR (b : Fin 8) (t : Fin 4096) : Fin 1792 → ℝ := mixed (parR m c) (rowsR m c b) t.val

/-- The contents after the first stretches. -/
abbrev C2 : Val := after hostOps0_2 (after hostOps0_1 (after hostOps0 (launchContents m c)))
abbrev C3 : Val := after hostOps0_3 (C2 m c)
abbrev C4 : Val := after hostOps0_4 (C3 m c)
abbrev C5 : Val := after hostOps0_5 (C4 m c)
/-- The contents at the loop's entry. -/
abbrev C6 : Val := after hostOps0_6 (C5 m c)

theorem entry_eq : entryContents preI m c = C6 m c := rfl

theorem keep0 (r : Ref sig .tc) (h : r ∉ hostOps0_W) : after hostOps0 (launchContents m c) (Proc.devRef .tc r) = m ((c.tc : Thread nD τ).loc r) :=
  (after_of_writes_sub hostOps0 _ hostOps0_writes h).trans rfl
theorem keep2 (r : Ref sig .tc) (h0 : r ∉ hostOps0_W) (h1 : r ∉ hostOps0_1_W) (h2 : r ∉ hostOps0_2_W) :
    C2 m c (Proc.devRef .tc r) = m ((c.tc : Thread nD τ).loc r) := by
  rw [C2, after_of_writes_sub hostOps0_2 _ hostOps0_2_writes h2, after_of_writes_sub hostOps0_1 _ hostOps0_1_writes h1, keep0 m c r h0]
theorem keep3 (r : Ref sig .tc) (h : r ∉ hostOps0_3_W) : C3 m c (Proc.devRef .tc r) = C2 m c (Proc.devRef .tc r) :=
  after_of_writes_sub hostOps0_3 _ hostOps0_3_writes h
theorem keep4 (r : Ref sig .tc) (h : r ∉ hostOps0_4_W) : C4 m c (Proc.devRef .tc r) = C3 m c (Proc.devRef .tc r) :=
  after_of_writes_sub hostOps0_4 _ hostOps0_4_writes h
theorem keep5 (r : Ref sig .tc) (h : r ∉ hostOps0_5_W) : C5 m c (Proc.devRef .tc r) = C4 m c (Proc.devRef .tc r) :=
  after_of_writes_sub hostOps0_5 _ hostOps0_5_writes h
theorem keep6 (r : Ref sig .tc) (h : r ∉ hostOps0_6_W) : C6 m c (Proc.devRef .tc r) = C5 m c (Proc.devRef .tc r) :=
  after_of_writes_sub hostOps0_6 _ hostOps0_6_writes h

/-- An argument before the last two stretches. -/
theorem argAt (r : Ref sig .tc) (h0 : r ∉ hostOps0_W) (h1 : r ∉ hostOps0_1_W) (h2 : r ∉ hostOps0_2_W) (h3 : r ∉ hostOps0_3_W) :
    C3 m c (Proc.devRef .tc r) = m ((c.tc : Thread nD τ).loc r) := (keep3 m c r h3).trans (keep2 m c r h0 h1 h2)

variable {m c} (r : RealArgs m c)
include r

theorem at_mix : mixA (after hostOps0 (launchContents m c) (Proc.devRef .tc main_arg0)) (after hostOps0 (launchContents m c) (Proc.devRef .tc main_arg1))
    (after hostOps0 (launchContents m c) (Proc.devRef .tc main_c)) = arr3 (xR m c) := by
  rw [line0, keep0 m c main_arg0 (by decide), keep0 m c main_arg1 (by decide)]
  exact mix_val r.h0 r.h1

theorem at_r : C2 m c (Proc.devRef .tc main_v7) = arr3 fun b t j => part 0 512 (by omega) (xR m c b t) j := by
  rw [C2, line_v7, at_mix r]
  exact part_val (xR m c) 0 (by omega) _
theorem at_k : C2 m c (Proc.devRef .tc main_v8) = arr3 fun b t j => part 512 512 (by omega) (xR m c b t) j := by
  rw [C2, line_v8, at_mix r]
  exact part_val (xR m c) 512 (by omega) _
theorem at_v : C2 m c (Proc.devRef .tc main_v9) = arr3 fun b t j => part 1024 512 (by omega) (xR m c b t) j := by
  rw [C2, line_v9, at_mix r]
  exact part_val (xR m c) 1024 (by omega) _
theorem at_ad : C2 m c (Proc.devRef .tc main_v11) = arr3 fun b t j => part 1600 64 (by omega) (xR m c b t) j := by
  rw [C2, line_v11, at_mix r]
  exact part_val (xR m c) 1600 (by omega) _
theorem at_gd : C2 m c (Proc.devRef .tc main_v12) = arr3 fun b t j => part 1664 128 (by omega) (xR m c b t) j := by
  rw [C2, line_v12, at_mix r]
  exact part_val (xR m c) 1664 (by omega) _
theorem at_dec : C2 m c (Proc.devRef .tc main_v18)
    = arr3 fun b t j => -((parR m c).w0 j + ∑ l, Real.tanh (waOf (xR m c b t) l) * (parR m c).w2 l j) := by
  rw [C2, line_v18, at_mix r, keep0 m c main_arg2 (by decide), keep0 m c main_arg3 (by decide), part_val (n := 64) (xR m c) 1536 (by omega)]
  exact dec_val (xR m c) r.h2 r.h3
theorem at_soft : C3 m c (Proc.devRef .tc main_v19)
    = arr3 fun b t j => softp (-((parR m c).w0 j + ∑ l, Real.tanh (waOf (xR m c b t) l) * (parR m c).w2 l j)) := by
  rw [C3, line_v19, at_dec r]
  exact soft_val _
theorem at_rate : C4 m c (Proc.devRef .tc main_v32) = arr3 fun b t j => (parR m c).rate (xR m c b t) j := by
  rw [C4, line_v32, keep3 m c main_v11 (by decide), at_ad r, argAt m c main_arg4 (by decide) (by decide) (by decide) (by decide),
    argAt m c main_arg5 (by decide) (by decide) (by decide) (by decide)]
  exact rate_val (xR m c) r.h4 r.h5
theorem at_gate : C4 m c (Proc.devRef .tc main_v39) = arr3 fun b t j => (parR m c).gate (xR m c b t) j := by
  rw [C4, line_v39, keep3 m c main_v12 (by decide), at_gd r, argAt m c main_arg6 (by decide) (by decide) (by decide) (by decide)]
  exact gate_val (xR m c) r.h6
theorem at_key0 : C4 m c (Proc.devRef .tc main_v43) = arr4 fun b t g l => (parR m c).key0 (xR m c b t) (chan g l) := by
  rw [C4, line_v43, keep3 m c main_v8 (by decide), at_k r, argAt m c main_arg7 (by decide) (by decide) (by decide) (by decide)]
  exact (congrArg heads (key0_val (xR m c) r.h7)).trans (heads_val _)
theorem at_unit : unitA (C5 m c (Proc.devRef .tc main_v43)) (C5 m c (Proc.devRef .tc main_v44))
    = arr4 fun b t g l => (parR m c).kn (xR m c b t) (chan g l) := by
  rw [C5, line_v44, after_of_writes_sub hostOps0_5 _ hostOps0_5_writes (show main_v43 ∉ hostOps0_5_W by decide), at_key0 r]
  exact unit_val (xR m c) (parR m c)
theorem at_rate5 : C5 m c (Proc.devRef .tc main_v32) = arr3 fun b t j => (parR m c).rate (xR m c b t) j :=
  (keep5 m c main_v32 (by decide)).trans (at_rate r)
theorem at_key : heads (keyA (C5 m c (Proc.devRef .tc main_v8)) (C5 m c (Proc.devRef .tc main_v32)) (C5 m c (Proc.devRef .tc main_arg8)))
    = arr4 fun b t g l => (parR m c).key (xR m c b t) (chan g l) := by
  rw [at_rate5 r, keep5 m c main_v8 (by decide), keep4 m c main_v8 (by decide), keep3 m c main_v8 (by decide), at_k r,
    keep5 m c main_arg8 (by decide), keep4 m c main_arg8 (by decide), argAt m c main_arg8 (by decide) (by decide) (by decide) (by decide)]
  exact (congrArg heads (key_val (xR m c) r.h8)).trans (heads_val _)
theorem at_rh : heads (C5 m c (Proc.devRef .tc main_v7)) = arr4 fun b t g l => rOf (xR m c b t) (chan g l) := by
  rw [keep5 m c main_v7 (by decide), keep4 m c main_v7 (by decide), keep3 m c main_v7 (by decide), at_r r]
  exact heads_val _
theorem at_vh : heads (C5 m c (Proc.devRef .tc main_v9)) = arr4 fun b t g l => vOf (xR m c b t) (chan g l) := by
  rw [keep5 m c main_v9 (by decide), keep4 m c main_v9 (by decide), keep3 m c main_v9 (by decide), at_v r]
  exact heads_val _

theorem in_r : C6 m c (Proc.devRef .tc main_v75_0) = arrS fun b t g l => rOf (xR m c b t) (chan g l) := by
  rw [C6, line_r]
  exact swap_in _ _ _ (at_rh r)
theorem in_d : C6 m c (Proc.devRef .tc main_v75_1) = arrS fun b t g l => Real.exp ((parR m c).ld (xR m c b t) (chan g l)) := by
  rw [C6, line_d]
  refine swap_in _ _ _ ?_
  rw [keep5 m c main_v22 (by decide), C4, line_v22, at_soft r]
  exact ld_val (xR m c) (parR m c)
theorem in_k : C6 m c (Proc.devRef .tc main_v75_2) = arrS fun b t g l => (parR m c).key (xR m c b t) (chan g l) := by
  rw [C6, line_k]
  exact swap_in _ _ _ (at_key r)
theorem in_v : C6 m c (Proc.devRef .tc main_v75_3) = arrS fun b t g l => vOf (xR m c b t) (chan g l) := by
  rw [C6, line_w]
  exact swap_in _ _ _ (at_vh r)
theorem in_a : C6 m c (Proc.devRef .tc main_v75_4) = arrS fun b t g l => -(parR m c).kn (xR m c b t) (chan g l) := by
  rw [C6, line_a]
  refine swap_in _ _ _ ?_
  rw [at_unit r]
  exact ext4 fun b t g l => by rw [hneg_at, arr4_at, ← EReal.coe_neg]
theorem in_b : C6 m c (Proc.devRef .tc main_v75_5) = arrS fun b t g l => (parR m c).ba (xR m c b t) (chan g l) := by
  rw [C6, line_b]
  refine swap_in _ _ _ ?_
  rw [at_unit r, at_rate5 r, heads_val]
  exact ext4 fun b t g l => by rw [mul_at, arr4_at, arr4_at, ← EReal.coe_mul]; rfl

/-- What the operations after the loop still need. -/
theorem out_r : C6 m c (Proc.devRef .tc main_v57) = arr4 fun b t g l => rOf (xR m c b t) (chan g l) := by
  rw [C6, line_v57]; exact at_rh r
theorem out_k : C6 m c (Proc.devRef .tc main_v58) = arr4 fun b t g l => (parR m c).key (xR m c b t) (chan g l) := by
  rw [C6, line_v58]; exact at_key r
theorem out_v : C6 m c (Proc.devRef .tc main_v59) = arr4 fun b t g l => vOf (xR m c b t) (chan g l) := by
  rw [C6, line_v59]; exact at_vh r
theorem out_gate : C6 m c (Proc.devRef .tc main_v39) = arr3 fun b t j => (parR m c).gate (xR m c b t) j :=
  (keep6 m c main_v39 (by decide)).trans ((keep5 m c main_v39 (by decide)).trans (at_gate r))
theorem out_val : C6 m c (Proc.devRef .tc main_v9) = arr3 fun b t j => vOf (xR m c b t) j :=
  (keep6 m c main_v9 (by decide)).trans ((keep5 m c main_v9 (by decide)).trans ((keep4 m c main_v9 (by decide)).trans
    ((keep3 m c main_v9 (by decide)).trans (at_v r))))

omit r in
theorem in_s : C6 m c (Proc.devRef .tc main_v75_7) = fill S8x8x64x64 bcast_S_S8x8x64x64 0x00000000#32 := by rw [C6, line_s]

end Cert.Rwkv.Ref

end
-- ==== Proof.RwkvRefLoop.lean ====
/- The reference's loop over the tokens: its state and its read-outs are the recurrence's. -/
module

public import proofs.«01_k».proof.Proof.RwkvRefEntry
public import Idealize.ShloMosaic.Lib.DynamicIndex

@[expose] public section

set_option maxRecDepth 16384

noncomputable section

namespace Cert.Rwkv.Ref

open Cert.ReferenceIdeal Cert.ReferenceIdeal.Gen Cert.ReferenceIdeal.Value
open Idealize.ShloMosaic Idealize.ShloMosaic.ValueIdx Idealize.ShloMosaic.TcCoe Idealize.SL.Sem Idealize.ShloMosaic.StableHlo

/-- Where the block of one token starts. -/
def starts (w : (⟨S_, .i32⟩ : BufTy).Contents (Elt Ideal)) : Fin 4 → Int := fun k =>
  (((![w, constantI S_ 32 0#32, constantI S_ 32 0#32, constantI S_ 32 0#32] : Fin 4 → (⟨S_, .i32⟩ : BufTy).Contents (Elt Ideal))) k
    (Shape.Idx.first h_S_)).toInt

/-- One token's row of an array that has the tokens first. -/
def tok (x : FVec Ideal S4096x8x8x64 .f32) (w : (⟨S_, .i32⟩ : BufTy).Contents (Elt Ideal)) : FVec Ideal S8x8x64 .f32 :=
  shapeCast S8x8x64 (Host.dynamicSlice S1x8x8x64 x (starts w) sliceFits_S4096x8x8x64_S1x8x8x64) shapeCasts_S1x8x8x64_S8x8x64

theorem starts_at {w : (⟨S_, .i32⟩ : BufTy).Contents (Elt Ideal)} {k : ℕ} (hk : k < 4096) (hw : w = fun _ => Scf.iv 0#32 1#32 k)
    (a : Fin 4) : starts w a = ((![k, 0, 0, 0] : Fin 4 → ℕ) a : Int) := by
  subst hw
  match a with
  | ⟨0, _⟩ =>
    show (Scf.iv 0#32 1#32 k).toInt = (k : ℤ)
    rw [Scf.iv, BitVec.mul_one, BitVec.zero_add]
    exact toInt_ofNat_of_lt (by omega)
  | ⟨1, _⟩ => rfl
  | ⟨2, _⟩ => rfl
  | ⟨3, _⟩ => rfl

theorem tok_at (f : T4) {w : (⟨S_, .i32⟩ : BufTy).Contents (Elt Ideal)} (k : Fin 4096) (hw : w = fun _ => Scf.iv 0#32 1#32 k.val)
    (b g : Fin 8) (l : Fin 64) : tok (arrS f) w (ix3 b g l) = ((f b k g l : ℝ) : EReal) := by
  unfold tok
  rw [Host.dynamicSlice_eq_extractStridedSlice S1x8x8x64 (arrS f) (starts w) ![k.val, 0, 0, 0] _
    ⟨rfl, fun a => by
      match a with
      | ⟨0, _⟩ => show k.val + 1 ≤ 4096; omega
      | ⟨1, _⟩ => show 0 + 8 ≤ 8; omega
      | ⟨2, _⟩ => show 0 + 8 ≤ 8; omega
      | ⟨3, _⟩ => show 0 + 64 ≤ 64; omega⟩ (fun a => starts_at k.isLt hw a)]
  rw [shapeCast_apply _ _ _ (ix4 (0 : Fin 1) b g l) (by
    rw [Shape.rowMajor_val_four, Shape.rowMajor_val_three]
    show ((0 * 8 + b.val) * 8 + g.val) * 64 + l.val = (b.val * 8 + g.val) * 64 + l.val
    omega)]
  exact extractStridedSlice_apply _ (arrS f) _ _ (ix4 k b g l) (fun a => by
    match a with
    | ⟨0, _⟩ => rfl
    | ⟨1, _⟩ => exact (Nat.zero_add _).symm
    | ⟨2, _⟩ => exact (Nat.zero_add _).symm
    | ⟨3, _⟩ => exact (Nat.zero_add _).symm)

/-- The states of all heads of all sequences. -/
def stA (S : Fin 8 → Fin 8 → Mat) : FVec Ideal S8x8x64x64 .f32 := fun i => ((S (i 0) (i 1) (i 2) (i 3) : ℝ) : EReal)
theorem stA_at (S : Fin 8 → Fin 8 → Mat) (b g : Fin 8) (p l : Fin 64) : stA S (ix4 b g p l) = ((S b g p l : ℝ) : EReal) := rfl

theorem wide_at (v : FVec Ideal S8x8x64 .f32) (b g : Fin 8) (p l : Fin 64) :
    broadcastInDim S8x8x64x64 ![0, 1, 2, 3] bcast_S8x8x1x64_S8x8x64x64_0_1_2_3 (broadcastInDim S8x8x1x64 ![0, 1, 3] bcast_S8x8x64_S8x8x1x64_0_1_3 v)
      (ix4 b g p l) = v (ix3 b g l) := by
  rw [broadcastInDim_apply _ bcast_S8x8x1x64_S8x8x64x64_0_1_2_3 _ _ (ix4 b g (0 : Fin 1) l) (fun a => by
    match a with | ⟨0, _⟩ => rfl | ⟨1, _⟩ => rfl | ⟨2, _⟩ => rfl | ⟨3, _⟩ => rfl)]
  exact broadcastInDim_apply _ _ v _ (ix3 b g l) (fun a => by
    match a with | ⟨0, _⟩ => rfl | ⟨1, _⟩ => rfl | ⟨2, _⟩ => rfl)
theorem tall_at (v : FVec Ideal S8x8x64 .f32) (b g : Fin 8) (p l : Fin 64) :
    broadcastInDim S8x8x64x64 ![0, 1, 2, 3] bcast_S8x8x64x1_S8x8x64x64_0_1_2_3 (broadcastInDim S8x8x64x1 ![0, 1, 2] bcast_S8x8x64_S8x8x64x1_0_1_2 v)
      (ix4 b g p l) = v (ix3 b g p) := by
  rw [broadcastInDim_apply _ bcast_S8x8x64x1_S8x8x64x64_0_1_2_3 _ _ (ix4 b g p (0 : Fin 1)) (fun a => by
    match a with | ⟨0, _⟩ => rfl | ⟨1, _⟩ => rfl | ⟨2, _⟩ => rfl | ⟨3, _⟩ => rfl)]
  exact broadcastInDim_apply _ _ v _ (ix3 b g p) (fun a => by
    match a with | ⟨0, _⟩ => rfl | ⟨1, _⟩ => rfl | ⟨2, _⟩ => rfl)

theorem res_eq (V : Val) : res_main_while0b_v135 V =
    addf (addf (mulf (V (Proc.devRef .tc main_v75_7))
        (broadcastInDim S8x8x64x64 ![0, 1, 2, 3] bcast_S8x8x1x64_S8x8x64x64_0_1_2_3 (broadcastInDim S8x8x1x64 ![0, 1, 3] bcast_S8x8x64_S8x8x1x64_0_1_3
          (tok (V (Proc.devRef .tc main_v75_1)) (V (Proc.devRef .tc main_v75_6))))))
      (mulf (broadcastInDim S8x8x64x64 ![0, 1, 2, 3] bcast_S8x8x64x1_S8x8x64x64_0_1_2_3 (broadcastInDim S8x8x64x1 ![0, 1, 2] bcast_S8x8x64_S8x8x64x1_0_1_2
          (Host.dotGeneral (F := Ideal) (φ₁ := .f32) (φ₂ := .f32) dot_S8x8x64x64_S8x8x64_S8x8x64_3_2_2_n_01_01 none (V (Proc.devRef .tc main_v75_7) : FVec Ideal S8x8x64x64 .f32)
            (tok (V (Proc.devRef .tc main_v75_4)) (V (Proc.devRef .tc main_v75_6))))))
        (broadcastInDim S8x8x64x64 ![0, 1, 2, 3] bcast_S8x8x1x64_S8x8x64x64_0_1_2_3 (broadcastInDim S8x8x1x64 ![0, 1, 3] bcast_S8x8x64_S8x8x1x64_0_1_3
          (tok (V (Proc.devRef .tc main_v75_5)) (V (Proc.devRef .tc main_v75_6)))))))
    (mulf (broadcastInDim S8x8x64x64 ![0, 1, 2, 3] bcast_S8x8x64x1_S8x8x64x64_0_1_2_3 (broadcastInDim S8x8x64x1 ![0, 1, 2] bcast_S8x8x64_S8x8x64x1_0_1_2
        (tok (V (Proc.devRef .tc main_v75_3)) (V (Proc.devRef .tc main_v75_6)))))
      (broadcastInDim S8x8x64x64 ![0, 1, 2, 3] bcast_S8x8x1x64_S8x8x64x64_0_1_2_3 (broadcastInDim S8x8x1x64 ![0, 1, 3] bcast_S8x8x64_S8x8x1x64_0_1_3
        (tok (V (Proc.devRef .tc main_v75_2)) (V (Proc.devRef .tc main_v75_6)))))) := rfl

theorem step_eq (V : Val) : step_main_v75_8 V =
    Host.dynamicUpdateSlice (V (Proc.devRef .tc main_v75_8) : FVec Ideal S4096x8x8x64 .f32) (broadcastInDim S1x8x8x64 ![1, 2, 3] bcast_S8x8x64_S1x8x8x64_1_2_3
      (Host.dotGeneral (F := Ideal) (φ₁ := .f32) (φ₂ := .f32) dot_S8x8x64x64_S8x8x64_S8x8x64_3_2_2_n_01_01 none (res_main_while0b_v135 V)
        (tok (V (Proc.devRef .tc main_v75_0)) (V (Proc.devRef .tc main_v75_6)))))
      (starts (V (Proc.devRef .tc main_v75_6))) updateFits_S4096x8x8x64_S1x8x8x64 := by
  unfold step_main_v75_8
  exact congrArg (fun w => Host.dynamicUpdateSlice (V (Proc.devRef .tc main_v75_8) : FVec Ideal S4096x8x8x64 .f32) w (starts (V (Proc.devRef .tc main_v75_6))) updateFits_S4096x8x8x64_S1x8x8x64) rfl

/-- One trip's state, from contents whose carried arrays are real. -/
theorem trip_state (V : Val) (k : Fin 4096) (hw : V (Proc.devRef .tc main_v75_6) = fun _ => Scf.iv 0#32 1#32 k.val)
    {S : Fin 8 → Fin 8 → Mat} (hS : V (Proc.devRef .tc main_v75_7) = stA S) {d kk v a b' : T4}
    (hd : V (Proc.devRef .tc main_v75_1) = arrS d) (hk : V (Proc.devRef .tc main_v75_2) = arrS kk) (hv : V (Proc.devRef .tc main_v75_3) = arrS v)
    (ha : V (Proc.devRef .tc main_v75_4) = arrS a) (hb : V (Proc.devRef .tc main_v75_5) = arrS b') (b g : Fin 8) (p l : Fin 64) :
    res_main_while0b_v135 V (ix4 b g p l)
      = ((S b g p l * d b k g l + (∑ q, S b g p q * a b k g q) * b' b k g l + v b k g p * kk b k g l : ℝ) : EReal) := by
  rw [res_eq, hS, hd, hk, hv, ha, hb]
  rw [add_at, add_at, mul_at, mul_at, mul_at, wide_at, tall_at, wide_at, tall_at, wide_at, dotS_at]
  rw [stA_at, tok_at d k hw, tok_at kk k hw, tok_at v k hw, tok_at b' k hw, ← EReal.coe_mul, ← EReal.coe_mul,
    Finset.sum_congr rfl (fun q _ => by rw [stA_at, tok_at a k hw, ← EReal.coe_mul]), ← coe_sum, ← EReal.coe_mul, ← EReal.coe_add, ← EReal.coe_add]

/-- One token's row of the read-outs is replaced. -/
theorem put_at (y : FVec Ideal S4096x8x8x64 .f32) (u : FVec Ideal S8x8x64 .f32) {w : (⟨S_, .i32⟩ : BufTy).Contents (Elt Ideal)} (k : Fin 4096)
    (hw : w = fun _ => Scf.iv 0#32 1#32 k.val) (t : Fin 4096) (b g : Fin 8) (p : Fin 64) :
    Host.dynamicUpdateSlice y (broadcastInDim S1x8x8x64 ![1, 2, 3] bcast_S8x8x64_S1x8x8x64_1_2_3 u) (starts w) updateFits_S4096x8x8x64_S1x8x8x64
      (ix4 t b g p) = if t = k then u (ix3 b g p) else y (ix4 t b g p) := by
  have hq : ∀ a : Fin 4, (min (max (starts w a) 0)
      ((S4096x8x8x64.size a - S1x8x8x64.size a : ℕ) : Int)).toNat = (![k.val, 0, 0, 0] : Fin 4 → ℕ) a := fun a => by
    rw [starts_at k.isLt hw a]
    match a with
    | ⟨0, _⟩ => show (min (max (k.val : ℤ) 0) ((4096 - 1 : ℕ) : ℤ)).toNat = k.val; omega
    | ⟨1, _⟩ => rfl
    | ⟨2, _⟩ => rfl
    | ⟨3, _⟩ => rfl
  have hfit : S4096x8x8x64.Slices ![k.val, 0, 0, 0] S1x8x8x64 := ⟨rfl, fun a => by
      match a with
      | ⟨0, _⟩ => show k.val + 1 ≤ 4096; omega
      | ⟨1, _⟩ => show 0 + 8 ≤ 8; omega
      | ⟨2, _⟩ => show 0 + 8 ≤ 8; omega
      | ⟨3, _⟩ => show 0 + 64 ≤ 64; omega⟩
  rw [Host.dynamicUpdateSlice_eq_updateSlice _ _ _ updateFits_S4096x8x8x64_S1x8x8x64 ![k.val, 0, 0, 0] hq hfit]
  unfold updateSlice
  by_cases ht : t = k
  · subst ht
    rw [if_pos rfl, dif_pos (fun a => by
      match a with
      | ⟨0, _⟩ => exact ⟨le_refl t.val, by show t.val < t.val + 1; omega⟩
      | ⟨1, _⟩ => exact ⟨Nat.zero_le _, by show b.val < 0 + 8; omega⟩
      | ⟨2, _⟩ => exact ⟨Nat.zero_le _, by show g.val < 0 + 8; omega⟩
      | ⟨3, _⟩ => exact ⟨Nat.zero_le _, by show p.val < 0 + 64; omega⟩)]
    exact broadcastInDim_apply _ bcast_S8x8x64_S1x8x8x64_1_2_3 u _ (ix3 b g p) (fun a => by
      match a with | ⟨0, _⟩ => rfl | ⟨1, _⟩ => rfl | ⟨2, _⟩ => rfl)
  · rw [if_neg ht, dif_neg (fun hin => by
      have h0 := hin 0
      have h1 : k.val ≤ t.val := h0.1
      have h2 : t.val < k.val + 1 := h0.2
      exact ht (Fin.ext (by omega)))]

/-- A state read with a token's row. -/
theorem out_at (S : Fin 8 → Fin 8 → Mat) (r : T4) {w : (⟨S_, .i32⟩ : BufTy).Contents (Elt Ideal)} (k : Fin 4096)
    (hw : w = fun _ => Scf.iv 0#32 1#32 k.val) (b g : Fin 8) (p : Fin 64) :
    Host.dotGeneral (F := Ideal) dot_S8x8x64x64_S8x8x64_S8x8x64_3_2_2_n_01_01 none (stA S) (tok (arrS r) w) (ix3 b g p)
      = ((∑ q, S b g p q * r b k g q : ℝ) : EReal) := by
  rw [dotS_at, coe_sum]
  exact Finset.sum_congr rfl fun q _ => by rw [stA_at, tok_at r k hw, ← EReal.coe_mul]

/-- One trip's read-outs: the token's own row is new, the others stay. -/
theorem trip_read (V : Val) (k : Fin 4096) (hw : V (Proc.devRef .tc main_v75_6) = fun _ => Scf.iv 0#32 1#32 k.val)
    {S : Fin 8 → Fin 8 → Mat} (hS : res_main_while0b_v135 V = stA S) {r : T4}
    (hr : V (Proc.devRef .tc main_v75_0) = arrS r) (t : Fin 4096) (b g : Fin 8) (p : Fin 64) :
    (step_main_v75_8 V : FVec Ideal S4096x8x8x64 .f32) (ix4 t b g p)
      = if t = k then ((∑ q, S b g p q * r b k g q : ℝ) : EReal) else (V (Proc.devRef .tc main_v75_8) : FVec Ideal S4096x8x8x64 .f32) (ix4 t b g p) := by
  rw [step_eq, hS, hr]
  refine (put_at _ _ k hw t b g p).trans ?_
  rw [out_at S r k hw]

/-- The recurrence's read-out at one channel of one head. -/
theorem readAt_chan (P : Par) (x : ℕ → Fin 1792 → ℝ) (t : ℕ) (g : Fin 8) (p : Fin 64) :
    readAt P x t (chan g p) = ∑ l, stateAt P x g (t + 1) p l * rOf (x t) (chan g l) := by
  unfold readAt
  rw [chan_div, chan_mod]

variable (m : (ℓ : Loc nD τ sig) → Buf (Elt Ideal) ℓ) (c : Dev nD)

/-- The carried buffers before each trip. -/
abbrev G (k : ℕ) : Val := STEP^[k] (C6 m c)

theorem G_succ (k : ℕ) : G m c (k + 1) = STEP (G m c k) := Function.iterate_succ_apply' _ _ _

theorem G_agree (k : ℕ) : Agree (atK m k c) (G m c k) := atK_agree m c k

theorem G_ctr (k : ℕ) : G m c k (Proc.devRef .tc main_v75_6) = fun _ => Scf.iv 0#32 1#32 k :=
  ((G_agree m c k) main_v75_6 (by decide)).symm.trans (atK_ctr m c k)

theorem G0 (k : ℕ) : G m c k (Proc.devRef .tc main_v75_0) = C6 m c (Proc.devRef .tc main_v75_0) := by
  induction k with | zero => rfl | succ k ih => rw [G_succ, STEP_main_v75_0, ih]
theorem G1 (k : ℕ) : G m c k (Proc.devRef .tc main_v75_1) = C6 m c (Proc.devRef .tc main_v75_1) := by
  induction k with | zero => rfl | succ k ih => rw [G_succ, STEP_main_v75_1, ih]
theorem G2 (k : ℕ) : G m c k (Proc.devRef .tc main_v75_2) = C6 m c (Proc.devRef .tc main_v75_2) := by
  induction k with | zero => rfl | succ k ih => rw [G_succ, STEP_main_v75_2, ih]
theorem G3 (k : ℕ) : G m c k (Proc.devRef .tc main_v75_3) = C6 m c (Proc.devRef .tc main_v75_3) := by
  induction k with | zero => rfl | succ k ih => rw [G_succ, STEP_main_v75_3, ih]
theorem G4 (k : ℕ) : G m c k (Proc.devRef .tc main_v75_4) = C6 m c (Proc.devRef .tc main_v75_4) := by
  induction k with | zero => rfl | succ k ih => rw [G_succ, STEP_main_v75_4, ih]
theorem G5 (k : ℕ) : G m c k (Proc.devRef .tc main_v75_5) = C6 m c (Proc.devRef .tc main_v75_5) := by
  induction k with | zero => rfl | succ k ih => rw [G_succ, STEP_main_v75_5, ih]

variable {m c} (r : RealArgs m c)
include r

/-- The state after a token. -/
theorem res_at (k : Fin 4096) (ih : G m c k.val (Proc.devRef .tc main_v75_7)
      = stA fun b g => stateAt (parR m c) (mixed (parR m c) (rowsR m c b)) g k.val) :
    res_main_while0b_v135 (G m c k.val) = stA fun b g => stateAt (parR m c) (mixed (parR m c) (rowsR m c b)) g (k.val + 1) := by
  funext i
  rw [eq_ix4 i]
  exact trip_state (G m c k.val) k (G_ctr m c k.val) ih ((G1 m c k.val).trans (in_d r)) ((G2 m c k.val).trans (in_k r))
    ((G3 m c k.val).trans (in_v r)) ((G4 m c k.val).trans (in_a r)) ((G5 m c k.val).trans (in_b r)) (i 0) (i 1) (i 2) (i 3)

theorem state_at : ∀ k : ℕ, k ≤ 4096 → G m c k (Proc.devRef .tc main_v75_7)
    = stA fun b g => stateAt (parR m c) (mixed (parR m c) (rowsR m c b)) g k
  | 0, _ => by
    refine (in_s (m := m) (c := c)).trans (funext fun i => ?_)
    exact (fill_at i bcast_S_S8x8x64x64 0x00000000#32).trans zero_num
  | k + 1, hk => by
    rw [G_succ, STEP_main_v75_7]
    exact res_at r ⟨k, by omega⟩ (state_at k (by omega))

/-- The read-outs of the tokens so far. -/
theorem read_at : ∀ k : ℕ, k ≤ 4096 → ∀ (t : Fin 4096) (b g : Fin 8) (p : Fin 64), t.val < k →
    (G m c k (Proc.devRef .tc main_v75_8) : FVec Ideal S4096x8x8x64 .f32) (ix4 t b g p)
      = ((∑ q, stateAt (parR m c) (mixed (parR m c) (rowsR m c b)) g (t.val + 1) p q * rOf (xR m c b t) (chan g q) : ℝ) : EReal)
  | 0, _, _, _, _, _, h => absurd h (Nat.not_lt_zero _)
  | k + 1, hk, t, b, g, p, h => by
    have hk' : k < 4096 := hk
    rw [G_succ, STEP_main_v75_8]
    refine (trip_read (G m c k) ⟨k, hk'⟩ (G_ctr m c k) (res_at r ⟨k, hk'⟩ (state_at r k (by omega))) ((G0 m c k).trans (in_r r)) t b g p).trans ?_
    by_cases ht : t = ⟨k, hk'⟩
    · rw [if_pos ht]
      subst ht
      rfl
    · rw [if_neg ht]
      exact read_at k (by omega) t b g p (by
        have : t.val ≠ k := fun e => ht (Fin.ext e)
        omega)

/-- All read-outs, after the loop. -/
theorem loop_out : atK m 4096 c (Proc.devRef .tc main_v75_8)
    = arrS fun b t g p => readAt (parR m c) (mixed (parR m c) (rowsR m c b)) t.val (chan g p) := by
  refine ((G_agree m c 4096) main_v75_8 (by decide)).trans (funext fun i => ?_)
  rw [eq_ix4 i]
  refine (read_at r 4096 (le_refl _) (i 0) (i 1) (i 2) (i 3) (i 0).isLt).trans ?_
  exact congrArg (fun z : ℝ => (z : EReal)) (readAt_chan _ _ _ _ _).symm

end Cert.Rwkv.Ref

end
-- ==== Proof.RwkvRefPost.lean ====
/- The reference after its loop: the normalised read-outs, the bonus, the gate. -/
module

public import proofs.«01_k».proof.Proof.RwkvRefLoop
public import proofs.«01_k».proof.Proof.RwkvRefFrame

@[expose] public section

set_option maxRecDepth 16384

noncomputable section

namespace Cert.Rwkv.Ref

open Cert.ReferenceIdeal Cert.ReferenceIdeal.Gen Cert.ReferenceIdeal.Value
open Idealize.ShloMosaic Idealize.ShloMosaic.ValueIdx Idealize.ShloMosaic.TcCoe Idealize.SL.Sem Idealize.ShloMosaic.StableHlo

/-- Each head's row summed. -/
def totA (x : FVec Ideal S8x4096x8x64 .f32) : FVec Ideal S8x4096x8x1 .f32 :=
  broadcastInDim S8x4096x8x1 ![0, 1, 2] bcast_S8x4096x8_S8x4096x8x1_0_1_2
    (Host.reduceAdd x (constant S_ .f32 0x00000000#32) reducesTo_S8x4096x8x64_S8x4096x8_d3 h_S_)
/-- One number per head along its row. -/
def alongA (x : FVec Ideal S8x4096x8x1 .f32) : FVec Ideal S8x4096x8x64 .f32 :=
  broadcastInDim S8x4096x8x64 ![0, 1, 2, 3] bcast_S8x4096x8x1_S8x4096x8x64_0_1_2_3 x
/-- Each head's mean. -/
def meanA (x : FVec Ideal S8x4096x8x64 .f32) : FVec Ideal S8x4096x8x1 .f32 :=
  Host.divf (totA x) (fill S8x4096x8x1 bcast_S_S8x4096x8x1 0x42800000#32)
/-- The row less its mean. -/
def lessA (x : FVec Ideal S8x4096x8x64 .f32) : FVec Ideal S8x4096x8x64 .f32 := subf x (alongA (meanA x))
/-- The row normalised. -/
def standA (x : FVec Ideal S8x4096x8x64 .f32) : FVec Ideal S8x4096x8x64 .f32 :=
  mulf (lessA x) (alongA (Host.rsqrt (addf (meanA (mulf (lessA x) (lessA x))) (fill S8x4096x8x1 bcast_S_S8x4096x8x1 0x3A27C5AC#32))))
/-- The bonus of the token itself. -/
def bonusA (x k v : FVec Ideal S8x4096x8x64 .f32) (w : FVec Ideal S8x64 .f32) : FVec Ideal S8x4096x8x64 .f32 :=
  mulf (alongA (totA (mulf (mulf x k) (broadcastInDim S8x4096x8x64 ![0, 1, 2, 3] bcast_S1x1x8x64_S8x4096x8x64_0_1_2_3
    (broadcastInDim S1x1x8x64 ![2, 3] bcast_S8x64_S1x1x8x64_2_3 w))))) v
/-- The heads side by side. -/
def flatA (x : FVec Ideal S8x4096x8x64 .f32) : FVec Ideal S8x4096x512 .f32 := shapeCast S8x4096x512 x shapeCasts_S8x4096x8x64_S8x4096x512
/-- The output. -/
def outA (y x k v : FVec Ideal S8x4096x8x64 .f32) (q : FVec Ideal S8x4096x512 .f32) (w : FVec Ideal S8x64 .f32) (lg lb : FVec Ideal S512 .f32) :
    FVec Ideal S8x4096x512 .f32 :=
  mulf (addf (addf (mulf (flatA (standA y)) (row512 lg)) (row512 lb)) (flatA (bonusA x k v w))) q

theorem line_out (V : Val) : after hostOps0_7 V (Proc.devRef .tc main_v113)
    = (truncf .bf16 (outA (transpose S8x4096x8x64 [1, 0, 2, 3] (V (Proc.devRef .tc main_v75_8)) transposes_S4096x8x8x64_S8x4096x8x64_1_0_2_3)
        (V (Proc.devRef .tc main_v57)) (V (Proc.devRef .tc main_v58)) (V (Proc.devRef .tc main_v59)) (V (Proc.devRef .tc main_v39))
        (V (Proc.devRef .tc main_arg9)) (V (Proc.devRef .tc main_arg10)) (V (Proc.devRef .tc main_arg11))) bitsLt_bf16_f32
      : FVec Ideal S8x4096x512 .bf16) := by
  after_reads_simp
  rfl

theorem num64 : Ideal.ofBits .f32 0x42800000#32 = ((64 : ℝ) : EReal) := by
  simp [Ideal.ofBits, Ideal.ieee]
  rw [← EReal.coe_mul, EReal.coe_eq_coe_iff]
  norm_num

variable (Y : Fin 8 → Fin 4096 → Fin 512 → ℝ)

theorem tot_at (f : T4) (b : Fin 8) (t : Fin 4096) (g : Fin 8) : totA (arr4 f) (ix4 b t g 0) = ((∑ l, f b t g l : ℝ) : EReal) := by
  unfold totA
  rw [keep_at, reduce_at]
theorem along_at (v : FVec Ideal S8x4096x8x1 .f32) (b : Fin 8) (t : Fin 4096) (g : Fin 8) (l : Fin 64) : alongA v (ix4 b t g l) = v (ix4 b t g 0) := by
  unfold alongA
  rw [spread_at]
theorem mean_at (f : T4) (b : Fin 8) (t : Fin 4096) (g : Fin 8) : meanA (arr4 f) (ix4 b t g 0) = (((∑ l, f b t g l) * (1 / 64) : ℝ) : EReal) := by
  unfold meanA
  rw [hdiv_at, tot_at, fill_at, num64, div_real _ _ (by norm_num), mul_one_div]

/-- A row less its mean. -/
def less (y : Fin 512 → ℝ) (i : Fin 512) : ℝ := y i - headSum y i * (1 / 64)

theorem less_val : lessA (arr4 fun b t g l => Y b t (chan g l)) = arr4 fun b t g l => less (Y b t) (chan g l) := by
  refine ext4 fun b t g l => ?_
  unfold lessA
  rw [sub_at, along_at, mean_at, arr4_at, ← EReal.coe_sub, less, headSum_head]

/-- A row normalised. -/
def stand (y : Fin 512 → ℝ) (j : Fin 512) : ℝ :=
  less y j * (Real.sqrt (headSum (fun i => less y i * less y i) j * (1 / 64) + epsVar))⁻¹

theorem stand_val : standA (arr4 fun b t g l => Y b t (chan g l)) = arr4 fun b t g l => stand (Y b t) (chan g l) := by
  refine ext4 fun b t g l => ?_
  unfold standA
  rw [less_val, show mulf (arr4 fun b t g l => less (Y b t) (chan g l)) (arr4 fun b t g l => less (Y b t) (chan g l))
    = arr4 (fun b t g l => less (Y b t) (chan g l) * less (Y b t) (chan g l)) from
    ext4 fun b t g l => by rw [mul_at, arr4_at, ← EReal.coe_mul]]
  rw [mul_at, along_at, hrsqrt_at, add_at, mean_at, fill_at, show Ideal.ofBits .f32 0x3A27C5AC#32 = ((epsVar : ℝ) : EReal) from epsVar_pos_coe.1,
    ← EReal.coe_add, rsqrt_real _ (add_pos_of_nonneg_of_pos (mul_nonneg (Finset.sum_nonneg fun l _ => mul_self_nonneg _) (by norm_num)) epsVar_pos_coe.2),
    arr4_at, ← EReal.coe_mul, stand, headSum_head]

theorem bonus_val (X K W : Fin 8 → Fin 4096 → Fin 512 → ℝ) {w : FVec Ideal S8x64 .f32} (hw : Fin? w) :
    bonusA (arr4 fun b t g l => X b t (chan g l)) (arr4 fun b t g l => K b t (chan g l)) (arr4 fun b t g l => W b t (chan g l)) w
      = arr4 fun b t g l => (∑ i, X b t (chan g i) * K b t (chan g i) * (w (ix2 g i) : EReal).toReal) * W b t (chan g l) := by
  refine ext4 fun b t g l => ?_
  unfold bonusA
  rw [mul_at, along_at]
  rw [show mulf (mulf (arr4 fun b t g l => X b t (chan g l)) (arr4 fun b t g l => K b t (chan g l))) (broadcastInDim S8x4096x8x64 ![0, 1, 2, 3] bcast_S1x1x8x64_S8x4096x8x64_0_1_2_3
      (broadcastInDim S1x1x8x64 ![2, 3] bcast_S8x64_S1x1x8x64_2_3 w))
      = arr4 fun b t g l => X b t (chan g l) * K b t (chan g l) * (w (ix2 g l) : EReal).toReal from
    ext4 fun b t g l => by rw [mul_at, mul_at, rows_at, arr4_at, arr4_at, hw (ix2 g l), EReal.toReal_coe, ← EReal.coe_mul, ← EReal.coe_mul]]
  rw [tot_at, arr4_at, ← EReal.coe_mul]

theorem flat_val : flatA (arr4 fun b t g l => Y b t (chan g l)) = arr3 Y := by
  refine ext3 fun b t j => ?_
  unfold flatA
  rw [flat_at, arr4_at, chan_eta]

variable {m : (ℓ : Loc nD τ sig) → Buf (Elt Ideal) ℓ} {c : Dev nD} (r : RealArgs m c)

/-- The final contents before the last operations. -/
abbrev C7 (m : (ℓ : Loc nD τ sig) → Buf (Elt Ideal) ℓ) (c : Dev nD) : Val := after condOps (atK m 4096 c)

theorem keep7 (q : Ref sig .tc)
    (h : q ∉ condOps_W ++ while0Ops0_W ++ while0Ops0_1_W ++ while0Ops0_2_W ++ while0Ops0_3_W ++ while0Ops0_4_W ++ while0Ops0_5_W
      ++ while0Ops0_6_W ++ while0Ops0_7_W ++ while0Ops0_8_W) (hc : q ∉ condOps_W) :
    C7 m c (Proc.devRef .tc q) = C6 m c (Proc.devRef .tc q) :=
  (after_of_writes_sub condOps _ condOps_writes hc).trans (Cert.Rwkv.RefFrame.loop_keep m c q h 4096)

theorem arg7 (q : Ref sig .tc)
    (h0 : q ∉ hostOps0_W ++ hostOps0_1_W ++ hostOps0_2_W ++ hostOps0_3_W ++ hostOps0_4_W ++ hostOps0_5_W ++ hostOps0_6_W)
    (h : q ∉ condOps_W ++ while0Ops0_W ++ while0Ops0_1_W ++ while0Ops0_2_W ++ while0Ops0_3_W ++ while0Ops0_4_W ++ while0Ops0_5_W
      ++ while0Ops0_6_W ++ while0Ops0_7_W ++ while0Ops0_8_W) (hc : q ∉ condOps_W) :
    C7 m c (Proc.devRef .tc q) = m ((c.tc : Thread nD τ).loc q) :=
  (keep7 q h hc).trans (Cert.Rwkv.RefFrame.entry_keep m c q h0)

/-- The output's formula, by channels. -/
theorem out_eq (P : Par) (x : Fin 1792 → ℝ) (y : Fin 512 → ℝ) (j : Fin 512) :
    P.out x y j = (stand y j * P.lg j + P.lb j + headSum (fun i => rOf x i * P.key x i * P.rk i) j * vOf x j) * P.gate x j := rfl

include r

theorem all_out : outA (arr4 fun b t g l => readAt (parR m c) (mixed (parR m c) (rowsR m c b)) t.val (chan g l))
      (arr4 fun b t g l => rOf (xR m c b t) (chan g l)) (arr4 fun b t g l => (parR m c).key (xR m c b t) (chan g l))
      (arr4 fun b t g l => vOf (xR m c b t) (chan g l)) (arr3 fun b t j => (parR m c).gate (xR m c b t) j)
      (m ((c : Thread nD τ).loc main_arg9)) (m ((c : Thread nD τ).loc main_arg10)) (m ((c : Thread nD τ).loc main_arg11))
    = arr3 fun b t j => mixOut (parR m c) (rowsR m c b) t.val j := by
  refine ext3 fun b t j => ?_
  unfold outA
  rw [stand_val, flat_val, bonus_val _ _ _ r.h9]
  rw [show flatA (arr4 fun b t g l => (∑ i, rOf (xR m c b t) (chan g i) * (parR m c).key (xR m c b t) (chan g i)
      * (m ((c : Thread nD τ).loc main_arg9) (ix2 g i) : EReal).toReal) * vOf (xR m c b t) (chan g l))
      = arr3 fun b t j => headSum (fun i => rOf (xR m c b t) i * (parR m c).key (xR m c b t) i * (parR m c).rk i) j * vOf (xR m c b t) j from ?_]
  · rw [mul_at, add_at, add_at, mul_at, row512_at, row512_at, arr3_at, arr3_at, arr3_at, r.h10 (ix1 j), r.h11 (ix1 j), ← EReal.coe_mul,
      ← EReal.coe_add, ← EReal.coe_add, ← EReal.coe_mul]
    rfl
  · refine ext3 fun b t j => ?_
    unfold flatA
    rw [flat_at, arr4_at, chan_eta, headSum_chan]
    refine congrArg (fun z : ℝ => ((z * vOf (xR m c b t) j : ℝ) : EReal)) (Finset.sum_congr rfl fun i _ => congrArg (fun z : ℝ => rOf (xR m c b t) (chan ⟨j.val / 64, by omega⟩ i) * (parR m c).key (xR m c b t) (chan ⟨j.val / 64, by omega⟩ i) * z) ?_)
    show _ = (m ((c : Thread nD τ).loc main_arg9) (ix2 ⟨(chan ⟨j.val / 64, by omega⟩ i).val / 64, by omega⟩ ⟨(chan ⟨j.val / 64, by omega⟩ i).val % 64, by omega⟩) : EReal).toReal
    rw [chan_div, chan_mod]

/-- The reference's first result. -/
theorem ref_out : finalContents condOps preI bodyI postI 4096 m c (Proc.devRef .tc main_v113) = wholeOut .bf16 (parR m c) (rowsR m c) := by
  rw [show finalContents condOps preI bodyI postI 4096 m c = after hostOps0_7 (C7 m c) from rfl, line_out]
  rw [show C7 m c (Proc.devRef .tc main_v75_8) = _ from (after_of_writes_sub condOps _ condOps_writes (by decide)).trans (loop_out r), swap_out,
    keep7 main_v57 (by decide) (by decide), keep7 main_v58 (by decide) (by decide), keep7 main_v59 (by decide) (by decide),
    keep7 main_v39 (by decide) (by decide), arg7 main_arg9 (by decide) (by decide) (by decide), arg7 main_arg10 (by decide) (by decide) (by decide),
    arg7 main_arg11 (by decide) (by decide) (by decide), out_r r, out_k r, out_v r, out_gate r]
  exact (congrArg (truncf .bf16 · bitsLt_bf16_f32) (all_out r)).trans rfl

/-- The reference's second result. -/
theorem ref_val : finalContents condOps preI bodyI postI 4096 m c (Proc.devRef .tc main_v9) = wholeVal (parR m c) (rowsR m c) := by
  rw [show finalContents condOps preI bodyI postI 4096 m c = after hostOps0_7 (C7 m c) from rfl,
    after_of_writes_sub hostOps0_7 _ Cert.Rwkv.RefFrame.post_writes (by decide), keep7 main_v9 (by decide) (by decide), out_val r]
  rfl

end Cert.Rwkv.Ref

end
-- ==== Proof.RwkvAlgebraic.lean ====
/- The chunked kernel and the recurrence's reference compute the same results. -/
module

public import proofs.«01_k».proof.Proof.RwkvFinite
public import proofs.«01_k».proof.Proof.RwkvRefPost

@[expose] public section

set_option maxRecDepth 16384

noncomputable section

namespace Cert.Rwkv

open Idealize.ShloMosaic Idealize.SL.Sem Idealize.ShloMosaic.TcCoe

/-- With real arguments, kernel and reference end with the same output and the same values. -/
theorem algebraic : Cert.algebraic_KernelIdeal_ReferenceIdeal_pre_finite := by
  intro m ρ m' ρ' hpre hagree
  refine ⟨fun c => wholeOut .bf16 (parM m c) (rowsM m c), fun c => wholeVal (parM m c) (rowsM m c), ?_, ?_⟩
  · exact (θ_run Cert.KernelIdeal.defs _ _).mono (fun _ h c => ⟨(h c).1.trans (final_out m c (realArgs m hpre c)),
      (h c).2.1.trans (final_val m c (realArgs m hpre c)), (h c).2.2⟩) (Cert.KernelIdeal.Value.run_blocks (F := Ideal) m ρ)
  · have key : ∀ c : Dev Cert.ReferenceIdeal.nD, Ref.RealArgs m' c ∧ Ref.parR m' c = parM m c ∧ Ref.rowsR m' c = rowsM m c := fun c => by
      have r := realArgs m hpre c
      obtain ⟨h0, h1, h2, h3, h4, h5, h6, h7, h8, h9, h10, h11⟩ := hagree c
      refine ⟨⟨h0 ▸ r.h0, h1 ▸ r.h1, h2 ▸ r.h2, h3 ▸ r.h3, h4 ▸ r.h4, h5 ▸ r.h5, h6 ▸ r.h6, h7 ▸ r.h7, h8 ▸ r.h8, h9 ▸ r.h9, h10 ▸ r.h10,
        h11 ▸ r.h11⟩, ?_, ?_⟩
      · unfold Ref.parR parM
        rw [h1, h2, h3, h4, h5, h6, h7, h8, h9, h10, h11]
      · unfold Ref.rowsR rowsM
        rw [h0]
    refine (θ_run Cert.ReferenceIdeal.defs _ _).mono (fun r h c => ?_) (Cert.ReferenceIdeal.Value.run_fold (F := Ideal) m' ρ')
    obtain ⟨hr, hp, hq⟩ := key c
    refine ⟨(h c Cert.ReferenceIdeal.main_v113 rfl).trans ((Ref.ref_out hr).trans ?_), (h c Cert.ReferenceIdeal.main_v9 rfl).trans ((Ref.ref_val hr).trans ?_), ?_⟩
    · rw [hp, hq]
    · rw [hp, hq]
    · have kept := fun (b : Ref Cert.ReferenceIdeal.sig .tc) hb h0 h1 h2 => (h c b hb).trans (RefFrame.final_keep m' c b h0 h1 h2)
      exact ⟨kept Cert.ReferenceIdeal.main_arg0 rfl (by decide) (by decide) (by decide),
        kept Cert.ReferenceIdeal.main_arg1 rfl (by decide) (by decide) (by decide),
        kept Cert.ReferenceIdeal.main_arg2 rfl (by decide) (by decide) (by decide),
        kept Cert.ReferenceIdeal.main_arg3 rfl (by decide) (by decide) (by decide),
        kept Cert.ReferenceIdeal.main_arg4 rfl (by decide) (by decide) (by decide),
        kept Cert.ReferenceIdeal.main_arg5 rfl (by decide) (by decide) (by decide),
        kept Cert.ReferenceIdeal.main_arg6 rfl (by decide) (by decide) (by decide),
        kept Cert.ReferenceIdeal.main_arg7 rfl (by decide) (by decide) (by decide),
        kept Cert.ReferenceIdeal.main_arg8 rfl (by decide) (by decide) (by decide),
        kept Cert.ReferenceIdeal.main_arg9 rfl (by decide) (by decide) (by decide),
        kept Cert.ReferenceIdeal.main_arg10 rfl (by decide) (by decide) (by decide),
        kept Cert.ReferenceIdeal.main_arg11 rfl (by decide) (by decide) (by decide)⟩

end Cert.Rwkv

end
-- ==== Proof.lean ====
module

public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MergeArray
public import proofs.«01_k».proof.Proof.SguArray
public import proofs.«01_k».proof.Proof.ProjArray
public import proofs.«01_k».proof.Proof.FfnArray
public import proofs.«01_k».proof.Proof.RwkvRefFrame
public import proofs.«01_k».proof.Proof.RwkvAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts, Cert.Rwkv.finiteFacts,
  fun m ρ _ => Cert.Kernel.Gen.frame m ρ,
  fun m ρ _ => Cert.KernelIdeal.Gen.frame m ρ,
  fun m ρ _ => Cert.KernelIdeal.Gen.frame m ρ,
  Cert.Rwkv.RefFrame.frame,
  fun m ρ _ => Cert.Rwkv.RefFrame.frame m ρ trivial,
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2.2.2, Idealize.ShloMosaic.sem_eq_zero_of_no_sems (by decide) r.2⟩)
    (Cert.Reference5Ideal.Value.run (F := Ideal) m ρ),
  trivial, Cert.Rwkv.algebraic, trivial, Cert.Ffn.Array.algebraic, trivial, Cert.Merge.Array.algebraic,
  trivial, Cert.Sgu.Array.algebraic, trivial, Cert.Proj.Array.algebraic⟩

end Cert.Proof

end
